-- ==== Defs.lean ====
def Pre_DownY (m : (ℓ : Loc Cert.DownY.nD Cert.DownY.τ Cert.DownY.sig) → Buf (Elt Bits) ℓ) : Prop :=
  True

def Pre_DownYIdeal (m : (ℓ : Loc Cert.DownYIdeal.nD Cert.DownYIdeal.τ Cert.DownYIdeal.sig) → Buf (Elt Ideal) ℓ) : Prop :=
  True

def Pre_RefYIdeal (m : (ℓ : Loc Cert.RefYIdeal.nD Cert.RefYIdeal.τ Cert.RefYIdeal.sig) → Buf (Elt Ideal) ℓ) : Prop :=
  True

def Pre_DownT (m : (ℓ : Loc Cert.DownT.nD Cert.DownT.τ Cert.DownT.sig) → Buf (Elt Bits) ℓ) : Prop :=
  True

def Pre_DownTIdeal (m : (ℓ : Loc Cert.DownTIdeal.nD Cert.DownTIdeal.τ Cert.DownTIdeal.sig) → Buf (Elt Ideal) ℓ) : Prop :=
  True

def Pre_RefTIdeal (m : (ℓ : Loc Cert.RefTIdeal.nD Cert.RefTIdeal.τ Cert.RefTIdeal.sig) → Buf (Elt Ideal) ℓ) : Prop :=
  True

def Pre_DownV (m : (ℓ : Loc Cert.DownV.nD Cert.DownV.τ Cert.DownV.sig) → Buf (Elt Bits) ℓ) : Prop :=
  True

def Pre_DownVIdeal (m : (ℓ : Loc Cert.DownVIdeal.nD Cert.DownVIdeal.τ Cert.DownVIdeal.sig) → Buf (Elt Ideal) ℓ) : Prop :=
  True

def Pre_RefVIdeal (m : (ℓ : Loc Cert.RefVIdeal.nD Cert.RefVIdeal.τ Cert.RefVIdeal.sig) → Buf (Elt Ideal) ℓ) : Prop :=
  True

def Pre_Tangent (m : (ℓ : Loc Cert.Tangent.nD Cert.Tangent.τ Cert.Tangent.sig) → Buf (Elt Bits) ℓ) : Prop :=
  True

def Pre_TangentIdeal (m : (ℓ : Loc Cert.TangentIdeal.nD Cert.TangentIdeal.τ Cert.TangentIdeal.sig) → Buf (Elt Ideal) ℓ) : Prop :=
  True

def Pre_RefGIdeal (m : (ℓ : Loc Cert.RefGIdeal.nD Cert.RefGIdeal.τ Cert.RefGIdeal.sig) → Buf (Elt Ideal) ℓ) : Prop :=
  True

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_RefXIdeal (m : (ℓ : Loc Cert.RefXIdeal.nD Cert.RefXIdeal.τ Cert.RefXIdeal.sig) → Buf (Elt Ideal) ℓ) : Prop :=
  True

def Pre_Primal (m : (ℓ : Loc Cert.Primal.nD Cert.Primal.τ Cert.Primal.sig) → Buf (Elt Bits) ℓ) : Prop :=
  True

def Pre_PrimalIdeal (m : (ℓ : Loc Cert.PrimalIdeal.nD Cert.PrimalIdeal.τ Cert.PrimalIdeal.sig) → Buf (Elt Ideal) ℓ) : Prop :=
  True

def Pre_RefPIdeal (m : (ℓ : Loc Cert.RefPIdeal.nD Cert.RefPIdeal.τ Cert.RefPIdeal.sig) → Buf (Elt Ideal) ℓ) : Prop :=
  True

def Pre_Trace (m : (ℓ : Loc Cert.Trace.nD Cert.Trace.τ Cert.Trace.sig) → Buf (Elt Bits) ℓ) : Prop :=
  True

def Pre_TraceIdeal (m : (ℓ : Loc Cert.TraceIdeal.nD Cert.TraceIdeal.τ Cert.TraceIdeal.sig) → Buf (Elt Ideal) ℓ) : Prop :=
  True

def Pre_RefTraceIdeal (m : (ℓ : Loc Cert.RefTraceIdeal.nD Cert.RefTraceIdeal.τ Cert.RefTraceIdeal.sig) → Buf (Elt Ideal) ℓ) : Prop :=
  True

def quiescent_DownY [hDownY : Cert.DownY.Facts] : Prop :=
  ∀ (m : (ℓ : Loc Cert.DownY.nD Cert.DownY.τ Cert.DownY.sig) → Buf (Elt Bits) ℓ) (g : Dev Cert.DownY.nD → PrngReg), Pre_DownY m →
    θ_run (Cert.DownY.defs (F := Bits)) (onTc (τ := Cert.DownY.τ) (Cert.DownY.main (F := Bits))) ⟨m, fun _ => 0, g⟩ (fun r => (∀ c : Dev Cert.DownY.nD,
      r.2.mem ((c.tc : Thread Cert.DownY.nD Cert.DownY.τ).loc Cert.DownY.main_arg0) = m ((c.tc : Thread Cert.DownY.nD Cert.DownY.τ).loc Cert.DownY.main_arg0)
      ∧ r.2.mem ((c.tc : Thread Cert.DownY.nD Cert.DownY.τ).loc Cert.DownY.main_arg1) = m ((c.tc : Thread Cert.DownY.nD Cert.DownY.τ).loc Cert.DownY.main_arg1)
      ∧ r.2.mem ((c.tc : Thread Cert.DownY.nD Cert.DownY.τ).loc Cert.DownY.main_arg2) = m ((c.tc : Thread Cert.DownY.nD Cert.DownY.τ).loc Cert.DownY.main_arg2)
      ∧ r.2.mem ((c.tc : Thread Cert.DownY.nD Cert.DownY.τ).loc Cert.DownY.main_arg3) = m ((c.tc : Thread Cert.DownY.nD Cert.DownY.τ).loc Cert.DownY.main_arg3))
      ∧ r.2.sem = fun _ => 0)

def quiescent_DownYIdeal [hDownYIdeal : Cert.DownYIdeal.Facts] : Prop :=
  ∀ (m : (ℓ : Loc Cert.DownYIdeal.nD Cert.DownYIdeal.τ Cert.DownYIdeal.sig) → Buf (Elt Ideal) ℓ) (g : Dev Cert.DownYIdeal.nD → PrngReg), Pre_DownYIdeal m →
    θ_run (Cert.DownYIdeal.defs (F := Ideal)) (onTc (τ := Cert.DownYIdeal.τ) (Cert.DownYIdeal.main (F := Ideal))) ⟨m, fun _ => 0, g⟩ (fun r => (∀ c : Dev Cert.DownYIdeal.nD,
      r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
      ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1)
      ∧ r.2.mem ((c.tc : Thread Cert.DownYIdeal.nD Cert.DownYIdeal.τ).loc Cert.DownYIdeal.main_arg2) = m ((c.tc : Thread Cert.DownYIdeal.nD Cert.DownYIdeal.τ).loc Cert.DownYIdeal.main_arg2)
      ∧ r.2.mem ((c.tc : Thread Cert.DownYIdeal.nD Cert.DownYIdeal.τ).loc Cert.DownYIdeal.main_arg3) = m ((c.tc : Thread Cert.DownYIdeal.nD Cert.DownYIdeal.τ).loc Cert.DownYIdeal.main_arg3))
      ∧ r.2.sem = fun _ => 0)

def quiescent_RefYIdeal [hRefYIdeal : Cert.RefYIdeal.Facts] : Prop :=
  ∀ (m : (ℓ : Loc Cert.RefYIdeal.nD Cert.RefYIdeal.τ Cert.RefYIdeal.sig) → Buf (Elt Ideal) ℓ) (g : Dev Cert.RefYIdeal.nD → PrngReg), Pre_RefYIdeal m →
    θ_run (Cert.RefYIdeal.defs (F := Ideal)) (onTc (τ := Cert.RefYIdeal.τ) (Cert.RefYIdeal.main (F := Ideal))) ⟨m, fun _ => 0, g⟩ (fun r => (∀ c : Dev Cert.RefYIdeal.nD,
      r.2.mem ((c.tc : Thread Cert.RefYIdeal.nD Cert.RefYIdeal.τ).loc Cert.RefYIdeal.main_arg0) = m ((c.tc : Thread Cert.RefYIdeal.nD Cert.RefYIdeal.τ).loc Cert.RefYIdeal.main_arg0)
      ∧ r.2.mem ((c.tc : Thread Cert.RefYIdeal.nD Cert.RefYIdeal.τ).loc Cert.RefYIdeal.main_arg1) = m ((c.tc : Thread Cert.RefYIdeal.nD Cert.RefYIdeal.τ).loc Cert.RefYIdeal.main_arg1)
      ∧ r.2.mem ((c.tc : Thread Cert.RefYIdeal.nD Cert.RefYIdeal.τ).loc Cert.RefYIdeal.main_arg2) = m ((c.tc : Thread Cert.RefYIdeal.nD Cert.RefYIdeal.τ).loc Cert.RefYIdeal.main_arg2)
      ∧ r.2.mem ((c.tc : Thread Cert.RefYIdeal.nD Cert.RefYIdeal.τ).loc Cert.RefYIdeal.main_arg3) = m ((c.tc : Thread Cert.RefYIdeal.nD Cert.RefYIdeal.τ).loc Cert.RefYIdeal.main_arg3))
      ∧ r.2.sem = fun _ => 0)

def quiescent_DownT [hDownT : Cert.DownT.Facts] : Prop :=
  ∀ (m : (ℓ : Loc Cert.DownT.nD Cert.DownT.τ Cert.DownT.sig) → Buf (Elt Bits) ℓ) (g : Dev Cert.DownT.nD → PrngReg), Pre_DownT m →
    θ_run (Cert.DownT.defs (F := Bits)) (onTc (τ := Cert.DownT.τ) (Cert.DownT.main (F := Bits))) ⟨m, fun _ => 0, g⟩ (fun r => (∀ c : Dev Cert.DownT.nD,
      r.2.mem ((c.tc : Thread Cert.DownT.nD Cert.DownT.τ).loc Cert.DownT.main_arg0) = m ((c.tc : Thread Cert.DownT.nD Cert.DownT.τ).loc Cert.DownT.main_arg0)
      ∧ r.2.mem ((c.tc : Thread Cert.DownT.nD Cert.DownT.τ).loc Cert.DownT.main_arg1) = m ((c.tc : Thread Cert.DownT.nD Cert.DownT.τ).loc Cert.DownT.main_arg1)
      ∧ r.2.mem ((c.tc : Thread Cert.DownT.nD Cert.DownT.τ).loc Cert.DownT.main_arg2) = m ((c.tc : Thread Cert.DownT.nD Cert.DownT.τ).loc Cert.DownT.main_arg2)
      ∧ r.2.mem ((c.tc : Thread Cert.DownT.nD Cert.DownT.τ).loc Cert.DownT.main_arg3) = m ((c.tc : Thread Cert.DownT.nD Cert.DownT.τ).loc Cert.DownT.main_arg3))
      ∧ r.2.sem = fun _ => 0)

def quiescent_DownTIdeal [hDownTIdeal : Cert.DownTIdeal.Facts] : Prop :=
  ∀ (m : (ℓ : Loc Cert.DownTIdeal.nD Cert.DownTIdeal.τ Cert.DownTIdeal.sig) → Buf (Elt Ideal) ℓ) (g : Dev Cert.DownTIdeal.nD → PrngReg), Pre_DownTIdeal m →
    θ_run (Cert.DownTIdeal.defs (F := Ideal)) (onTc (τ := Cert.DownTIdeal.τ) (Cert.DownTIdeal.main (F := Ideal))) ⟨m, fun _ => 0, g⟩ (fun r => (∀ c : Dev Cert.DownTIdeal.nD,
      r.2.mem ((c.tc : Thread Cert.DownTIdeal.nD Cert.DownTIdeal.τ).loc Cert.DownTIdeal.main_arg0) = m ((c.tc : Thread Cert.DownTIdeal.nD Cert.DownTIdeal.τ).loc Cert.DownTIdeal.main_arg0)
      ∧ r.2.mem ((c.tc : Thread Cert.DownTIdeal.nD Cert.DownTIdeal.τ).loc Cert.DownTIdeal.main_arg1) = m ((c.tc : Thread Cert.DownTIdeal.nD Cert.DownTIdeal.τ).loc Cert.DownTIdeal.main_arg1)
      ∧ r.2.mem ((c.tc : Thread Cert.DownTIdeal.nD Cert.DownTIdeal.τ).loc Cert.DownTIdeal.main_arg2) = m ((c.tc : Thread Cert.DownTIdeal.nD Cert.DownTIdeal.τ).loc Cert.DownTIdeal.main_arg2)
      ∧ r.2.mem ((c.tc : Thread Cert.DownTIdeal.nD Cert.DownTIdeal.τ).loc Cert.DownTIdeal.main_arg3) = m ((c.tc : Thread Cert.DownTIdeal.nD Cert.DownTIdeal.τ).loc Cert.DownTIdeal.main_arg3))
      ∧ r.2.sem = fun _ => 0)

def quiescent_RefTIdeal [hRefTIdeal : Cert.RefTIdeal.Facts] : Prop :=
  ∀ (m : (ℓ : Loc Cert.RefTIdeal.nD Cert.RefTIdeal.τ Cert.RefTIdeal.sig) → Buf (Elt Ideal) ℓ) (g : Dev Cert.RefTIdeal.nD → PrngReg), Pre_RefTIdeal m →
    θ_run (Cert.RefTIdeal.defs (F := Ideal)) (onTc (τ := Cert.RefTIdeal.τ) (Cert.RefTIdeal.main (F := Ideal))) ⟨m, fun _ => 0, g⟩ (fun r => (∀ c : Dev Cert.RefTIdeal.nD,
      r.2.mem ((c.tc : Thread Cert.RefTIdeal.nD Cert.RefTIdeal.τ).loc Cert.RefTIdeal.main_arg0) = m ((c.tc : Thread Cert.RefTIdeal.nD Cert.RefTIdeal.τ).loc Cert.RefTIdeal.main_arg0)
      ∧ r.2.mem ((c.tc : Thread Cert.RefTIdeal.nD Cert.RefTIdeal.τ).loc Cert.RefTIdeal.main_arg1) = m ((c.tc : Thread Cert.RefTIdeal.nD Cert.RefTIdeal.τ).loc Cert.RefTIdeal.main_arg1)
      ∧ r.2.mem ((c.tc : Thread Cert.RefTIdeal.nD Cert.RefTIdeal.τ).loc Cert.RefTIdeal.main_arg2) = m ((c.tc : Thread Cert.RefTIdeal.nD Cert.RefTIdeal.τ).loc Cert.RefTIdeal.main_arg2)
      ∧ r.2.mem ((c.tc : Thread Cert.RefTIdeal.nD Cert.RefTIdeal.τ).loc Cert.RefTIdeal.main_arg3) = m ((c.tc : Thread Cert.RefTIdeal.nD Cert.RefTIdeal.τ).loc Cert.RefTIdeal.main_arg3))
      ∧ r.2.sem = fun _ => 0)

def quiescent_DownV [hDownV : Cert.DownV.Facts] : Prop :=
  ∀ (m : (ℓ : Loc Cert.DownV.nD Cert.DownV.τ Cert.DownV.sig) → Buf (Elt Bits) ℓ) (g : Dev Cert.DownV.nD → PrngReg), Pre_DownV m →
    θ_run (Cert.DownV.defs (F := Bits)) (onTc (τ := Cert.DownV.τ) (Cert.DownV.main (F := Bits))) ⟨m, fun _ => 0, g⟩ (fun r => (∀ c : Dev Cert.DownV.nD,
      r.2.mem ((c.tc : Thread Cert.DownV.nD Cert.DownV.τ).loc Cert.DownV.main_arg0) = m ((c.tc : Thread Cert.DownV.nD Cert.DownV.τ).loc Cert.DownV.main_arg0)
      ∧ r.2.mem ((c.tc : Thread Cert.DownV.nD Cert.DownV.τ).loc Cert.DownV.main_arg1) = m ((c.tc : Thread Cert.DownV.nD Cert.DownV.τ).loc Cert.DownV.main_arg1)
      ∧ r.2.mem ((c.tc : Thread Cert.DownV.nD Cert.DownV.τ).loc Cert.DownV.main_arg2) = m ((c.tc : Thread Cert.DownV.nD Cert.DownV.τ).loc Cert.DownV.main_arg2))
      ∧ r.2.sem = fun _ => 0)

def quiescent_DownVIdeal [hDownVIdeal : Cert.DownVIdeal.Facts] : Prop :=
  ∀ (m : (ℓ : Loc Cert.DownVIdeal.nD Cert.DownVIdeal.τ Cert.DownVIdeal.sig) → Buf (Elt Ideal) ℓ) (g : Dev Cert.DownVIdeal.nD → PrngReg), Pre_DownVIdeal m →
    θ_run (Cert.DownVIdeal.defs (F := Ideal)) (onTc (τ := Cert.DownVIdeal.τ) (Cert.DownVIdeal.main (F := Ideal))) ⟨m, fun _ => 0, g⟩ (fun r => (∀ c : Dev Cert.DownVIdeal.nD,
      r.2.mem ((c.tc : Thread Cert.DownVIdeal.nD Cert.DownVIdeal.τ).loc Cert.DownVIdeal.main_arg0) = m ((c.tc : Thread Cert.DownVIdeal.nD Cert.DownVIdeal.τ).loc Cert.DownVIdeal.main_arg0)
      ∧ r.2.mem ((c.tc : Thread Cert.DownVIdeal.nD Cert.DownVIdeal.τ).loc Cert.DownVIdeal.main_arg1) = m ((c.tc : Thread Cert.DownVIdeal.nD Cert.DownVIdeal.τ).loc Cert.DownVIdeal.main_arg1)
      ∧ r.2.mem ((c.tc : Thread Cert.DownVIdeal.nD Cert.DownVIdeal.τ).loc Cert.DownVIdeal.main_arg2) = m ((c.tc : Thread Cert.DownVIdeal.nD Cert.DownVIdeal.τ).loc Cert.DownVIdeal.main_arg2))
      ∧ r.2.sem = fun _ => 0)

def quiescent_RefVIdeal [hRefVIdeal : Cert.RefVIdeal.Facts] : Prop :=
  ∀ (m : (ℓ : Loc Cert.RefVIdeal.nD Cert.RefVIdeal.τ Cert.RefVIdeal.sig) → Buf (Elt Ideal) ℓ) (g : Dev Cert.RefVIdeal.nD → PrngReg), Pre_RefVIdeal m →
    θ_run (Cert.RefVIdeal.defs (F := Ideal)) (onTc (τ := Cert.RefVIdeal.τ) (Cert.RefVIdeal.main (F := Ideal))) ⟨m, fun _ => 0, g⟩ (fun r => (∀ c : Dev Cert.RefVIdeal.nD,
      r.2.mem ((c.tc : Thread Cert.RefVIdeal.nD Cert.RefVIdeal.τ).loc Cert.RefVIdeal.main_arg0) = m ((c.tc : Thread Cert.RefVIdeal.nD Cert.RefVIdeal.τ).loc Cert.RefVIdeal.main_arg0)
      ∧ r.2.mem ((c.tc : Thread Cert.RefVIdeal.nD Cert.RefVIdeal.τ).loc Cert.RefVIdeal.main_arg1) = m ((c.tc : Thread Cert.RefVIdeal.nD Cert.RefVIdeal.τ).loc Cert.RefVIdeal.main_arg1)
      ∧ r.2.mem ((c.tc : Thread Cert.RefVIdeal.nD Cert.RefVIdeal.τ).loc Cert.RefVIdeal.main_arg2) = m ((c.tc : Thread Cert.RefVIdeal.nD Cert.RefVIdeal.τ).loc Cert.RefVIdeal.main_arg2))
      ∧ r.2.sem = fun _ => 0)

def quiescent_Tangent [hTangent : Cert.Tangent.Facts] : Prop :=
  ∀ (m : (ℓ : Loc Cert.Tangent.nD Cert.Tangent.τ Cert.Tangent.sig) → Buf (Elt Bits) ℓ) (g : Dev Cert.Tangent.nD → PrngReg), Pre_Tangent m →
    θ_run (Cert.Tangent.defs (F := Bits)) (onTc (τ := Cert.Tangent.τ) (Cert.Tangent.main (F := Bits))) ⟨m, fun _ => 0, g⟩ (fun r => (∀ c : Dev Cert.Tangent.nD,
      r.2.mem ((c.tc : Thread Cert.Tangent.nD Cert.Tangent.τ).loc Cert.Tangent.main_arg0) = m ((c.tc : Thread Cert.Tangent.nD Cert.Tangent.τ).loc Cert.Tangent.main_arg0)
      ∧ r.2.mem ((c.tc : Thread Cert.Tangent.nD Cert.Tangent.τ).loc Cert.Tangent.main_arg1) = m ((c.tc : Thread Cert.Tangent.nD Cert.Tangent.τ).loc Cert.Tangent.main_arg1)
      ∧ r.2.mem ((c.tc : Thread Cert.Tangent.nD Cert.Tangent.τ).loc Cert.Tangent.main_arg2) = m ((c.tc : Thread Cert.Tangent.nD Cert.Tangent.τ).loc Cert.Tangent.main_arg2)
      ∧ r.2.mem ((c.tc : Thread Cert.Tangent.nD Cert.Tangent.τ).loc Cert.Tangent.main_arg3) = m ((c.tc : Thread Cert.Tangent.nD Cert.Tangent.τ).loc Cert.Tangent.main_arg3))
      ∧ r.2.sem = fun _ => 0)

def quiescent_TangentIdeal [hTangentIdeal : Cert.TangentIdeal.Facts] : Prop :=
  ∀ (m : (ℓ : Loc Cert.TangentIdeal.nD Cert.TangentIdeal.τ Cert.TangentIdeal.sig) → Buf (Elt Ideal) ℓ) (g : Dev Cert.TangentIdeal.nD → PrngReg), Pre_TangentIdeal m →
    θ_run (Cert.TangentIdeal.defs (F := Ideal)) (onTc (τ := Cert.TangentIdeal.τ) (Cert.TangentIdeal.main (F := Ideal))) ⟨m, fun _ => 0, g⟩ (fun r => (∀ c : Dev Cert.TangentIdeal.nD,
      r.2.mem ((c.tc : Thread Cert.TangentIdeal.nD Cert.TangentIdeal.τ).loc Cert.TangentIdeal.main_arg0) = m ((c.tc : Thread Cert.TangentIdeal.nD Cert.TangentIdeal.τ).loc Cert.TangentIdeal.main_arg0)
      ∧ r.2.mem ((c.tc : Thread Cert.TangentIdeal.nD Cert.TangentIdeal.τ).loc Cert.TangentIdeal.main_arg1) = m ((c.tc : Thread Cert.TangentIdeal.nD Cert.TangentIdeal.τ).loc Cert.TangentIdeal.main_arg1)
      ∧ r.2.mem ((c.tc : Thread Cert.TangentIdeal.nD Cert.TangentIdeal.τ).loc Cert.TangentIdeal.main_arg2) = m ((c.tc : Thread Cert.TangentIdeal.nD Cert.TangentIdeal.τ).loc Cert.TangentIdeal.main_arg2)
      ∧ r.2.mem ((c.tc : Thread Cert.TangentIdeal.nD Cert.TangentIdeal.τ).loc Cert.TangentIdeal.main_arg3) = m ((c.tc : Thread Cert.TangentIdeal.nD Cert.TangentIdeal.τ).loc Cert.TangentIdeal.main_arg3))
      ∧ r.2.sem = fun _ => 0)

def quiescent_RefGIdeal [hRefGIdeal : Cert.RefGIdeal.Facts] : Prop :=
  ∀ (m : (ℓ : Loc Cert.RefGIdeal.nD Cert.RefGIdeal.τ Cert.RefGIdeal.sig) → Buf (Elt Ideal) ℓ) (g : Dev Cert.RefGIdeal.nD → PrngReg), Pre_RefGIdeal m →
    θ_run (Cert.RefGIdeal.defs (F := Ideal)) (onTc (τ := Cert.RefGIdeal.τ) (Cert.RefGIdeal.main (F := Ideal))) ⟨m, fun _ => 0, g⟩ (fun r => (∀ c : Dev Cert.RefGIdeal.nD,
      r.2.mem ((c.tc : Thread Cert.RefGIdeal.nD Cert.RefGIdeal.τ).loc Cert.RefGIdeal.main_arg0) = m ((c.tc : Thread Cert.RefGIdeal.nD Cert.RefGIdeal.τ).loc Cert.RefGIdeal.main_arg0)
      ∧ r.2.mem ((c.tc : Thread Cert.RefGIdeal.nD Cert.RefGIdeal.τ).loc Cert.RefGIdeal.main_arg1) = m ((c.tc : Thread Cert.RefGIdeal.nD Cert.RefGIdeal.τ).loc Cert.RefGIdeal.main_arg1)
      ∧ r.2.mem ((c.tc : Thread Cert.RefGIdeal.nD Cert.RefGIdeal.τ).loc Cert.RefGIdeal.main_arg2) = m ((c.tc : Thread Cert.RefGIdeal.nD Cert.RefGIdeal.τ).loc Cert.RefGIdeal.main_arg2)
      ∧ r.2.mem ((c.tc : Thread Cert.RefGIdeal.nD Cert.RefGIdeal.τ).loc Cert.RefGIdeal.main_arg3) = m ((c.tc : Thread Cert.RefGIdeal.nD Cert.RefGIdeal.τ).loc Cert.RefGIdeal.main_arg3))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ r.2.sem = fun _ => 0)

def quiescent_RefXIdeal [hRefXIdeal : Cert.RefXIdeal.Facts] : Prop :=
  ∀ (m : (ℓ : Loc Cert.RefXIdeal.nD Cert.RefXIdeal.τ Cert.RefXIdeal.sig) → Buf (Elt Ideal) ℓ) (g : Dev Cert.RefXIdeal.nD → PrngReg), Pre_RefXIdeal m →
    θ_run (Cert.RefXIdeal.defs (F := Ideal)) (onTc (τ := Cert.RefXIdeal.τ) (Cert.RefXIdeal.main (F := Ideal))) ⟨m, fun _ => 0, g⟩ (fun r => (∀ c : Dev Cert.RefXIdeal.nD,
      r.2.mem ((c.tc : Thread Cert.RefXIdeal.nD Cert.RefXIdeal.τ).loc Cert.RefXIdeal.main_arg0) = m ((c.tc : Thread Cert.RefXIdeal.nD Cert.RefXIdeal.τ).loc Cert.RefXIdeal.main_arg0))
      ∧ r.2.sem = fun _ => 0)

def quiescent_Primal [hPrimal : Cert.Primal.Facts] : Prop :=
  ∀ (m : (ℓ : Loc Cert.Primal.nD Cert.Primal.τ Cert.Primal.sig) → Buf (Elt Bits) ℓ) (g : Dev Cert.Primal.nD → PrngReg), Pre_Primal m →
    θ_run (Cert.Primal.defs (F := Bits)) (onTc (τ := Cert.Primal.τ) (Cert.Primal.main (F := Bits))) ⟨m, fun _ => 0, g⟩ (fun r => (∀ c : Dev Cert.Primal.nD,
      r.2.mem ((c.tc : Thread Cert.Primal.nD Cert.Primal.τ).loc Cert.Primal.main_arg0) = m ((c.tc : Thread Cert.Primal.nD Cert.Primal.τ).loc Cert.Primal.main_arg0)
      ∧ r.2.mem ((c.tc : Thread Cert.Primal.nD Cert.Primal.τ).loc Cert.Primal.main_arg1) = m ((c.tc : Thread Cert.Primal.nD Cert.Primal.τ).loc Cert.Primal.main_arg1)
      ∧ r.2.mem ((c.tc : Thread Cert.Primal.nD Cert.Primal.τ).loc Cert.Primal.main_arg2) = m ((c.tc : Thread Cert.Primal.nD Cert.Primal.τ).loc Cert.Primal.main_arg2)
      ∧ r.2.mem ((c.tc : Thread Cert.Primal.nD Cert.Primal.τ).loc Cert.Primal.main_arg3) = m ((c.tc : Thread Cert.Primal.nD Cert.Primal.τ).loc Cert.Primal.main_arg3)
      ∧ r.2.mem ((c.tc : Thread Cert.Primal.nD Cert.Primal.τ).loc Cert.Primal.main_arg4) = m ((c.tc : Thread Cert.Primal.nD Cert.Primal.τ).loc Cert.Primal.main_arg4)
      ∧ r.2.mem ((c.tc : Thread Cert.Primal.nD Cert.Primal.τ).loc Cert.Primal.main_arg5) = m ((c.tc : Thread Cert.Primal.nD Cert.Primal.τ).loc Cert.Primal.main_arg5))
      ∧ r.2.sem = fun _ => 0)

def quiescent_PrimalIdeal [hPrimalIdeal : Cert.PrimalIdeal.Facts] : Prop :=
  ∀ (m : (ℓ : Loc Cert.PrimalIdeal.nD Cert.PrimalIdeal.τ Cert.PrimalIdeal.sig) → Buf (Elt Ideal) ℓ) (g : Dev Cert.PrimalIdeal.nD → PrngReg), Pre_PrimalIdeal m →
    θ_run (Cert.PrimalIdeal.defs (F := Ideal)) (onTc (τ := Cert.PrimalIdeal.τ) (Cert.PrimalIdeal.main (F := Ideal))) ⟨m, fun _ => 0, g⟩ (fun r => (∀ c : Dev Cert.PrimalIdeal.nD,
      r.2.mem ((c.tc : Thread Cert.PrimalIdeal.nD Cert.PrimalIdeal.τ).loc Cert.PrimalIdeal.main_arg0) = m ((c.tc : Thread Cert.PrimalIdeal.nD Cert.PrimalIdeal.τ).loc Cert.PrimalIdeal.main_arg0)
      ∧ r.2.mem ((c.tc : Thread Cert.PrimalIdeal.nD Cert.PrimalIdeal.τ).loc Cert.PrimalIdeal.main_arg1) = m ((c.tc : Thread Cert.PrimalIdeal.nD Cert.PrimalIdeal.τ).loc Cert.PrimalIdeal.main_arg1)
      ∧ r.2.mem ((c.tc : Thread Cert.PrimalIdeal.nD Cert.PrimalIdeal.τ).loc Cert.PrimalIdeal.main_arg2) = m ((c.tc : Thread Cert.PrimalIdeal.nD Cert.PrimalIdeal.τ).loc Cert.PrimalIdeal.main_arg2)
      ∧ r.2.mem ((c.tc : Thread Cert.PrimalIdeal.nD Cert.PrimalIdeal.τ).loc Cert.PrimalIdeal.main_arg3) = m ((c.tc : Thread Cert.PrimalIdeal.nD Cert.PrimalIdeal.τ).loc Cert.PrimalIdeal.main_arg3)
      ∧ r.2.mem ((c.tc : Thread Cert.PrimalIdeal.nD Cert.PrimalIdeal.τ).loc Cert.PrimalIdeal.main_arg4) = m ((c.tc : Thread Cert.PrimalIdeal.nD Cert.PrimalIdeal.τ).loc Cert.PrimalIdeal.main_arg4)
      ∧ r.2.mem ((c.tc : Thread Cert.PrimalIdeal.nD Cert.PrimalIdeal.τ).loc Cert.PrimalIdeal.main_arg5) = m ((c.tc : Thread Cert.PrimalIdeal.nD Cert.PrimalIdeal.τ).loc Cert.PrimalIdeal.main_arg5))
      ∧ r.2.sem = fun _ => 0)

def quiescent_RefPIdeal [hRefPIdeal : Cert.RefPIdeal.Facts] : Prop :=
  ∀ (m : (ℓ : Loc Cert.RefPIdeal.nD Cert.RefPIdeal.τ Cert.RefPIdeal.sig) → Buf (Elt Ideal) ℓ) (g : Dev Cert.RefPIdeal.nD → PrngReg), Pre_RefPIdeal m →
    θ_run (Cert.RefPIdeal.defs (F := Ideal)) (onTc (τ := Cert.RefPIdeal.τ) (Cert.RefPIdeal.main (F := Ideal))) ⟨m, fun _ => 0, g⟩ (fun r => (∀ c : Dev Cert.RefPIdeal.nD,
      r.2.mem ((c.tc : Thread Cert.RefPIdeal.nD Cert.RefPIdeal.τ).loc Cert.RefPIdeal.main_arg0) = m ((c.tc : Thread Cert.RefPIdeal.nD Cert.RefPIdeal.τ).loc Cert.RefPIdeal.main_arg0)
      ∧ r.2.mem ((c.tc : Thread Cert.RefPIdeal.nD Cert.RefPIdeal.τ).loc Cert.RefPIdeal.main_arg1) = m ((c.tc : Thread Cert.RefPIdeal.nD Cert.RefPIdeal.τ).loc Cert.RefPIdeal.main_arg1)
      ∧ r.2.mem ((c.tc : Thread Cert.RefPIdeal.nD Cert.RefPIdeal.τ).loc Cert.RefPIdeal.main_arg2) = m ((c.tc : Thread Cert.RefPIdeal.nD Cert.RefPIdeal.τ).loc Cert.RefPIdeal.main_arg2)
      ∧ r.2.mem ((c.tc : Thread Cert.RefPIdeal.nD Cert.RefPIdeal.τ).loc Cert.RefPIdeal.main_arg3) = m ((c.tc : Thread Cert.RefPIdeal.nD Cert.RefPIdeal.τ).loc Cert.RefPIdeal.main_arg3)
      ∧ r.2.mem ((c.tc : Thread Cert.RefPIdeal.nD Cert.RefPIdeal.τ).loc Cert.RefPIdeal.main_arg4) = m ((c.tc : Thread Cert.RefPIdeal.nD Cert.RefPIdeal.τ).loc Cert.RefPIdeal.main_arg4)
      ∧ r.2.mem ((c.tc : Thread Cert.RefPIdeal.nD Cert.RefPIdeal.τ).loc Cert.RefPIdeal.main_arg5) = m ((c.tc : Thread Cert.RefPIdeal.nD Cert.RefPIdeal.τ).loc Cert.RefPIdeal.main_arg5))
      ∧ r.2.sem = fun _ => 0)

def quiescent_Trace [hTrace : Cert.Trace.Facts] : Prop :=
  ∀ (m : (ℓ : Loc Cert.Trace.nD Cert.Trace.τ Cert.Trace.sig) → Buf (Elt Bits) ℓ) (g : Dev Cert.Trace.nD → PrngReg), Pre_Trace m →
    θ_run (Cert.Trace.defs (F := Bits)) (onTc (τ := Cert.Trace.τ) (Cert.Trace.main (F := Bits))) ⟨m, fun _ => 0, g⟩ (fun r => (∀ c : Dev Cert.Trace.nD,
      r.2.mem ((c.tc : Thread Cert.Trace.nD Cert.Trace.τ).loc Cert.Trace.main_arg0) = m ((c.tc : Thread Cert.Trace.nD Cert.Trace.τ).loc Cert.Trace.main_arg0)
      ∧ r.2.mem ((c.tc : Thread Cert.Trace.nD Cert.Trace.τ).loc Cert.Trace.main_arg1) = m ((c.tc : Thread Cert.Trace.nD Cert.Trace.τ).loc Cert.Trace.main_arg1)
      ∧ r.2.mem ((c.tc : Thread Cert.Trace.nD Cert.Trace.τ).loc Cert.Trace.main_arg2) = m ((c.tc : Thread Cert.Trace.nD Cert.Trace.τ).loc Cert.Trace.main_arg2))
      ∧ r.2.sem = fun _ => 0)

def quiescent_TraceIdeal [hTraceIdeal : Cert.TraceIdeal.Facts] : Prop :=
  ∀ (m : (ℓ : Loc Cert.TraceIdeal.nD Cert.TraceIdeal.τ Cert.TraceIdeal.sig) → Buf (Elt Ideal) ℓ) (g : Dev Cert.TraceIdeal.nD → PrngReg), Pre_TraceIdeal m →
    θ_run (Cert.TraceIdeal.defs (F := Ideal)) (onTc (τ := Cert.TraceIdeal.τ) (Cert.TraceIdeal.main (F := Ideal))) ⟨m, fun _ => 0, g⟩ (fun r => (∀ c : Dev Cert.TraceIdeal.nD,
      r.2.mem ((c.tc : Thread Cert.TraceIdeal.nD Cert.TraceIdeal.τ).loc Cert.TraceIdeal.main_arg0) = m ((c.tc : Thread Cert.TraceIdeal.nD Cert.TraceIdeal.τ).loc Cert.TraceIdeal.main_arg0)
      ∧ r.2.mem ((c.tc : Thread Cert.TraceIdeal.nD Cert.TraceIdeal.τ).loc Cert.TraceIdeal.main_arg1) = m ((c.tc : Thread Cert.TraceIdeal.nD Cert.TraceIdeal.τ).loc Cert.TraceIdeal.main_arg1)
      ∧ r.2.mem ((c.tc : Thread Cert.TraceIdeal.nD Cert.TraceIdeal.τ).loc Cert.TraceIdeal.main_arg2) = m ((c.tc : Thread Cert.TraceIdeal.nD Cert.TraceIdeal.τ).loc Cert.TraceIdeal.main_arg2))
      ∧ r.2.sem = fun _ => 0)

def quiescent_RefTraceIdeal [hRefTraceIdeal : Cert.RefTraceIdeal.Facts] : Prop :=
  ∀ (m : (ℓ : Loc Cert.RefTraceIdeal.nD Cert.RefTraceIdeal.τ Cert.RefTraceIdeal.sig) → Buf (Elt Ideal) ℓ) (g : Dev Cert.RefTraceIdeal.nD → PrngReg), Pre_RefTraceIdeal m →
    θ_run (Cert.RefTraceIdeal.defs (F := Ideal)) (onTc (τ := Cert.RefTraceIdeal.τ) (Cert.RefTraceIdeal.main (F := Ideal))) ⟨m, fun _ => 0, g⟩ (fun r => (∀ c : Dev Cert.RefTraceIdeal.nD,
      r.2.mem ((c.tc : Thread Cert.RefTraceIdeal.nD Cert.RefTraceIdeal.τ).loc Cert.RefTraceIdeal.main_arg0) = m ((c.tc : Thread Cert.RefTraceIdeal.nD Cert.RefTraceIdeal.τ).loc Cert.RefTraceIdeal.main_arg0)
      ∧ r.2.mem ((c.tc : Thread Cert.RefTraceIdeal.nD Cert.RefTraceIdeal.τ).loc Cert.RefTraceIdeal.main_arg1) = m ((c.tc : Thread Cert.RefTraceIdeal.nD Cert.RefTraceIdeal.τ).loc Cert.RefTraceIdeal.main_arg1)
      ∧ r.2.mem ((c.tc : Thread Cert.RefTraceIdeal.nD Cert.RefTraceIdeal.τ).loc Cert.RefTraceIdeal.main_arg2) = m ((c.tc : Thread Cert.RefTraceIdeal.nD Cert.RefTraceIdeal.τ).loc Cert.RefTraceIdeal.main_arg2))
      ∧ r.2.sem = fun _ => 0)

def preserves_DownY_DownYIdeal : Prop :=
  True

def algebraic_DownYIdeal_RefYIdeal [hDownYIdeal : Cert.DownYIdeal.Facts] [hRefYIdeal : Cert.RefYIdeal.Facts] : Prop :=
  ∀ (m : (ℓ : Loc Cert.DownYIdeal.nD Cert.DownYIdeal.τ Cert.DownYIdeal.sig) → Buf (Elt Ideal) ℓ) (g : Dev Cert.DownYIdeal.nD → PrngReg)
    (m' : (ℓ : Loc Cert.RefYIdeal.nD Cert.RefYIdeal.τ Cert.RefYIdeal.sig) → Buf (Elt Ideal) ℓ) (g' : Dev Cert.RefYIdeal.nD → PrngReg), Pre_DownYIdeal m →
    (∀ c : Dev Cert.DownYIdeal.nD,
      m' ((c.tc : Thread Cert.RefYIdeal.nD Cert.RefYIdeal.τ).loc Cert.RefYIdeal.main_arg0) = m ((c.tc : Thread Cert.DownYIdeal.nD Cert.DownYIdeal.τ).loc Cert.DownYIdeal.main_arg0)
      ∧ m' ((c.tc : Thread Cert.RefYIdeal.nD Cert.RefYIdeal.τ).loc Cert.RefYIdeal.main_arg1) = m ((c.tc : Thread Cert.DownYIdeal.nD Cert.DownYIdeal.τ).loc Cert.DownYIdeal.main_arg1)
      ∧ m' ((c.tc : Thread Cert.RefYIdeal.nD Cert.RefYIdeal.τ).loc Cert.RefYIdeal.main_arg2) = m ((c.tc : Thread Cert.DownYIdeal.nD Cert.DownYIdeal.τ).loc Cert.DownYIdeal.main_arg2)
      ∧ m' ((c.tc : Thread Cert.RefYIdeal.nD Cert.RefYIdeal.τ).loc Cert.RefYIdeal.main_arg3) = m ((c.tc : Thread Cert.DownYIdeal.nD Cert.DownYIdeal.τ).loc Cert.DownYIdeal.main_arg3)) →
    ∃ (v0 : (c : Dev Cert.DownYIdeal.nD) → Buf (Elt Ideal) ((c.tc : Thread Cert.DownYIdeal.nD Cert.DownYIdeal.τ).loc Cert.DownYIdeal.main_v2)),
      θ_run (Cert.DownYIdeal.defs (F := Ideal)) (onTc (τ := Cert.DownYIdeal.τ) (Cert.DownYIdeal.main (F := Ideal))) ⟨m, fun _ => 0, g⟩ (fun r => ∀ c : Dev Cert.DownYIdeal.nD,
          r.2.mem ((c.tc : Thread Cert.DownYIdeal.nD Cert.DownYIdeal.τ).loc Cert.DownYIdeal.main_v2) = v0 c
          ∧ r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
          ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1)
          ∧ r.2.mem ((c.tc : Thread Cert.DownYIdeal.nD Cert.DownYIdeal.τ).loc Cert.DownYIdeal.main_arg2) = m ((c.tc : Thread Cert.DownYIdeal.nD Cert.DownYIdeal.τ).loc Cert.DownYIdeal.main_arg2)
          ∧ r.2.mem ((c.tc : Thread Cert.DownYIdeal.nD Cert.DownYIdeal.τ).loc Cert.DownYIdeal.main_arg3) = m ((c.tc : Thread Cert.DownYIdeal.nD Cert.DownYIdeal.τ).loc Cert.DownYIdeal.main_arg3))
      ∧ θ_run (Cert.RefYIdeal.defs (F := Ideal)) (onTc (τ := Cert.RefYIdeal.τ) (Cert.RefYIdeal.main (F := Ideal))) ⟨m', fun _ => 0, g'⟩ (fun r => ∀ c : Dev Cert.RefYIdeal.nD,
          r.2.mem ((c.tc : Thread Cert.RefYIdeal.nD Cert.RefYIdeal.τ).loc Cert.RefYIdeal.main_v2) = v0 c
          ∧ r.2.mem ((c.tc : Thread Cert.RefYIdeal.nD Cert.RefYIdeal.τ).loc Cert.RefYIdeal.main_arg0) = m' ((c.tc : Thread Cert.RefYIdeal.nD Cert.RefYIdeal.τ).loc Cert.RefYIdeal.main_arg0)
          ∧ r.2.mem ((c.tc : Thread Cert.RefYIdeal.nD Cert.RefYIdeal.τ).loc Cert.RefYIdeal.main_arg1) = m' ((c.tc : Thread Cert.RefYIdeal.nD Cert.RefYIdeal.τ).loc Cert.RefYIdeal.main_arg1)
          ∧ r.2.mem ((c.tc : Thread Cert.RefYIdeal.nD Cert.RefYIdeal.τ).loc Cert.RefYIdeal.main_arg2) = m' ((c.tc : Thread Cert.RefYIdeal.nD Cert.RefYIdeal.τ).loc Cert.RefYIdeal.main_arg2)
          ∧ r.2.mem ((c.tc : Thread Cert.RefYIdeal.nD Cert.RefYIdeal.τ).loc Cert.RefYIdeal.main_arg3) = m' ((c.tc : Thread Cert.RefYIdeal.nD Cert.RefYIdeal.τ).loc Cert.RefYIdeal.main_arg3))

def preserves_DownT_DownTIdeal : Prop :=
  True

def algebraic_DownTIdeal_RefTIdeal [hDownTIdeal : Cert.DownTIdeal.Facts] [hRefTIdeal : Cert.RefTIdeal.Facts] : Prop :=
  ∀ (m : (ℓ : Loc Cert.DownTIdeal.nD Cert.DownTIdeal.τ Cert.DownTIdeal.sig) → Buf (Elt Ideal) ℓ) (g : Dev Cert.DownTIdeal.nD → PrngReg)
    (m' : (ℓ : Loc Cert.RefTIdeal.nD Cert.RefTIdeal.τ Cert.RefTIdeal.sig) → Buf (Elt Ideal) ℓ) (g' : Dev Cert.RefTIdeal.nD → PrngReg), Pre_DownTIdeal m →
    (∀ c : Dev Cert.DownTIdeal.nD,
      m' ((c.tc : Thread Cert.RefTIdeal.nD Cert.RefTIdeal.τ).loc Cert.RefTIdeal.main_arg0) = m ((c.tc : Thread Cert.DownTIdeal.nD Cert.DownTIdeal.τ).loc Cert.DownTIdeal.main_arg0)
      ∧ m' ((c.tc : Thread Cert.RefTIdeal.nD Cert.RefTIdeal.τ).loc Cert.RefTIdeal.main_arg1) = m ((c.tc : Thread Cert.DownTIdeal.nD Cert.DownTIdeal.τ).loc Cert.DownTIdeal.main_arg1)
      ∧ m' ((c.tc : Thread Cert.RefTIdeal.nD Cert.RefTIdeal.τ).loc Cert.RefTIdeal.main_arg2) = m ((c.tc : Thread Cert.DownTIdeal.nD Cert.DownTIdeal.τ).loc Cert.DownTIdeal.main_arg2)
      ∧ m' ((c.tc : Thread Cert.RefTIdeal.nD Cert.RefTIdeal.τ).loc Cert.RefTIdeal.main_arg3) = m ((c.tc : Thread Cert.DownTIdeal.nD Cert.DownTIdeal.τ).loc Cert.DownTIdeal.main_arg3)) →
    ∃ (v0 : (c : Dev Cert.DownTIdeal.nD) → Buf (Elt Ideal) ((c.tc : Thread Cert.DownTIdeal.nD Cert.DownTIdeal.τ).loc Cert.DownTIdeal.main_v2_0)) (v1 : (c : Dev Cert.DownTIdeal.nD) → Buf (Elt Ideal) ((c.tc : Thread Cert.DownTIdeal.nD Cert.DownTIdeal.τ).loc Cert.DownTIdeal.main_v2_1)),
      θ_run (Cert.DownTIdeal.defs (F := Ideal)) (onTc (τ := Cert.DownTIdeal.τ) (Cert.DownTIdeal.main (F := Ideal))) ⟨m, fun _ => 0, g⟩ (fun r => ∀ c : Dev Cert.DownTIdeal.nD,
          r.2.mem ((c.tc : Thread Cert.DownTIdeal.nD Cert.DownTIdeal.τ).loc Cert.DownTIdeal.main_v2_0) = v0 c
          ∧ r.2.mem ((c.tc : Thread Cert.DownTIdeal.nD Cert.DownTIdeal.τ).loc Cert.DownTIdeal.main_v2_1) = v1 c
          ∧ r.2.mem ((c.tc : Thread Cert.DownTIdeal.nD Cert.DownTIdeal.τ).loc Cert.DownTIdeal.main_arg0) = m ((c.tc : Thread Cert.DownTIdeal.nD Cert.DownTIdeal.τ).loc Cert.DownTIdeal.main_arg0)
          ∧ r.2.mem ((c.tc : Thread Cert.DownTIdeal.nD Cert.DownTIdeal.τ).loc Cert.DownTIdeal.main_arg1) = m ((c.tc : Thread Cert.DownTIdeal.nD Cert.DownTIdeal.τ).loc Cert.DownTIdeal.main_arg1)
          ∧ r.2.mem ((c.tc : Thread Cert.DownTIdeal.nD Cert.DownTIdeal.τ).loc Cert.DownTIdeal.main_arg2) = m ((c.tc : Thread Cert.DownTIdeal.nD Cert.DownTIdeal.τ).loc Cert.DownTIdeal.main_arg2)
          ∧ r.2.mem ((c.tc : Thread Cert.DownTIdeal.nD Cert.DownTIdeal.τ).loc Cert.DownTIdeal.main_arg3) = m ((c.tc : Thread Cert.DownTIdeal.nD Cert.DownTIdeal.τ).loc Cert.DownTIdeal.main_arg3))
      ∧ θ_run (Cert.RefTIdeal.defs (F := Ideal)) (onTc (τ := Cert.RefTIdeal.τ) (Cert.RefTIdeal.main (F := Ideal))) ⟨m', fun _ => 0, g'⟩ (fun r => ∀ c : Dev Cert.RefTIdeal.nD,
          r.2.mem ((c.tc : Thread Cert.RefTIdeal.nD Cert.RefTIdeal.τ).loc Cert.RefTIdeal.main_v2_0) = v0 c
          ∧ r.2.mem ((c.tc : Thread Cert.RefTIdeal.nD Cert.RefTIdeal.τ).loc Cert.RefTIdeal.main_v2_1) = v1 c
          ∧ r.2.mem ((c.tc : Thread Cert.RefTIdeal.nD Cert.RefTIdeal.τ).loc Cert.RefTIdeal.main_arg0) = m' ((c.tc : Thread Cert.RefTIdeal.nD Cert.RefTIdeal.τ).loc Cert.RefTIdeal.main_arg0)
          ∧ r.2.mem ((c.tc : Thread Cert.RefTIdeal.nD Cert.RefTIdeal.τ).loc Cert.RefTIdeal.main_arg1) = m' ((c.tc : Thread Cert.RefTIdeal.nD Cert.RefTIdeal.τ).loc Cert.RefTIdeal.main_arg1)
          ∧ r.2.mem ((c.tc : Thread Cert.RefTIdeal.nD Cert.RefTIdeal.τ).loc Cert.RefTIdeal.main_arg2) = m' ((c.tc : Thread Cert.RefTIdeal.nD Cert.RefTIdeal.τ).loc Cert.RefTIdeal.main_arg2)
          ∧ r.2.mem ((c.tc : Thread Cert.RefTIdeal.nD Cert.RefTIdeal.τ).loc Cert.RefTIdeal.main_arg3) = m' ((c.tc : Thread Cert.RefTIdeal.nD Cert.RefTIdeal.τ).loc Cert.RefTIdeal.main_arg3))

def preserves_DownV_DownVIdeal : Prop :=
  True

def algebraic_DownVIdeal_RefVIdeal [hDownVIdeal : Cert.DownVIdeal.Facts] [hRefVIdeal : Cert.RefVIdeal.Facts] : Prop :=
  ∀ (m : (ℓ : Loc Cert.DownVIdeal.nD Cert.DownVIdeal.τ Cert.DownVIdeal.sig) → Buf (Elt Ideal) ℓ) (g : Dev Cert.DownVIdeal.nD → PrngReg)
    (m' : (ℓ : Loc Cert.RefVIdeal.nD Cert.RefVIdeal.τ Cert.RefVIdeal.sig) → Buf (Elt Ideal) ℓ) (g' : Dev Cert.RefVIdeal.nD → PrngReg), Pre_DownVIdeal m →
    (∀ c : Dev Cert.DownVIdeal.nD,
      m' ((c.tc : Thread Cert.RefVIdeal.nD Cert.RefVIdeal.τ).loc Cert.RefVIdeal.main_arg0) = m ((c.tc : Thread Cert.DownVIdeal.nD Cert.DownVIdeal.τ).loc Cert.DownVIdeal.main_arg0)
      ∧ m' ((c.tc : Thread Cert.RefVIdeal.nD Cert.RefVIdeal.τ).loc Cert.RefVIdeal.main_arg1) = m ((c.tc : Thread Cert.DownVIdeal.nD Cert.DownVIdeal.τ).loc Cert.DownVIdeal.main_arg1)
      ∧ m' ((c.tc : Thread Cert.RefVIdeal.nD Cert.RefVIdeal.τ).loc Cert.RefVIdeal.main_arg2) = m ((c.tc : Thread Cert.DownVIdeal.nD Cert.DownVIdeal.τ).loc Cert.DownVIdeal.main_arg2)) →
    ∃ (v0 : (c : Dev Cert.DownVIdeal.nD) → Buf (Elt Ideal) ((c.tc : Thread Cert.DownVIdeal.nD Cert.DownVIdeal.τ).loc Cert.DownVIdeal.main_v1_0)) (v1 : (c : Dev Cert.DownVIdeal.nD) → Buf (Elt Ideal) ((c.tc : Thread Cert.DownVIdeal.nD Cert.DownVIdeal.τ).loc Cert.DownVIdeal.main_v1_1)),
      θ_run (Cert.DownVIdeal.defs (F := Ideal)) (onTc (τ := Cert.DownVIdeal.τ) (Cert.DownVIdeal.main (F := Ideal))) ⟨m, fun _ => 0, g⟩ (fun r => ∀ c : Dev Cert.DownVIdeal.nD,
          r.2.mem ((c.tc : Thread Cert.DownVIdeal.nD Cert.DownVIdeal.τ).loc Cert.DownVIdeal.main_v1_0) = v0 c
          ∧ r.2.mem ((c.tc : Thread Cert.DownVIdeal.nD Cert.DownVIdeal.τ).loc Cert.DownVIdeal.main_v1_1) = v1 c
          ∧ r.2.mem ((c.tc : Thread Cert.DownVIdeal.nD Cert.DownVIdeal.τ).loc Cert.DownVIdeal.main_arg0) = m ((c.tc : Thread Cert.DownVIdeal.nD Cert.DownVIdeal.τ).loc Cert.DownVIdeal.main_arg0)
          ∧ r.2.mem ((c.tc : Thread Cert.DownVIdeal.nD Cert.DownVIdeal.τ).loc Cert.DownVIdeal.main_arg1) = m ((c.tc : Thread Cert.DownVIdeal.nD Cert.DownVIdeal.τ).loc Cert.DownVIdeal.main_arg1)
          ∧ r.2.mem ((c.tc : Thread Cert.DownVIdeal.nD Cert.DownVIdeal.τ).loc Cert.DownVIdeal.main_arg2) = m ((c.tc : Thread Cert.DownVIdeal.nD Cert.DownVIdeal.τ).loc Cert.DownVIdeal.main_arg2))
      ∧ θ_run (Cert.RefVIdeal.defs (F := Ideal)) (onTc (τ := Cert.RefVIdeal.τ) (Cert.RefVIdeal.main (F := Ideal))) ⟨m', fun _ => 0, g'⟩ (fun r => ∀ c : Dev Cert.RefVIdeal.nD,
          r.2.mem ((c.tc : Thread Cert.RefVIdeal.nD Cert.RefVIdeal.τ).loc Cert.RefVIdeal.main_v1_0) = v0 c
          ∧ r.2.mem ((c.tc : Thread Cert.RefVIdeal.nD Cert.RefVIdeal.τ).loc Cert.RefVIdeal.main_v1_1) = v1 c
          ∧ r.2.mem ((c.tc : Thread Cert.RefVIdeal.nD Cert.RefVIdeal.τ).loc Cert.RefVIdeal.main_arg0) = m' ((c.tc : Thread Cert.RefVIdeal.nD Cert.RefVIdeal.τ).loc Cert.RefVIdeal.main_arg0)
          ∧ r.2.mem ((c.tc : Thread Cert.RefVIdeal.nD Cert.RefVIdeal.τ).loc Cert.RefVIdeal.main_arg1) = m' ((c.tc : Thread Cert.RefVIdeal.nD Cert.RefVIdeal.τ).loc Cert.RefVIdeal.main_arg1)
          ∧ r.2.mem ((c.tc : Thread Cert.RefVIdeal.nD Cert.RefVIdeal.τ).loc Cert.RefVIdeal.main_arg2) = m' ((c.tc : Thread Cert.RefVIdeal.nD Cert.RefVIdeal.τ).loc Cert.RefVIdeal.main_arg2))

def preserves_Tangent_TangentIdeal : Prop :=
  True

def algebraic_TangentIdeal_RefGIdeal [hTangentIdeal : Cert.TangentIdeal.Facts] [hRefGIdeal : Cert.RefGIdeal.Facts] : Prop :=
  ∀ (m : (ℓ : Loc Cert.TangentIdeal.nD Cert.TangentIdeal.τ Cert.TangentIdeal.sig) → Buf (Elt Ideal) ℓ) (g : Dev Cert.TangentIdeal.nD → PrngReg)
    (m' : (ℓ : Loc Cert.RefGIdeal.nD Cert.RefGIdeal.τ Cert.RefGIdeal.sig) → Buf (Elt Ideal) ℓ) (g' : Dev Cert.RefGIdeal.nD → PrngReg), Pre_TangentIdeal m →
    (∀ c : Dev Cert.TangentIdeal.nD,
      m' ((c.tc : Thread Cert.RefGIdeal.nD Cert.RefGIdeal.τ).loc Cert.RefGIdeal.main_arg0) = m ((c.tc : Thread Cert.TangentIdeal.nD Cert.TangentIdeal.τ).loc Cert.TangentIdeal.main_arg0)
      ∧ m' ((c.tc : Thread Cert.RefGIdeal.nD Cert.RefGIdeal.τ).loc Cert.RefGIdeal.main_arg1) = m ((c.tc : Thread Cert.TangentIdeal.nD Cert.TangentIdeal.τ).loc Cert.TangentIdeal.main_arg1)
      ∧ m' ((c.tc : Thread Cert.RefGIdeal.nD Cert.RefGIdeal.τ).loc Cert.RefGIdeal.main_arg2) = m ((c.tc : Thread Cert.TangentIdeal.nD Cert.TangentIdeal.τ).loc Cert.TangentIdeal.main_arg2)
      ∧ m' ((c.tc : Thread Cert.RefGIdeal.nD Cert.RefGIdeal.τ).loc Cert.RefGIdeal.main_arg3) = m ((c.tc : Thread Cert.TangentIdeal.nD Cert.TangentIdeal.τ).loc Cert.TangentIdeal.main_arg3)) →
    ∃ (v0 : (c : Dev Cert.TangentIdeal.nD) → Buf (Elt Ideal) ((c.tc : Thread Cert.TangentIdeal.nD Cert.TangentIdeal.τ).loc Cert.TangentIdeal.main_v1_0)) (v1 : (c : Dev Cert.TangentIdeal.nD) → Buf (Elt Ideal) ((c.tc : Thread Cert.TangentIdeal.nD Cert.TangentIdeal.τ).loc Cert.TangentIdeal.main_v1_1)),
      θ_run (Cert.TangentIdeal.defs (F := Ideal)) (onTc (τ := Cert.TangentIdeal.τ) (Cert.TangentIdeal.main (F := Ideal))) ⟨m, fun _ => 0, g⟩ (fun r => ∀ c : Dev Cert.TangentIdeal.nD,
          r.2.mem ((c.tc : Thread Cert.TangentIdeal.nD Cert.TangentIdeal.τ).loc Cert.TangentIdeal.main_v1_0) = v0 c
          ∧ r.2.mem ((c.tc : Thread Cert.TangentIdeal.nD Cert.TangentIdeal.τ).loc Cert.TangentIdeal.main_v1_1) = v1 c
          ∧ r.2.mem ((c.tc : Thread Cert.TangentIdeal.nD Cert.TangentIdeal.τ).loc Cert.TangentIdeal.main_arg0) = m ((c.tc : Thread Cert.TangentIdeal.nD Cert.TangentIdeal.τ).loc Cert.TangentIdeal.main_arg0)
          ∧ r.2.mem ((c.tc : Thread Cert.TangentIdeal.nD Cert.TangentIdeal.τ).loc Cert.TangentIdeal.main_arg1) = m ((c.tc : Thread Cert.TangentIdeal.nD Cert.TangentIdeal.τ).loc Cert.TangentIdeal.main_arg1)
          ∧ r.2.mem ((c.tc : Thread Cert.TangentIdeal.nD Cert.TangentIdeal.τ).loc Cert.TangentIdeal.main_arg2) = m ((c.tc : Thread Cert.TangentIdeal.nD Cert.TangentIdeal.τ).loc Cert.TangentIdeal.main_arg2)
          ∧ r.2.mem ((c.tc : Thread Cert.TangentIdeal.nD Cert.TangentIdeal.τ).loc Cert.TangentIdeal.main_arg3) = m ((c.tc : Thread Cert.TangentIdeal.nD Cert.TangentIdeal.τ).loc Cert.TangentIdeal.main_arg3))
      ∧ θ_run (Cert.RefGIdeal.defs (F := Ideal)) (onTc (τ := Cert.RefGIdeal.τ) (Cert.RefGIdeal.main (F := Ideal))) ⟨m', fun _ => 0, g'⟩ (fun r => ∀ c : Dev Cert.RefGIdeal.nD,
          r.2.mem ((c.tc : Thread Cert.RefGIdeal.nD Cert.RefGIdeal.τ).loc Cert.RefGIdeal.main_v1_0) = v0 c
          ∧ r.2.mem ((c.tc : Thread Cert.RefGIdeal.nD Cert.RefGIdeal.τ).loc Cert.RefGIdeal.main_v1_1) = v1 c
          ∧ r.2.mem ((c.tc : Thread Cert.RefGIdeal.nD Cert.RefGIdeal.τ).loc Cert.RefGIdeal.main_arg0) = m' ((c.tc : Thread Cert.RefGIdeal.nD Cert.RefGIdeal.τ).loc Cert.RefGIdeal.main_arg0)
          ∧ r.2.mem ((c.tc : Thread Cert.RefGIdeal.nD Cert.RefGIdeal.τ).loc Cert.RefGIdeal.main_arg1) = m' ((c.tc : Thread Cert.RefGIdeal.nD Cert.RefGIdeal.τ).loc Cert.RefGIdeal.main_arg1)
          ∧ r.2.mem ((c.tc : Thread Cert.RefGIdeal.nD Cert.RefGIdeal.τ).loc Cert.RefGIdeal.main_arg2) = m' ((c.tc : Thread Cert.RefGIdeal.nD Cert.RefGIdeal.τ).loc Cert.RefGIdeal.main_arg2)
          ∧ r.2.mem ((c.tc : Thread Cert.RefGIdeal.nD Cert.RefGIdeal.τ).loc Cert.RefGIdeal.main_arg3) = m' ((c.tc : Thread Cert.RefGIdeal.nD Cert.RefGIdeal.τ).loc Cert.RefGIdeal.main_arg3))

def preserves_QuantX_QuantXIdeal : Prop :=
  True

def algebraic_QuantXIdeal_RefXIdeal [hQuantXIdeal : Cert.QuantXIdeal.Facts] [hRefXIdeal : Cert.RefXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.RefXIdeal.nD Cert.RefXIdeal.τ Cert.RefXIdeal.sig) → Buf (Elt Ideal) ℓ) (g' : Dev Cert.RefXIdeal.nD → PrngReg), Pre_QuantXIdeal m →
    (∀ c : Dev Cert.QuantXIdeal.nD,
      m' ((c.tc : Thread Cert.RefXIdeal.nD Cert.RefXIdeal.τ).loc Cert.RefXIdeal.main_arg0) = m ((c.tc : Thread Cert.QuantXIdeal.nD Cert.QuantXIdeal.τ).loc Cert.QuantXIdeal.main_arg0)) →
    ∃ (v0 : (c : Dev Cert.QuantXIdeal.nD) → Buf (Elt Ideal) ((c.tc : Thread Cert.QuantXIdeal.nD Cert.QuantXIdeal.τ).loc Cert.QuantXIdeal.main_v0_0)) (v1 : (c : Dev Cert.QuantXIdeal.nD) → Buf (Elt Ideal) ((c.tc : Thread Cert.QuantXIdeal.nD Cert.QuantXIdeal.τ).loc Cert.QuantXIdeal.main_v0_1)) (v2 : (c : Dev Cert.QuantXIdeal.nD) → Buf (Elt Ideal) ((c.tc : Thread Cert.QuantXIdeal.nD Cert.QuantXIdeal.τ).loc Cert.QuantXIdeal.main_v0_2)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v0_0) = v0 c
          ∧ r.2.mem ((c.tc : Thread Cert.QuantXIdeal.nD Cert.QuantXIdeal.τ).loc Cert.QuantXIdeal.main_v0_1) = v1 c
          ∧ r.2.mem ((c.tc : Thread Cert.QuantXIdeal.nD Cert.QuantXIdeal.τ).loc Cert.QuantXIdeal.main_v0_2) = v2 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0))
      ∧ θ_run (Cert.RefXIdeal.defs (F := Ideal)) (onTc (τ := Cert.RefXIdeal.τ) (Cert.RefXIdeal.main (F := Ideal))) ⟨m', fun _ => 0, g'⟩ (fun r => ∀ c : Dev Cert.RefXIdeal.nD,
          r.2.mem ((c.tc : Thread Cert.RefXIdeal.nD Cert.RefXIdeal.τ).loc Cert.RefXIdeal.main_v0_0) = v0 c
          ∧ r.2.mem ((c.tc : Thread Cert.RefXIdeal.nD Cert.RefXIdeal.τ).loc Cert.RefXIdeal.main_v0_1) = v1 c
          ∧ r.2.mem ((c.tc : Thread Cert.RefXIdeal.nD Cert.RefXIdeal.τ).loc Cert.RefXIdeal.main_v0_2) = v2 c
          ∧ r.2.mem ((c.tc : Thread Cert.RefXIdeal.nD Cert.RefXIdeal.τ).loc Cert.RefXIdeal.main_arg0) = m' ((c.tc : Thread Cert.RefXIdeal.nD Cert.RefXIdeal.τ).loc Cert.RefXIdeal.main_arg0))

def preserves_Primal_PrimalIdeal : Prop :=
  True

def algebraic_PrimalIdeal_RefPIdeal [hPrimalIdeal : Cert.PrimalIdeal.Facts] [hRefPIdeal : Cert.RefPIdeal.Facts] : Prop :=
  ∀ (m : (ℓ : Loc Cert.PrimalIdeal.nD Cert.PrimalIdeal.τ Cert.PrimalIdeal.sig) → Buf (Elt Ideal) ℓ) (g : Dev Cert.PrimalIdeal.nD → PrngReg)
    (m' : (ℓ : Loc Cert.RefPIdeal.nD Cert.RefPIdeal.τ Cert.RefPIdeal.sig) → Buf (Elt Ideal) ℓ) (g' : Dev Cert.RefPIdeal.nD → PrngReg), Pre_PrimalIdeal m →
    (∀ c : Dev Cert.PrimalIdeal.nD,
      m' ((c.tc : Thread Cert.RefPIdeal.nD Cert.RefPIdeal.τ).loc Cert.RefPIdeal.main_arg0) = m ((c.tc : Thread Cert.PrimalIdeal.nD Cert.PrimalIdeal.τ).loc Cert.PrimalIdeal.main_arg0)
      ∧ m' ((c.tc : Thread Cert.RefPIdeal.nD Cert.RefPIdeal.τ).loc Cert.RefPIdeal.main_arg1) = m ((c.tc : Thread Cert.PrimalIdeal.nD Cert.PrimalIdeal.τ).loc Cert.PrimalIdeal.main_arg1)
      ∧ m' ((c.tc : Thread Cert.RefPIdeal.nD Cert.RefPIdeal.τ).loc Cert.RefPIdeal.main_arg2) = m ((c.tc : Thread Cert.PrimalIdeal.nD Cert.PrimalIdeal.τ).loc Cert.PrimalIdeal.main_arg2)
      ∧ m' ((c.tc : Thread Cert.RefPIdeal.nD Cert.RefPIdeal.τ).loc Cert.RefPIdeal.main_arg3) = m ((c.tc : Thread Cert.PrimalIdeal.nD Cert.PrimalIdeal.τ).loc Cert.PrimalIdeal.main_arg3)
      ∧ m' ((c.tc : Thread Cert.RefPIdeal.nD Cert.RefPIdeal.τ).loc Cert.RefPIdeal.main_arg4) = m ((c.tc : Thread Cert.PrimalIdeal.nD Cert.PrimalIdeal.τ).loc Cert.PrimalIdeal.main_arg4)
      ∧ m' ((c.tc : Thread Cert.RefPIdeal.nD Cert.RefPIdeal.τ).loc Cert.RefPIdeal.main_arg5) = m ((c.tc : Thread Cert.PrimalIdeal.nD Cert.PrimalIdeal.τ).loc Cert.PrimalIdeal.main_arg5)) →
    ∃ (v0 : (c : Dev Cert.PrimalIdeal.nD) → Buf (Elt Ideal) ((c.tc : Thread Cert.PrimalIdeal.nD Cert.PrimalIdeal.τ).loc Cert.PrimalIdeal.main_v3_0)) (v1 : (c : Dev Cert.PrimalIdeal.nD) → Buf (Elt Ideal) ((c.tc : Thread Cert.PrimalIdeal.nD Cert.PrimalIdeal.τ).loc Cert.PrimalIdeal.main_v3_1)) (v2 : (c : Dev Cert.PrimalIdeal.nD) → Buf (Elt Ideal) ((c.tc : Thread Cert.PrimalIdeal.nD Cert.PrimalIdeal.τ).loc Cert.PrimalIdeal.main_v3_2)) (v3 : (c : Dev Cert.PrimalIdeal.nD) → Buf (Elt Ideal) ((c.tc : Thread Cert.PrimalIdeal.nD Cert.PrimalIdeal.τ).loc Cert.PrimalIdeal.main_v3_3)),
      θ_run (Cert.PrimalIdeal.defs (F := Ideal)) (onTc (τ := Cert.PrimalIdeal.τ) (Cert.PrimalIdeal.main (F := Ideal))) ⟨m, fun _ => 0, g⟩ (fun r => ∀ c : Dev Cert.PrimalIdeal.nD,
          r.2.mem ((c.tc : Thread Cert.PrimalIdeal.nD Cert.PrimalIdeal.τ).loc Cert.PrimalIdeal.main_v3_0) = v0 c
          ∧ r.2.mem ((c.tc : Thread Cert.PrimalIdeal.nD Cert.PrimalIdeal.τ).loc Cert.PrimalIdeal.main_v3_1) = v1 c
          ∧ r.2.mem ((c.tc : Thread Cert.PrimalIdeal.nD Cert.PrimalIdeal.τ).loc Cert.PrimalIdeal.main_v3_2) = v2 c
          ∧ r.2.mem ((c.tc : Thread Cert.PrimalIdeal.nD Cert.PrimalIdeal.τ).loc Cert.PrimalIdeal.main_v3_3) = v3 c
          ∧ r.2.mem ((c.tc : Thread Cert.PrimalIdeal.nD Cert.PrimalIdeal.τ).loc Cert.PrimalIdeal.main_arg0) = m ((c.tc : Thread Cert.PrimalIdeal.nD Cert.PrimalIdeal.τ).loc Cert.PrimalIdeal.main_arg0)
          ∧ r.2.mem ((c.tc : Thread Cert.PrimalIdeal.nD Cert.PrimalIdeal.τ).loc Cert.PrimalIdeal.main_arg1) = m ((c.tc : Thread Cert.PrimalIdeal.nD Cert.PrimalIdeal.τ).loc Cert.PrimalIdeal.main_arg1)
          ∧ r.2.mem ((c.tc : Thread Cert.PrimalIdeal.nD Cert.PrimalIdeal.τ).loc Cert.PrimalIdeal.main_arg2) = m ((c.tc : Thread Cert.PrimalIdeal.nD Cert.PrimalIdeal.τ).loc Cert.PrimalIdeal.main_arg2)
          ∧ r.2.mem ((c.tc : Thread Cert.PrimalIdeal.nD Cert.PrimalIdeal.τ).loc Cert.PrimalIdeal.main_arg3) = m ((c.tc : Thread Cert.PrimalIdeal.nD Cert.PrimalIdeal.τ).loc Cert.PrimalIdeal.main_arg3)
          ∧ r.2.mem ((c.tc : Thread Cert.PrimalIdeal.nD Cert.PrimalIdeal.τ).loc Cert.PrimalIdeal.main_arg4) = m ((c.tc : Thread Cert.PrimalIdeal.nD Cert.PrimalIdeal.τ).loc Cert.PrimalIdeal.main_arg4)
          ∧ r.2.mem ((c.tc : Thread Cert.PrimalIdeal.nD Cert.PrimalIdeal.τ).loc Cert.PrimalIdeal.main_arg5) = m ((c.tc : Thread Cert.PrimalIdeal.nD Cert.PrimalIdeal.τ).loc Cert.PrimalIdeal.main_arg5))
      ∧ θ_run (Cert.RefPIdeal.defs (F := Ideal)) (onTc (τ := Cert.RefPIdeal.τ) (Cert.RefPIdeal.main (F := Ideal))) ⟨m', fun _ => 0, g'⟩ (fun r => ∀ c : Dev Cert.RefPIdeal.nD,
          r.2.mem ((c.tc : Thread Cert.RefPIdeal.nD Cert.RefPIdeal.τ).loc Cert.RefPIdeal.main_v3_0) = v0 c
          ∧ r.2.mem ((c.tc : Thread Cert.RefPIdeal.nD Cert.RefPIdeal.τ).loc Cert.RefPIdeal.main_v3_1) = v1 c
          ∧ r.2.mem ((c.tc : Thread Cert.RefPIdeal.nD Cert.RefPIdeal.τ).loc Cert.RefPIdeal.main_v3_2) = v2 c
          ∧ r.2.mem ((c.tc : Thread Cert.RefPIdeal.nD Cert.RefPIdeal.τ).loc Cert.RefPIdeal.main_v3_3) = v3 c
          ∧ r.2.mem ((c.tc : Thread Cert.RefPIdeal.nD Cert.RefPIdeal.τ).loc Cert.RefPIdeal.main_arg0) = m' ((c.tc : Thread Cert.RefPIdeal.nD Cert.RefPIdeal.τ).loc Cert.RefPIdeal.main_arg0)
          ∧ r.2.mem ((c.tc : Thread Cert.RefPIdeal.nD Cert.RefPIdeal.τ).loc Cert.RefPIdeal.main_arg1) = m' ((c.tc : Thread Cert.RefPIdeal.nD Cert.RefPIdeal.τ).loc Cert.RefPIdeal.main_arg1)
          ∧ r.2.mem ((c.tc : Thread Cert.RefPIdeal.nD Cert.RefPIdeal.τ).loc Cert.RefPIdeal.main_arg2) = m' ((c.tc : Thread Cert.RefPIdeal.nD Cert.RefPIdeal.τ).loc Cert.RefPIdeal.main_arg2)
          ∧ r.2.mem ((c.tc : Thread Cert.RefPIdeal.nD Cert.RefPIdeal.τ).loc Cert.RefPIdeal.main_arg3) = m' ((c.tc : Thread Cert.RefPIdeal.nD Cert.RefPIdeal.τ).loc Cert.RefPIdeal.main_arg3)
          ∧ r.2.mem ((c.tc : Thread Cert.RefPIdeal.nD Cert.RefPIdeal.τ).loc Cert.RefPIdeal.main_arg4) = m' ((c.tc : Thread Cert.RefPIdeal.nD Cert.RefPIdeal.τ).loc Cert.RefPIdeal.main_arg4)
          ∧ r.2.mem ((c.tc : Thread Cert.RefPIdeal.nD Cert.RefPIdeal.τ).loc Cert.RefPIdeal.main_arg5) = m' ((c.tc : Thread Cert.RefPIdeal.nD Cert.RefPIdeal.τ).loc Cert.RefPIdeal.main_arg5))

def preserves_Trace_TraceIdeal : Prop :=
  True

def algebraic_TraceIdeal_RefTraceIdeal [hTraceIdeal : Cert.TraceIdeal.Facts] [hRefTraceIdeal : Cert.RefTraceIdeal.Facts] : Prop :=
  ∀ (m : (ℓ : Loc Cert.TraceIdeal.nD Cert.TraceIdeal.τ Cert.TraceIdeal.sig) → Buf (Elt Ideal) ℓ) (g : Dev Cert.TraceIdeal.nD → PrngReg)
    (m' : (ℓ : Loc Cert.RefTraceIdeal.nD Cert.RefTraceIdeal.τ Cert.RefTraceIdeal.sig) → Buf (Elt Ideal) ℓ) (g' : Dev Cert.RefTraceIdeal.nD → PrngReg), Pre_TraceIdeal m →
    (∀ c : Dev Cert.TraceIdeal.nD,
      m' ((c.tc : Thread Cert.RefTraceIdeal.nD Cert.RefTraceIdeal.τ).loc Cert.RefTraceIdeal.main_arg0) = m ((c.tc : Thread Cert.TraceIdeal.nD Cert.TraceIdeal.τ).loc Cert.TraceIdeal.main_arg0)
      ∧ m' ((c.tc : Thread Cert.RefTraceIdeal.nD Cert.RefTraceIdeal.τ).loc Cert.RefTraceIdeal.main_arg1) = m ((c.tc : Thread Cert.TraceIdeal.nD Cert.TraceIdeal.τ).loc Cert.TraceIdeal.main_arg1)
      ∧ m' ((c.tc : Thread Cert.RefTraceIdeal.nD Cert.RefTraceIdeal.τ).loc Cert.RefTraceIdeal.main_arg2) = m ((c.tc : Thread Cert.TraceIdeal.nD Cert.TraceIdeal.τ).loc Cert.TraceIdeal.main_arg2)) →
    ∃ (v0 : (c : Dev Cert.TraceIdeal.nD) → Buf (Elt Ideal) ((c.tc : Thread Cert.TraceIdeal.nD Cert.TraceIdeal.τ).loc Cert.TraceIdeal.main_v0)),
      θ_run (Cert.TraceIdeal.defs (F := Ideal)) (onTc (τ := Cert.TraceIdeal.τ) (Cert.TraceIdeal.main (F := Ideal))) ⟨m, fun _ => 0, g⟩ (fun r => ∀ c : Dev Cert.TraceIdeal.nD,
          r.2.mem ((c.tc : Thread Cert.TraceIdeal.nD Cert.TraceIdeal.τ).loc Cert.TraceIdeal.main_v0) = v0 c
          ∧ r.2.mem ((c.tc : Thread Cert.TraceIdeal.nD Cert.TraceIdeal.τ).loc Cert.TraceIdeal.main_arg0) = m ((c.tc : Thread Cert.TraceIdeal.nD Cert.TraceIdeal.τ).loc Cert.TraceIdeal.main_arg0)
          ∧ r.2.mem ((c.tc : Thread Cert.TraceIdeal.nD Cert.TraceIdeal.τ).loc Cert.TraceIdeal.main_arg1) = m ((c.tc : Thread Cert.TraceIdeal.nD Cert.TraceIdeal.τ).loc Cert.TraceIdeal.main_arg1)
          ∧ r.2.mem ((c.tc : Thread Cert.TraceIdeal.nD Cert.TraceIdeal.τ).loc Cert.TraceIdeal.main_arg2) = m ((c.tc : Thread Cert.TraceIdeal.nD Cert.TraceIdeal.τ).loc Cert.TraceIdeal.main_arg2))
      ∧ θ_run (Cert.RefTraceIdeal.defs (F := Ideal)) (onTc (τ := Cert.RefTraceIdeal.τ) (Cert.RefTraceIdeal.main (F := Ideal))) ⟨m', fun _ => 0, g'⟩ (fun r => ∀ c : Dev Cert.RefTraceIdeal.nD,
          r.2.mem ((c.tc : Thread Cert.RefTraceIdeal.nD Cert.RefTraceIdeal.τ).loc Cert.RefTraceIdeal.main_v8) = v0 c
          ∧ r.2.mem ((c.tc : Thread Cert.RefTraceIdeal.nD Cert.RefTraceIdeal.τ).loc Cert.RefTraceIdeal.main_arg0) = m' ((c.tc : Thread Cert.RefTraceIdeal.nD Cert.RefTraceIdeal.τ).loc Cert.RefTraceIdeal.main_arg0)
          ∧ r.2.mem ((c.tc : Thread Cert.RefTraceIdeal.nD Cert.RefTraceIdeal.τ).loc Cert.RefTraceIdeal.main_arg1) = m' ((c.tc : Thread Cert.RefTraceIdeal.nD Cert.RefTraceIdeal.τ).loc Cert.RefTraceIdeal.main_arg1)
          ∧ r.2.mem ((c.tc : Thread Cert.RefTraceIdeal.nD Cert.RefTraceIdeal.τ).loc Cert.RefTraceIdeal.main_arg2) = m' ((c.tc : Thread Cert.RefTraceIdeal.nD Cert.RefTraceIdeal.τ).loc Cert.RefTraceIdeal.main_arg2))

def Claim : Prop :=
  ∃ (hDownY : Cert.DownY.Facts) (hDownYIdeal : Cert.DownYIdeal.Facts) (hRefYIdeal : Cert.RefYIdeal.Facts) (hDownT : Cert.DownT.Facts) (hDownTIdeal : Cert.DownTIdeal.Facts) (hRefTIdeal : Cert.RefTIdeal.Facts) (hDownV : Cert.DownV.Facts) (hDownVIdeal : Cert.DownVIdeal.Facts) (hRefVIdeal : Cert.RefVIdeal.Facts) (hTangent : Cert.Tangent.Facts) (hTangentIdeal : Cert.TangentIdeal.Facts) (hRefGIdeal : Cert.RefGIdeal.Facts) (hQuantX : Cert.QuantX.Facts) (hQuantXIdeal : Cert.QuantXIdeal.Facts) (hRefXIdeal : Cert.RefXIdeal.Facts) (hPrimal : Cert.Primal.Facts) (hPrimalIdeal : Cert.PrimalIdeal.Facts) (hRefPIdeal : Cert.RefPIdeal.Facts) (hTrace : Cert.Trace.Facts) (hTraceIdeal : Cert.TraceIdeal.Facts) (hRefTraceIdeal : Cert.RefTraceIdeal.Facts),
    quiescent_DownY (hDownY := hDownY)
    ∧ quiescent_DownYIdeal (hDownYIdeal := hDownYIdeal)
    ∧ quiescent_RefYIdeal (hRefYIdeal := hRefYIdeal)
    ∧ quiescent_DownT (hDownT := hDownT)
    ∧ quiescent_DownTIdeal (hDownTIdeal := hDownTIdeal)
    ∧ quiescent_RefTIdeal (hRefTIdeal := hRefTIdeal)
    ∧ quiescent_DownV (hDownV := hDownV)
    ∧ quiescent_DownVIdeal (hDownVIdeal := hDownVIdeal)
    ∧ quiescent_RefVIdeal (hRefVIdeal := hRefVIdeal)
    ∧ quiescent_Tangent (hTangent := hTangent)
    ∧ quiescent_TangentIdeal (hTangentIdeal := hTangentIdeal)
    ∧ quiescent_RefGIdeal (hRefGIdeal := hRefGIdeal)
    ∧ quiescent_QuantX (hQuantX := hQuantX)
    ∧ quiescent_QuantXIdeal (hQuantXIdeal := hQuantXIdeal)
    ∧ quiescent_RefXIdeal (hRefXIdeal := hRefXIdeal)
    ∧ quiescent_Primal (hPrimal := hPrimal)
    ∧ quiescent_PrimalIdeal (hPrimalIdeal := hPrimalIdeal)
    ∧ quiescent_RefPIdeal (hRefPIdeal := hRefPIdeal)
    ∧ quiescent_Trace (hTrace := hTrace)
    ∧ quiescent_TraceIdeal (hTraceIdeal := hTraceIdeal)
    ∧ quiescent_RefTraceIdeal (hRefTraceIdeal := hRefTraceIdeal)
    ∧ preserves_DownY_DownYIdeal
    ∧ algebraic_DownYIdeal_RefYIdeal (hDownYIdeal := hDownYIdeal) (hRefYIdeal := hRefYIdeal)
    ∧ preserves_DownT_DownTIdeal
    ∧ algebraic_DownTIdeal_RefTIdeal (hDownTIdeal := hDownTIdeal) (hRefTIdeal := hRefTIdeal)
    ∧ preserves_DownV_DownVIdeal
    ∧ algebraic_DownVIdeal_RefVIdeal (hDownVIdeal := hDownVIdeal) (hRefVIdeal := hRefVIdeal)
    ∧ preserves_Tangent_TangentIdeal
    ∧ algebraic_TangentIdeal_RefGIdeal (hTangentIdeal := hTangentIdeal) (hRefGIdeal := hRefGIdeal)
    ∧ preserves_QuantX_QuantXIdeal
    ∧ algebraic_QuantXIdeal_RefXIdeal (hQuantXIdeal := hQuantXIdeal) (hRefXIdeal := hRefXIdeal)
    ∧ preserves_Primal_PrimalIdeal
    ∧ algebraic_PrimalIdeal_RefPIdeal (hPrimalIdeal := hPrimalIdeal) (hRefPIdeal := hRefPIdeal)
    ∧ preserves_Trace_TraceIdeal
    ∧ algebraic_TraceIdeal_RefTraceIdeal (hTraceIdeal := hTraceIdeal) (hRefTraceIdeal := hRefTraceIdeal)
-- ==== DownY.lean ====
abbrev S4096x6912 : Shape := ⟨2, ![4096, 6912]⟩
abbrev S4096 : Shape := ⟨1, ![4096]⟩
abbrev S6912x2560 : Shape := ⟨2, ![6912, 2560]⟩
abbrev S2560 : Shape := ⟨1, ![2560]⟩
abbrev S8x1x512 : Shape := ⟨3, ![8, 1, 512]⟩
abbrev S1x2560 : Shape := ⟨2, ![1, 2560]⟩
abbrev S4096x2560 : Shape := ⟨2, ![4096, 2560]⟩
abbrev S512x6912 : Shape := ⟨2, ![512, 6912]⟩
abbrev S1x1x512 : Shape := ⟨3, ![1, 1, 512]⟩
abbrev S512x2560 : Shape := ⟨2, ![512, 2560]⟩
abbrev S1x512 : Shape := ⟨2, ![1, 512]⟩
abbrev S128x512 : Shape := ⟨2, ![128, 512]⟩
abbrev S512x128 : Shape := ⟨2, ![512, 128]⟩
abbrev S512x256 : Shape := ⟨2, ![512, 256]⟩
abbrev S6912x256 : Shape := ⟨2, ![6912, 256]⟩
abbrev S1x256 : Shape := ⟨2, ![1, 256]⟩

abbrev nBuf : Space → Nat
  | .hbm => 7
  | .vmem => 8
  | .smem => 0
  | _ => 0

abbrev bufTy : (tb : Table) → Fin (tcTables nBuf tb) → BufTy
  | .hbm, ⟨0, _⟩ => ⟨S4096x6912, .fp8e4m3⟩
  | .hbm, ⟨1, _⟩ => ⟨S4096, .f32⟩
  | .hbm, ⟨2, _⟩ => ⟨S6912x2560, .fp8e4m3⟩
  | .hbm, ⟨3, _⟩ => ⟨S2560, .f32⟩
  | .hbm, ⟨4, _⟩ => ⟨S8x1x512, .f32⟩
  | .hbm, ⟨5, _⟩ => ⟨S1x2560, .f32⟩
  | .hbm, ⟨6, _⟩ => ⟨S4096x2560, .bf16⟩
  | .local _ .vmem, ⟨0, _⟩ => ⟨S512x6912, .fp8e4m3⟩
  | .local _ .vmem, ⟨1, _⟩ => ⟨S512x6912, .fp8e4m3⟩
  | .local _ .vmem, ⟨2, _⟩ => ⟨S1x1x512, .f32⟩
  | .local _ .vmem, ⟨3, _⟩ => ⟨S1x1x512, .f32⟩
  | .local _ .vmem, ⟨4, _⟩ => ⟨S6912x2560, .fp8e4m3⟩
  | .local _ .vmem, ⟨5, _⟩ => ⟨S1x2560, .f32⟩
  | .local _ .vmem, ⟨6, _⟩ => ⟨S512x2560, .bf16⟩
  | .local _ .vmem, ⟨7, _⟩ => ⟨S512x2560, .bf16⟩
  | _, _ => ⟨S4096x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6912 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefYIdeal.lean ====
abbrev S4096x6912 : Shape := ⟨2, ![4096, 6912]⟩
abbrev S4096 : Shape := ⟨1, ![4096]⟩
abbrev S6912x2560 : Shape := ⟨2, ![6912, 2560]⟩
abbrev S2560 : Shape := ⟨1, ![2560]⟩
abbrev S4096x1 : Shape := ⟨2, ![4096, 1]⟩
abbrev S1x2560 : Shape := ⟨2, ![1, 2560]⟩
abbrev S4096x2560 : Shape := ⟨2, ![4096, 2560]⟩

abbrev nBuf : Space → Nat
  | .hbm => 7
  | .vmem => 5
  | .smem => 0
  | _ => 0

abbrev bufTy : (tb : Table) → Fin (tcTables nBuf tb) → BufTy
  | .hbm, ⟨0, _⟩ => ⟨S4096x6912, .fp8e4m3⟩
  | .hbm, ⟨1, _⟩ => ⟨S4096, .f32⟩
  | .hbm, ⟨2, _⟩ => ⟨S6912x2560, .fp8e4m3⟩
  | .hbm, ⟨3, _⟩ => ⟨S2560, .f32⟩
  | .hbm, ⟨4, _⟩ => ⟨S4096x1, .f32⟩
  | .hbm, ⟨5, _⟩ => ⟨S1x2560, .f32⟩
  | .hbm, ⟨6, _⟩ => ⟨S4096x2560, .bf16⟩
  | .local _ .vmem, ⟨0, _⟩ => ⟨S4096x6912, .fp8e4m3⟩
  | .local _ .vmem, ⟨1, _⟩ => ⟨S4096x1, .f32⟩
  | .local _ .vmem, ⟨2, _⟩ => ⟨S6912x2560, .fp8e4m3⟩
  | .local _ .vmem, ⟨3, _⟩ => ⟨S1x2560, .f32⟩
  | .local _ .vmem, ⟨4, _⟩ => ⟨S4096x2560, .bf16⟩
  | _, _ => ⟨S4096x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DownT.lean ====
abbrev S8x4096x6912 : Shape := ⟨3, ![8, 4096, 6912]⟩
abbrev S8x4096 : Shape := ⟨2, ![8, 4096]⟩
abbrev S6912x2560 : Shape := ⟨2, ![6912, 2560]⟩
abbrev S2560 : Shape := ⟨1, ![2560]⟩
abbrev S8x8x1x512 : Shape := ⟨4, ![8, 8, 1, 512]⟩
abbrev S1x2560 : Shape := ⟨2, ![1, 2560]⟩
abbrev S4096x2560 : Shape := ⟨2, ![4096, 2560]⟩
abbrev S1x512x6912 : Shape := ⟨3, ![1, 512, 6912]⟩
abbrev S1x1x1x512 : Shape := ⟨4, ![1, 1, 1, 512]⟩
abbrev S512x2560 : Shape := ⟨2, ![512, 2560]⟩
abbrev S1x512 : Shape := ⟨2, ![1, 512]⟩
abbrev S128x512 : Shape := ⟨2, ![128, 512]⟩
abbrev S512x128 : Shape := ⟨2, ![512, 128]⟩
abbrev S512x256 : Shape := ⟨2, ![512, 256]⟩
abbrev S512x6912 : Shape := ⟨2, ![512, 6912]⟩
abbrev S6912x256 : Shape := ⟨2, ![6912, 256]⟩
abbrev S1x256 : Shape := ⟨2, ![1, 256]⟩
abbrev S512 : Shape := ⟨1, ![512]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x6912, .fp8e4m3⟩
  | .hbm, ⟨1, _⟩ => ⟨S8x4096, .f32⟩
  | .hbm, ⟨2, _⟩ => ⟨S6912x2560, .fp8e4m3⟩
  | .hbm, ⟨3, _⟩ => ⟨S2560, .f32⟩
  | .hbm, ⟨4, _⟩ => ⟨S8x8x1x512, .f32⟩
  | .hbm, ⟨5, _⟩ => ⟨S1x2560, .f32⟩
  | .hbm, ⟨6, _⟩ => ⟨S4096x2560, .f32⟩
  | .hbm, ⟨7, _⟩ => ⟨S8x8x1x512, .f32⟩
  | .local _ .vmem, ⟨0, _⟩ => ⟨S1x512x6912, .fp8e4m3⟩
  | .local _ .vmem, ⟨1, _⟩ => ⟨S1x512x6912, .fp8e4m3⟩
  | .local _ .vmem, ⟨2, _⟩ => ⟨S1x1x1x512, .f32⟩
  | .local _ .vmem, ⟨3, _⟩ => ⟨S1x1x1x512, .f32⟩
  | .local _ .vmem, ⟨4, _⟩ => ⟨S6912x2560, .fp8e4m3⟩
  | .local _ .vmem, ⟨5, _⟩ => ⟨S1x2560, .f32⟩
  | .local _ .vmem, ⟨6, _⟩ => ⟨S512x2560, .f32⟩
  | .local _ .vmem, ⟨7, _⟩ => ⟨S512x2560, .f32⟩
  | .local _ .vmem, ⟨8, _⟩ => ⟨S1x1x1x512, .f32⟩
  | .local _ .vmem, ⟨9, _⟩ => ⟨S1x1x1x512, .f32⟩
  | _, _ => ⟨S8x4096x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![v0.toNat, arg0.toNat, c0_i32.toNat, c0_i32_0.toNat]

abbrev stage0_0 : Fin 2 → Memref sig .tc .vmem S1x512x6912 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefTIdeal.lean ====
abbrev S8x4096x6912 : Shape := ⟨3, ![8, 4096, 6912]⟩
abbrev S8x4096 : Shape := ⟨2, ![8, 4096]⟩
abbrev S6912x2560 : Shape := ⟨2, ![6912, 2560]⟩
abbrev S2560 : Shape := ⟨1, ![2560]⟩
abbrev S8x4096x1 : Shape := ⟨3, ![8, 4096, 1]⟩
abbrev S1x1x2560 : Shape := ⟨3, ![1, 1, 2560]⟩
abbrev S4096x2560 : Shape := ⟨2, ![4096, 2560]⟩
abbrev S8x8x1x512 : Shape := ⟨4, ![8, 8, 1, 512]⟩
abbrev S32768x6912 : Shape := ⟨2, ![32768, 6912]⟩
abbrev S32768x2560 : Shape := ⟨2, ![32768, 2560]⟩
abbrev S8x4096x2560 : Shape := ⟨3, ![8, 4096, 2560]⟩
abbrev S1x4096x2560 : Shape := ⟨3, ![1, 4096, 2560]⟩

abbrev nBuf : Space → Nat
  | .hbm => 8
  | .vmem => 6
  | .smem => 0
  | _ => 0

abbrev bufTy : (tb : Table) → Fin (tcTables nBuf tb) → BufTy
  | .hbm, ⟨0, _⟩ => ⟨S8x4096x6912, .fp8e4m3⟩
  | .hbm, ⟨1, _⟩ => ⟨S8x4096, .f32⟩
  | .hbm, ⟨2, _⟩ => ⟨S6912x2560, .fp8e4m3⟩
  | .hbm, ⟨3, _⟩ => ⟨S2560, .f32⟩
  | .hbm, ⟨4, _⟩ => ⟨S8x4096x1, .f32⟩
  | .hbm, ⟨5, _⟩ => ⟨S1x1x2560, .f32⟩
  | .hbm, ⟨6, _⟩ => ⟨S4096x2560, .f32⟩
  | .hbm, ⟨7, _⟩ => ⟨S8x8x1x512, .f32⟩
  | .local _ .vmem, ⟨0, _⟩ => ⟨S8x4096x6912, .fp8e4m3⟩
  | .local _ .vmem, ⟨1, _⟩ => ⟨S8x4096x1, .f32⟩
  | .local _ .vmem, ⟨2, _⟩ => ⟨S6912x2560, .fp8e4m3⟩
  | .local _ .vmem, ⟨3, _⟩ => ⟨S1x1x2560, .f32⟩
  | .local _ .vmem, ⟨4, _⟩ => ⟨S4096x2560, .f32⟩
  | .local _ .vmem, ⟨5, _⟩ => ⟨S8x8x1x512, .f32⟩
  | _, _ => ⟨S8x4096x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x4096x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DownV.lean ====
abbrev S4096x6912 : Shape := ⟨2, ![4096, 6912]⟩
abbrev S4096 : Shape := ⟨1, ![4096]⟩
abbrev S8x6912x2560 : Shape := ⟨3, ![8, 6912, 2560]⟩
abbrev S8x1x512 : Shape := ⟨3, ![8, 1, 512]⟩
abbrev S4096x2560 : Shape := ⟨2, ![4096, 2560]⟩
abbrev S8x8x1x512 : Shape := ⟨4, ![8, 8, 1, 512]⟩
abbrev S512x6912 : Shape := ⟨2, ![512, 6912]⟩
abbrev S1x1x512 : Shape := ⟨3, ![1, 1, 512]⟩
abbrev S1x6912x1280 : Shape := ⟨3, ![1, 6912, 1280]⟩
abbrev S512x2560 : Shape := ⟨2, ![512, 2560]⟩
abbrev S1x1x1x512 : Shape := ⟨4, ![1, 1, 1, 512]⟩
abbrev S512x128 : Shape := ⟨2, ![512, 128]⟩
abbrev S1x512 : Shape := ⟨2, ![1, 512]⟩
abbrev S128x512 : Shape := ⟨2, ![128, 512]⟩
abbrev S512x256 : Shape := ⟨2, ![512, 256]⟩
abbrev S1x6912x256 : Shape := ⟨3, ![1, 6912, 256]⟩
abbrev S6912x256 : Shape := ⟨2, ![6912, 256]⟩
abbrev S512 : Shape := ⟨1, ![512]⟩

abbrev nBuf : Space → Nat
  | .hbm => 6
  | .vmem => 12
  | .smem => 0
  | _ => 0

abbrev bufTy : (tb : Table) → Fin (tcTables nBuf tb) → BufTy
  | .hbm, ⟨0, _⟩ => ⟨S4096x6912, .fp8e4m3⟩
  | .hbm, ⟨1, _⟩ => ⟨S4096, .f32⟩
  | .hbm, ⟨2, _⟩ => ⟨S8x6912x2560, .i8⟩
  | .hbm, ⟨3, _⟩ => ⟨S8x1x512, .f32⟩
  | .hbm, ⟨4, _⟩ => ⟨S4096x2560, .f32⟩
  | .hbm, ⟨5, _⟩ => ⟨S8x8x1x512, .f32⟩
  | .local _ .vmem, ⟨0, _⟩ => ⟨S512x6912, .fp8e4m3⟩
  | .local _ .vmem, ⟨1, _⟩ => ⟨S512x6912, .fp8e4m3⟩
  | .local _ .vmem, ⟨2, _⟩ => ⟨S1x1x512, .f32⟩
  | .local _ .vmem, ⟨3, _⟩ => ⟨S1x1x512, .f32⟩
  | .local _ .vmem, ⟨4, _⟩ => ⟨S1x6912x1280, .i8⟩
  | .local _ .vmem, ⟨5, _⟩ => ⟨S1x6912x1280, .i8⟩
  | .local _ .vmem, ⟨6, _⟩ => ⟨S512x2560, .f32⟩
  | .local _ .vmem, ⟨7, _⟩ => ⟨S512x2560, .f32⟩
  | .local _ .vmem, ⟨8, _⟩ => ⟨S1x1x1x512, .f32⟩
  | .local _ .vmem, ⟨9, _⟩ => ⟨S1x1x1x512, .f32⟩
  | .local _ .vmem, ⟨10, _⟩ => ⟨S512x6912, .bf16⟩
  | .local _ .vmem, ⟨11, _⟩ => ⟨S512x128, .f32⟩
  | _, _ => ⟨S4096x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 2], ![false, false, false]⟩

def k0_mult1 (i : grid0.Coords) : BitVec 32 :=
  let arg2 : BitVec 32 := BitVec.ofNat 32 (i 2).val
  let c1280_i32 : BitVec 32 := 1280#32
  let v21 : BitVec 32 := Scalar.muli arg2 c1280_i32
  let c0_i32_13 : BitVec 32 := 0#32
  let v22 : BitVec 32 := Scalar.addi v21 c0_i32_13
  v22
def k0_off1 (i : grid0.Coords) (c0_i32_13 : BitVec 32) : Fin 2 → Nat :=
  let c0_14 : Index := 0#32
  let arg2 : BitVec 32 := BitVec.ofNat 32 (i 2).val
  let c1280_i32 : BitVec 32 := 1280#32
  let v21 : BitVec 32 := Scalar.muli arg2 c1280_i32
  let v22 : BitVec 32 := Scalar.addi v21 c0_i32_13
  let v23 : BitVec 32 := v22
  let v24 : Index := Scalar.indexCast v23
  ![0, v24.toNat]
def k0_mult2 (i : grid0.Coords) : BitVec 32 :=
  let arg2 : BitVec 32 := BitVec.ofNat 32 (i 2).val
  let c1280_i32_20 : BitVec 32 := 1280#32
  let v37 : BitVec 32 := Scalar.muli arg2 c1280_i32_20
  let c256_i32 : BitVec 32 := 256#32
  let v38 : BitVec 32 := Scalar.addi v37 c256_i32
  v38
def k0_mult3 (i : grid0.Coords) : BitVec 32 :=
  let arg2 : BitVec 32 := BitVec.ofNat 32 (i 2).val
  let c1280_i32_27 : BitVec 32 := 1280#32
  let v53 : BitVec 32 := Scalar.muli arg2 c1280_i32_27
  let c512_i32 : BitVec 32 := 512#32
  let v54 : BitVec 32 := Scalar.addi v53 c512_i32
  v54
def k0_mult4 (i : grid0.Coords) : BitVec 32 :=
  let arg2 : BitVec 32 := BitVec.ofNat 32 (i 2).val
  let c1280_i32_34 : BitVec 32 := 1280#32
  let v69 : BitVec 32 := Scalar.muli arg2 c1280_i32_34
  let c768_i32 : BitVec 32 := 768#32
  let v70 : BitVec 32 := Scalar.addi v69 c768_i32
  v70
def k0_mult5 (i : grid0.Coords) : BitVec 32 :=
  let arg2 : BitVec 32 := BitVec.ofNat 32 (i 2).val
  let c1280_i32_41 : BitVec 32 := 1280#32
  let v85 : BitVec 32 := Scalar.muli arg2 c1280_i32_41
  let c1024_i32 : BitVec 32 := 1024#32
  let v86 : BitVec 32 := Scalar.addi v85 c1024_i32
  v86
def k0_cond2 (i : grid0.Coords) : BitVec 1 :=
  let arg2 : BitVec 32 := BitVec.ofNat 32 (i 2).val
  let c1_i32 : BitVec 32 := 1#32
  let v98 : BitVec 1 := Scalar.cmpi .eq arg2 c1_i32
  let v99 : BitVec 32 := Scalar.extui v98
  let c0_i32_45 : BitVec 32 := 0#32
  let v100 : BitVec 1 := Scalar.cmpi .ne v99 c0_i32_45
  v100

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg1
  let c0_i32 : BitVec 32 := 0#32
  let c0_i32_0 : BitVec 32 := 0#32
  ![v0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![v0.toNat, arg0.toNat, c0_i32.toNat, c0_i32_0.toNat]

abbrev stage0_0 : Fin 2 → Memref sig .tc .vmem S512x6912 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x6912x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefVIdeal.lean ====
abbrev S4096x6912 : Shape := ⟨2, ![4096, 6912]⟩
abbrev S4096 : Shape := ⟨1, ![4096]⟩
abbrev S8x6912x2560 : Shape := ⟨3, ![8, 6912, 2560]⟩
abbrev S1x4096x1 : Shape := ⟨3, ![1, 4096, 1]⟩
abbrev S4096x2560 : Shape := ⟨2, ![4096, 2560]⟩
abbrev S8x8x1x512 : Shape := ⟨4, ![8, 8, 1, 512]⟩
abbrev S1x4096x6912 : Shape := ⟨3, ![1, 4096, 6912]⟩
abbrev S8x4096x6912 : Shape := ⟨3, ![8, 4096, 6912]⟩
abbrev S8x4096x2560 : Shape := ⟨3, ![8, 4096, 2560]⟩
abbrev S1x4096x2560 : Shape := ⟨3, ![1, 4096, 2560]⟩
abbrev S8x4096 : Shape := ⟨2, ![8, 4096]⟩

abbrev nBuf : Space → Nat
  | .hbm => 6
  | .vmem => 5
  | .smem => 0
  | _ => 0

abbrev bufTy : (tb : Table) → Fin (tcTables nBuf tb) → BufTy
  | .hbm, ⟨0, _⟩ => ⟨S4096x6912, .fp8e4m3⟩
  | .hbm, ⟨1, _⟩ => ⟨S4096, .f32⟩
  | .hbm, ⟨2, _⟩ => ⟨S8x6912x2560, .i8⟩
  | .hbm, ⟨3, _⟩ => ⟨S1x4096x1, .f32⟩
  | .hbm, ⟨4, _⟩ => ⟨S4096x2560, .f32⟩
  | .hbm, ⟨5, _⟩ => ⟨S8x8x1x512, .f32⟩
  | .local _ .vmem, ⟨0, _⟩ => ⟨S4096x6912, .fp8e4m3⟩
  | .local _ .vmem, ⟨1, _⟩ => ⟨S1x4096x1, .f32⟩
  | .local _ .vmem, ⟨2, _⟩ => ⟨S8x6912x2560, .i8⟩
  | .local _ .vmem, ⟨3, _⟩ => ⟨S4096x2560, .f32⟩
  | .local _ .vmem, ⟨4, _⟩ => ⟨S8x8x1x512, .f32⟩
  | _, _ => ⟨S4096x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x6912x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Tangent.lean ====
abbrev S4096x2560 : Shape := ⟨2, ![4096, 2560]⟩
abbrev S4096 : Shape := ⟨1, ![4096]⟩
abbrev S8x2560x6912 : Shape := ⟨3, ![8, 2560, 6912]⟩
abbrev S4096x6912 : Shape := ⟨2, ![4096, 6912]⟩
abbrev S8x1x512 : Shape := ⟨3, ![8, 1, 512]⟩
abbrev S8x4096x6912 : Shape := ⟨3, ![8, 4096, 6912]⟩
abbrev S8x8x1x512 : Shape := ⟨4, ![8, 8, 1, 512]⟩
abbrev S512x2560 : Shape := ⟨2, ![512, 2560]⟩
abbrev S1x1x512 : Shape := ⟨3, ![1, 1, 512]⟩
abbrev S1x2560x2304 : Shape := ⟨3, ![1, 2560, 2304]⟩
abbrev S512x2304 : Shape := ⟨2, ![512, 2304]⟩
abbrev S1x512x2304 : Shape := ⟨3, ![1, 512, 2304]⟩
abbrev S1x1x1x512 : Shape := ⟨4, ![1, 1, 1, 512]⟩
abbrev S512x6912 : Shape := ⟨2, ![512, 6912]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S512x256 : Shape := ⟨2, ![512, 256]⟩
abbrev S1x2560x256 : Shape := ⟨3, ![1, 2560, 256]⟩
abbrev S2560x256 : Shape := ⟨2, ![2560, 256]⟩

abbrev nBuf : Space → Nat
  | .hbm => 7
  | .vmem => 15
  | .smem => 0
  | _ => 0

abbrev bufTy : (tb : Table) → Fin (tcTables nBuf tb) → BufTy
  | .hbm, ⟨0, _⟩ => ⟨S4096x2560, .bf16⟩
  | .hbm, ⟨1, _⟩ => ⟨S4096, .f32⟩
  | .hbm, ⟨2, _⟩ => ⟨S8x2560x6912, .i8⟩
  | .hbm, ⟨3, _⟩ => ⟨S4096x6912, .f32⟩
  | .hbm, ⟨4, _⟩ => ⟨S8x1x512, .f32⟩
  | .hbm, ⟨5, _⟩ => ⟨S8x4096x6912, .fp8e4m3⟩
  | .hbm, ⟨6, _⟩ => ⟨S8x8x1x512, .f32⟩
  | .local _ .vmem, ⟨0, _⟩ => ⟨S512x2560, .bf16⟩
  | .local _ .vmem, ⟨1, _⟩ => ⟨S512x2560, .bf16⟩
  | .local _ .vmem, ⟨2, _⟩ => ⟨S1x1x512, .f32⟩
  | .local _ .vmem, ⟨3, _⟩ => ⟨S1x1x512, .f32⟩
  | .local _ .vmem, ⟨4, _⟩ => ⟨S1x2560x2304, .i8⟩
  | .local _ .vmem, ⟨5, _⟩ => ⟨S1x2560x2304, .i8⟩
  | .local _ .vmem, ⟨6, _⟩ => ⟨S512x2304, .f32⟩
  | .local _ .vmem, ⟨7, _⟩ => ⟨S512x2304, .f32⟩
  | .local _ .vmem, ⟨8, _⟩ => ⟨S1x512x2304, .fp8e4m3⟩
  | .local _ .vmem, ⟨9, _⟩ => ⟨S1x512x2304, .fp8e4m3⟩
  | .local _ .vmem, ⟨10, _⟩ => ⟨S1x1x1x512, .f32⟩
  | .local _ .vmem, ⟨11, _⟩ => ⟨S1x1x1x512, .f32⟩
  | .local _ .vmem, ⟨12, _⟩ => ⟨S512x6912, .f32⟩
  | .local _ .vmem, ⟨13, _⟩ => ⟨S512x128, .f32⟩
  | .local _ .vmem, ⟨14, _⟩ => ⟨S512x128, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![65, 3], ![false, false]⟩

def k0_mult1 (i : grid0.Coords) : BitVec 32 :=
  let arg1 : BitVec 32 := BitVec.ofNat 32 (i 1).val
  let c2304_i32 : BitVec 32 := 2304#32
  let v0 : BitVec 32 := Scalar.muli arg1 c2304_i32
  v0
def k0_cond2 (i : grid0.Coords) : BitVec 1 :=
  let arg0 : BitVec 32 := BitVec.ofNat 32 (i 0).val
  let c0_i32_9 : BitVec 32 := 0#32
  let v17 : BitVec 1 := Scalar.cmpi .sgt arg0 c0_i32_9
  let v18 : BitVec 32 := Scalar.extui v17
  let c0_i32_10 : BitVec 32 := 0#32
  let v19 : BitVec 1 := Scalar.cmpi .ne v18 c0_i32_10
  v19

def k0_off1 (i : grid0.Coords) : Fin 2 → Nat :=
  let c0_34 : Index := 0#32
  let arg1 : BitVec 32 := BitVec.ofNat 32 (i 1).val
  let c2304_i32 : BitVec 32 := 2304#32
  let v0 : BitVec 32 := Scalar.muli arg1 c2304_i32
  let v1 : BitVec 32 := v0
  let v74 : Index := Scalar.indexCast v1
  ![0, v74.toNat]
def k0_cond3 (i : grid0.Coords) : BitVec 1 :=
  let arg0 : BitVec 32 := BitVec.ofNat 32 (i 0).val
  let c64_i32 : BitVec 32 := 64#32
  let v20 : BitVec 1 := Scalar.cmpi .slt arg0 c64_i32
  let v21 : BitVec 32 := Scalar.extui v20
  let c0_i32_11 : BitVec 32 := 0#32
  let v22 : BitVec 1 := Scalar.cmpi .ne v21 c0_i32_11
  v22

def k0_mult2 (i : grid0.Coords) : BitVec 32 :=
  let arg1 : BitVec 32 := BitVec.ofNat 32 (i 1).val
  let c2304_i32_15 : BitVec 32 := 2304#32
  let v29 : BitVec 32 := Scalar.muli arg1 c2304_i32_15
  let c0_i32_16 : BitVec 32 := 0#32
  let v30 : BitVec 32 := Scalar.addi v29 c0_i32_16
  v30
def k0_off2 (i : grid0.Coords) (c0_i32_16 : BitVec 32) : Fin 2 → Nat :=
  let c0_25 : Index := 0#32
  let arg1 : BitVec 32 := BitVec.ofNat 32 (i 1).val
  let c2304_i32_15 : BitVec 32 := 2304#32
  let v29 : BitVec 32 := Scalar.muli arg1 c2304_i32_15
  let v30 : BitVec 32 := Scalar.addi v29 c0_i32_16
  let v31 : BitVec 32 := v30
  let v40 : Index := Scalar.indexCast v31
  ![0, v40.toNat]
def k0_mult3 (i : grid0.Coords) : BitVec 32 :=
  let arg1 : BitVec 32 := BitVec.ofNat 32 (i 1).val
  let c2304_i32_26 : BitVec 32 := 2304#32
  let v50 : BitVec 32 := Scalar.muli arg1 c2304_i32_26
  let c256_i32 : BitVec 32 := 256#32
  let v51 : BitVec 32 := Scalar.addi v50 c256_i32
  v51
def k0_mult4 (i : grid0.Coords) : BitVec 32 :=
  let arg1 : BitVec 32 := BitVec.ofNat 32 (i 1).val
  let c2304_i32_35 : BitVec 32 := 2304#32
  let v71 : BitVec 32 := Scalar.muli arg1 c2304_i32_35
  let c512_i32 : BitVec 32 := 512#32
  let v72 : BitVec 32 := Scalar.addi v71 c512_i32
  v72
def k0_mult5 (i : grid0.Coords) : BitVec 32 :=
  let arg1 : BitVec 32 := BitVec.ofNat 32 (i 1).val
  let c2304_i32_44 : BitVec 32 := 2304#32
  let v92 : BitVec 32 := Scalar.muli arg1 c2304_i32_44
  let c768_i32 : BitVec 32 := 768#32
  let v93 : BitVec 32 := Scalar.addi v92 c768_i32
  v93
def k0_mult6 (i : grid0.Coords) : BitVec 32 :=
  let arg1 : BitVec 32 := BitVec.ofNat 32 (i 1).val
  let c2304_i32_53 : BitVec 32 := 2304#32
  let v113 : BitVec 32 := Scalar.muli arg1 c2304_i32_53
  let c1024_i32 : BitVec 32 := 1024#32
  let v114 : BitVec 32 := Scalar.addi v113 c1024_i32
  v114
def k0_mult7 (i : grid0.Coords) : BitVec 32 :=
  let arg1 : BitVec 32 := BitVec.ofNat 32 (i 1).val
  let c2304_i32_62 : BitVec 32 := 2304#32
  let v134 : BitVec 32 := Scalar.muli arg1 c2304_i32_62
  let c1280_i32 : BitVec 32 := 1280#32
  let v135 : BitVec 32 := Scalar.addi v134 c1280_i32
  v135
def k0_mult8 (i : grid0.Coords) : BitVec 32 :=
  let arg1 : BitVec 32 := BitVec.ofNat 32 (i 1).val
  let c2304_i32_71 : BitVec 32 := 2304#32
  let v155 : BitVec 32 := Scalar.muli arg1 c2304_i32_71
  let c1536_i32 : BitVec 32 := 1536#32
  let v156 : BitVec 32 := Scalar.addi v155 c1536_i32
  v156
def k0_mult9 (i : grid0.Coords) : BitVec 32 :=
  let arg1 : BitVec 32 := BitVec.ofNat 32 (i 1).val
  let c2304_i32_80 : BitVec 32 := 2304#32
  let v176 : BitVec 32 := Scalar.muli arg1 c2304_i32_80
  let c1792_i32 : BitVec 32 := 1792#32
  let v177 : BitVec 32 := Scalar.addi v176 c1792_i32
  v177
def k0_mult10 (i : grid0.Coords) : BitVec 32 :=
  let arg1 : BitVec 32 := BitVec.ofNat 32 (i 1).val
  let c2304_i32_89 : BitVec 32 := 2304#32
  let v197 : BitVec 32 := Scalar.muli arg1 c2304_i32_89
  let c2048_i32 : BitVec 32 := 2048#32
  let v198 : BitVec 32 := Scalar.addi v197 c2048_i32
  v198
def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c64_i32 : BitVec 32 := 64#32
  let v11 : BitVec 1 := Scalar.cmpi .slt arg0 c64_i32
  let c2_i32 : BitVec 32 := 2#32
  let v12 : BitVec 32 := Scalar.select v11 arg1 c2_i32
  let c0_i32_3 : BitVec 32 := 0#32
  let c0_i32_4 : BitVec 32 := 0#32
  ![v10.toNat, c0_i32_3.toNat, v12.toNat]

def cc0_transform_3 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32 : BitVec 32 := 64#32
  let v18 : BitVec 1 := Scalar.cmpi .slt arg0 c64_i32
  let c2_i32 : BitVec 32 := 2#32
  let v19 : BitVec 32 := Scalar.select v18 arg1 c2_i32
  let c0_i32_4 : BitVec 32 := 0#32
  ![v17.toNat, v19.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let v29 : BitVec 1 := Scalar.cmpi .sgt arg0 c0_i32_12
  let c0_i32_13 : BitVec 32 := 0#32
  let v30 : BitVec 32 := Scalar.select v29 arg1 c0_i32_13
  let c0_i32_14 : BitVec 32 := 0#32
  ![v11.toNat, v28.toNat, v30.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32_5 : BitVec 32 := 8#32
  let v12 : BitVec 32 := Scalar.divsi v1 c8_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c8_i32_5 c0_i32_8
  let v19 : BitVec 32 := Scalar.extui v18
  let c0_i32_9 : BitVec 32 := 0#32
  let v20 : BitVec 1 := Scalar.cmpi .slt c8_i32_5 c0_i32_9
  let v21 : BitVec 32 := Scalar.extui v20
  let v22 : BitVec 32 := Scalar.subi v19 v21
  let v23 : BitVec 1 := Scalar.cmpi .ne v17 v22
  let v24 : BitVec 32 := Scalar.remsi v1 c8_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let c0_i32_13 : BitVec 32 := 0#32
  let c0_i32_14 : BitVec 32 := 0#32
  ![v11.toNat, v28.toNat, c0_i32_12.toNat, c0_i32_13.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2560x2304 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2304 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefGIdeal.lean ====
abbrev S4096x2560 : Shape := ⟨2, ![4096, 2560]⟩
abbrev S4096 : Shape := ⟨1, ![4096]⟩
abbrev S8x2560x6912 : Shape := ⟨3, ![8, 2560, 6912]⟩
abbrev S4096x6912 : Shape := ⟨2, ![4096, 6912]⟩
abbrev S1x4096x1 : Shape := ⟨3, ![1, 4096, 1]⟩
abbrev S8x4096x6912 : Shape := ⟨3, ![8, 4096, 6912]⟩
abbrev S8x8x1x512 : Shape := ⟨4, ![8, 8, 1, 512]⟩
abbrev S1x4096x2560 : Shape := ⟨3, ![1, 4096, 2560]⟩
abbrev S8x4096x2560 : Shape := ⟨3, ![8, 4096, 2560]⟩
abbrev S1x4096x6912 : Shape := ⟨3, ![1, 4096, 6912]⟩
abbrev S8x4096 : Shape := ⟨2, ![8, 4096]⟩
abbrev S8x4096x1 : Shape := ⟨3, ![8, 4096, 1]⟩

abbrev nBuf : Space → Nat
  | .hbm => 7
  | .vmem => 6
  | .smem => 0
  | _ => 0

abbrev bufTy : (tb : Table) → Fin (tcTables nBuf tb) → BufTy
  | .hbm, ⟨0, _⟩ => ⟨S4096x2560, .bf16⟩
  | .hbm, ⟨1, _⟩ => ⟨S4096, .f32⟩
  | .hbm, ⟨2, _⟩ => ⟨S8x2560x6912, .i8⟩
  | .hbm, ⟨3, _⟩ => ⟨S4096x6912, .f32⟩
  | .hbm, ⟨4, _⟩ => ⟨S1x4096x1, .f32⟩
  | .hbm, ⟨5, _⟩ => ⟨S8x4096x6912, .fp8e4m3⟩
  | .hbm, ⟨6, _⟩ => ⟨S8x8x1x512, .f32⟩
  | .local _ .vmem, ⟨0, _⟩ => ⟨S4096x2560, .bf16⟩
  | .local _ .vmem, ⟨1, _⟩ => ⟨S1x4096x1, .f32⟩
  | .local _ .vmem, ⟨2, _⟩ => ⟨S8x2560x6912, .i8⟩
  | .local _ .vmem, ⟨3, _⟩ => ⟨S4096x6912, .f32⟩
  | .local _ .vmem, ⟨4, _⟩ => ⟨S8x4096x6912, .fp8e4m3⟩
  | .local _ .vmem, ⟨5, _⟩ => ⟨S8x8x1x512, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2560x6912 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x6912 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== QuantX.lean ====
abbrev S4096x2560 : Shape := ⟨2, ![4096, 2560]⟩
abbrev S16x1x256 : Shape := ⟨3, ![16, 1, 256]⟩
abbrev S256x2560 : Shape := ⟨2, ![256, 2560]⟩
abbrev S1x1x256 : Shape := ⟨3, ![1, 1, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x2560, .bf16⟩
  | .hbm, ⟨1, _⟩ => ⟨S4096x2560, .fp8e4m3⟩
  | .hbm, ⟨2, _⟩ => ⟨S4096x2560, .bf16⟩
  | .hbm, ⟨3, _⟩ => ⟨S16x1x256, .f32⟩
  | .local _ .vmem, ⟨0, _⟩ => ⟨S256x2560, .bf16⟩
  | .local _ .vmem, ⟨1, _⟩ => ⟨S256x2560, .bf16⟩
  | .local _ .vmem, ⟨2, _⟩ => ⟨S256x2560, .fp8e4m3⟩
  | .local _ .vmem, ⟨3, _⟩ => ⟨S256x2560, .fp8e4m3⟩
  | .local _ .vmem, ⟨4, _⟩ => ⟨S256x2560, .bf16⟩
  | .local _ .vmem, ⟨5, _⟩ => ⟨S256x2560, .bf16⟩
  | .local _ .vmem, ⟨6, _⟩ => ⟨S1x1x256, .f32⟩
  | .local _ .vmem, ⟨7, _⟩ => ⟨S1x1x256, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefXIdeal.lean ====
abbrev S4096x2560 : Shape := ⟨2, ![4096, 2560]⟩
abbrev S16x1x256 : Shape := ⟨3, ![16, 1, 256]⟩
abbrev S4096 : Shape := ⟨1, ![4096]⟩
abbrev S4096x1 : Shape := ⟨2, ![4096, 1]⟩

abbrev nBuf : Space → Nat
  | .hbm => 4
  | .vmem => 4
  | .smem => 0
  | _ => 0

abbrev bufTy : (tb : Table) → Fin (tcTables nBuf tb) → BufTy
  | .hbm, ⟨0, _⟩ => ⟨S4096x2560, .bf16⟩
  | .hbm, ⟨1, _⟩ => ⟨S4096x2560, .fp8e4m3⟩
  | .hbm, ⟨2, _⟩ => ⟨S4096x2560, .bf16⟩
  | .hbm, ⟨3, _⟩ => ⟨S16x1x256, .f32⟩
  | .local _ .vmem, ⟨0, _⟩ => ⟨S4096x2560, .bf16⟩
  | .local _ .vmem, ⟨1, _⟩ => ⟨S4096x2560, .fp8e4m3⟩
  | .local _ .vmem, ⟨2, _⟩ => ⟨S4096x2560, .bf16⟩
  | .local _ .vmem, ⟨3, _⟩ => ⟨S16x1x256, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Primal.lean ====
abbrev S4096x2560 : Shape := ⟨2, ![4096, 2560]⟩
abbrev S4096 : Shape := ⟨1, ![4096]⟩
abbrev S2560x6912 : Shape := ⟨2, ![2560, 6912]⟩
abbrev S6912 : Shape := ⟨1, ![6912]⟩
abbrev S16x1x256 : Shape := ⟨3, ![16, 1, 256]⟩
abbrev S1x6912 : Shape := ⟨2, ![1, 6912]⟩
abbrev S4096x6912 : Shape := ⟨2, ![4096, 6912]⟩
abbrev S256x2560 : Shape := ⟨2, ![256, 2560]⟩
abbrev S1x1x256 : Shape := ⟨3, ![1, 1, 256]⟩
abbrev S1x768 : Shape := ⟨2, ![1, 768]⟩
abbrev S256x768 : Shape := ⟨2, ![256, 768]⟩
abbrev S256x6912 : Shape := ⟨2, ![256, 6912]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S256x256 : Shape := ⟨2, ![256, 256]⟩
abbrev S2560x256 : Shape := ⟨2, ![2560, 256]⟩

abbrev nBuf : Space → Nat
  | .hbm => 13
  | .vmem => 21
  | .smem => 0
  | _ => 0

abbrev bufTy : (tb : Table) → Fin (tcTables nBuf tb) → BufTy
  | .hbm, ⟨0, _⟩ => ⟨S4096x2560, .fp8e4m3⟩
  | .hbm, ⟨1, _⟩ => ⟨S4096, .f32⟩
  | .hbm, ⟨2, _⟩ => ⟨S2560x6912, .fp8e4m3⟩
  | .hbm, ⟨3, _⟩ => ⟨S6912, .f32⟩
  | .hbm, ⟨4, _⟩ => ⟨S2560x6912, .fp8e4m3⟩
  | .hbm, ⟨5, _⟩ => ⟨S6912, .f32⟩
  | .hbm, ⟨6, _⟩ => ⟨S16x1x256, .f32⟩
  | .hbm, ⟨7, _⟩ => ⟨S1x6912, .f32⟩
  | .hbm, ⟨8, _⟩ => ⟨S1x6912, .f32⟩
  | .hbm, ⟨9, _⟩ => ⟨S4096x6912, .f32⟩
  | .hbm, ⟨10, _⟩ => ⟨S4096x6912, .f32⟩
  | .hbm, ⟨11, _⟩ => ⟨S4096x6912, .fp8e4m3⟩
  | .hbm, ⟨12, _⟩ => ⟨S16x1x256, .f32⟩
  | .local _ .vmem, ⟨0, _⟩ => ⟨S256x2560, .fp8e4m3⟩
  | .local _ .vmem, ⟨1, _⟩ => ⟨S256x2560, .fp8e4m3⟩
  | .local _ .vmem, ⟨2, _⟩ => ⟨S1x1x256, .f32⟩
  | .local _ .vmem, ⟨3, _⟩ => ⟨S1x1x256, .f32⟩
  | .local _ .vmem, ⟨4, _⟩ => ⟨S2560x6912, .fp8e4m3⟩
  | .local _ .vmem, ⟨5, _⟩ => ⟨S1x768, .f32⟩
  | .local _ .vmem, ⟨6, _⟩ => ⟨S1x768, .f32⟩
  | .local _ .vmem, ⟨7, _⟩ => ⟨S2560x6912, .fp8e4m3⟩
  | .local _ .vmem, ⟨8, _⟩ => ⟨S1x768, .f32⟩
  | .local _ .vmem, ⟨9, _⟩ => ⟨S1x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .fp8e4m3⟩
  | .local _ .vmem, ⟨15, _⟩ => ⟨S256x768, .fp8e4m3⟩
  | .local _ .vmem, ⟨16, _⟩ => ⟨S1x1x256, .f32⟩
  | .local _ .vmem, ⟨17, _⟩ => ⟨S1x1x256, .f32⟩
  | .local _ .vmem, ⟨18, _⟩ => ⟨S256x6912, .f32⟩
  | .local _ .vmem, ⟨19, _⟩ => ⟨S256x128, .f32⟩
  | .local _ .vmem, ⟨20, _⟩ => ⟨S256x128, .f32⟩
  | _, _ => ⟨S4096x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![17, 9], ![false, false]⟩

def k0_mult1 (i : grid0.Coords) : BitVec 32 :=
  let arg1 : BitVec 32 := BitVec.ofNat 32 (i 1).val
  let c768_i32 : BitVec 32 := 768#32
  let v0 : BitVec 32 := Scalar.muli arg1 c768_i32
  v0
def k0_cond2 (i : grid0.Coords) : BitVec 1 :=
  let arg0 : BitVec 32 := BitVec.ofNat 32 (i 0).val
  let c0_i32_9 : BitVec 32 := 0#32
  let v17 : BitVec 1 := Scalar.cmpi .sgt arg0 c0_i32_9
  let v18 : BitVec 32 := Scalar.extui v17
  let c0_i32_10 : BitVec 32 := 0#32
  let v19 : BitVec 1 := Scalar.cmpi .ne v18 c0_i32_10
  v19

def k0_off1 (i : grid0.Coords) : Fin 2 → Nat :=
  let c0_30 : Index := 0#32
  let arg1 : BitVec 32 := BitVec.ofNat 32 (i 1).val
  let c768_i32 : BitVec 32 := 768#32
  let v0 : BitVec 32 := Scalar.muli arg1 c768_i32
  let v1 : BitVec 32 := v0
  let v72 : Index := Scalar.indexCast v1
  ![0, v72.toNat]
def k0_cond3 (i : grid0.Coords) : BitVec 1 :=
  let arg0 : BitVec 32 := BitVec.ofNat 32 (i 0).val
  let c16_i32 : BitVec 32 := 16#32
  let v20 : BitVec 1 := Scalar.cmpi .slt arg0 c16_i32
  let v21 : BitVec 32 := Scalar.extui v20
  let c0_i32_11 : BitVec 32 := 0#32
  let v22 : BitVec 1 := Scalar.cmpi .ne v21 c0_i32_11
  v22

def k0_mult2 (i : grid0.Coords) : BitVec 32 :=
  let arg1 : BitVec 32 := BitVec.ofNat 32 (i 1).val
  let c768_i32_15 : BitVec 32 := 768#32
  let v29 : BitVec 32 := Scalar.muli arg1 c768_i32_15
  let c0_i32_16 : BitVec 32 := 0#32
  let v30 : BitVec 32 := Scalar.addi v29 c0_i32_16
  v30
def k0_off2 (i : grid0.Coords) (c0_i32_16 : BitVec 32) : Fin 2 → Nat :=
  let c0_19 : Index := 0#32
  let arg1 : BitVec 32 := BitVec.ofNat 32 (i 1).val
  let c768_i32_15 : BitVec 32 := 768#32
  let v29 : BitVec 32 := Scalar.muli arg1 c768_i32_15
  let v30 : BitVec 32 := Scalar.addi v29 c0_i32_16
  let v31 : BitVec 32 := v30
  let v33 : Index := Scalar.indexCast v31
  ![0, v33.toNat]
def k0_off3 (i : grid0.Coords) (c0_i32_16 : BitVec 32) : Fin 2 → Nat :=
  let c0_35 : Index := 0#32
  let arg1 : BitVec 32 := BitVec.ofNat 32 (i 1).val
  let c768_i32_15 : BitVec 32 := 768#32
  let v29 : BitVec 32 := Scalar.muli arg1 c768_i32_15
  let v30 : BitVec 32 := Scalar.addi v29 c0_i32_16
  let v31 : BitVec 32 := v30
  let v62 : Index := Scalar.indexCast v31
  ![0, v62.toNat]
def k0_mult3 (i : grid0.Coords) : BitVec 32 :=
  let arg1 : BitVec 32 := BitVec.ofNat 32 (i 1).val
  let c768_i32_36 : BitVec 32 := 768#32
  let v72 : BitVec 32 := Scalar.muli arg1 c768_i32_36
  let c256_i32 : BitVec 32 := 256#32
  let v73 : BitVec 32 := Scalar.addi v72 c256_i32
  v73
def k0_mult4 (i : grid0.Coords) : BitVec 32 :=
  let arg1 : BitVec 32 := BitVec.ofNat 32 (i 1).val
  let c768_i32_55 : BitVec 32 := 768#32
  let v115 : BitVec 32 := Scalar.muli arg1 c768_i32_55
  let c512_i32 : BitVec 32 := 512#32
  let v116 : BitVec 32 := Scalar.addi v115 c512_i32
  v116
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c8_i32 : BitVec 32 := 8#32
  let v2 : BitVec 32 := Scalar.select v1 arg1 c8_i32
  let c0_i32 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c8_i32 : BitVec 32 := 8#32
  let v2 : BitVec 32 := Scalar.select v1 arg1 c8_i32
  let c0_i32 : BitVec 32 := 0#32
  ![v0.toNat, v2.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S256x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2560x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2560x6912 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x768 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RefPIdeal.lean ====
abbrev S4096x2560 : Shape := ⟨2, ![4096, 2560]⟩
abbrev S4096 : Shape := ⟨1, ![4096]⟩
abbrev S2560x6912 : Shape := ⟨2, ![2560, 6912]⟩
abbrev S6912 : Shape := ⟨1, ![6912]⟩
abbrev S4096x1 : Shape := ⟨2, ![4096, 1]⟩
abbrev S1x6912 : Shape := ⟨2, ![1, 6912]⟩
abbrev S4096x6912 : Shape := ⟨2, ![4096, 6912]⟩
abbrev S16x1x256 : Shape := ⟨3, ![16, 1, 256]⟩

abbrev nBuf : Space → Nat
  | .hbm => 13
  | .vmem => 10
  | .smem => 0
  | _ => 0

abbrev bufTy : (tb : Table) → Fin (tcTables nBuf tb) → BufTy
  | .hbm, ⟨0, _⟩ => ⟨S4096x2560, .fp8e4m3⟩
  | .hbm, ⟨1, _⟩ => ⟨S4096, .f32⟩
  | .hbm, ⟨2, _⟩ => ⟨S2560x6912, .fp8e4m3⟩
  | .hbm, ⟨3, _⟩ => ⟨S6912, .f32⟩
  | .hbm, ⟨4, _⟩ => ⟨S2560x6912, .fp8e4m3⟩
  | .hbm, ⟨5, _⟩ => ⟨S6912, .f32⟩
  | .hbm, ⟨6, _⟩ => ⟨S4096x1, .f32⟩
  | .hbm, ⟨7, _⟩ => ⟨S1x6912, .f32⟩
  | .hbm, ⟨8, _⟩ => ⟨S1x6912, .f32⟩
  | .hbm, ⟨9, _⟩ => ⟨S4096x6912, .f32⟩
  | .hbm, ⟨10, _⟩ => ⟨S4096x6912, .f32⟩
  | .hbm, ⟨11, _⟩ => ⟨S4096x6912, .fp8e4m3⟩
  | .hbm, ⟨12, _⟩ => ⟨S16x1x256, .f32⟩
  | .local _ .vmem, ⟨0, _⟩ => ⟨S4096x2560, .fp8e4m3⟩
  | .local _ .vmem, ⟨1, _⟩ => ⟨S4096x1, .f32⟩
  | .local _ .vmem, ⟨2, _⟩ => ⟨S2560x6912, .fp8e4m3⟩
  | .local _ .vmem, ⟨3, _⟩ => ⟨S1x6912, .f32⟩
  | .local _ .vmem, ⟨4, _⟩ => ⟨S2560x6912, .fp8e4m3⟩
  | .local _ .vmem, ⟨5, _⟩ => ⟨S1x6912, .f32⟩
  | .local _ .vmem, ⟨6, _⟩ => ⟨S4096x6912, .f32⟩
  | .local _ .vmem, ⟨7, _⟩ => ⟨S4096x6912, .f32⟩
  | .local _ .vmem, ⟨8, _⟩ => ⟨S4096x6912, .fp8e4m3⟩
  | .local _ .vmem, ⟨9, _⟩ => ⟨S16x1x256, .f32⟩
  | _, _ => ⟨S4096x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x6912 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x6912 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x6912 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Trace.lean ====
abbrev S8x4096 : Shape := ⟨2, ![8, 4096]⟩
abbrev S3x128 : Shape := ⟨2, ![3, 128]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S1x128 : Shape := ⟨2, ![1, 128]⟩

abbrev nBuf : Space → Nat
  | .hbm => 4
  | .vmem => 4
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8x4096, .f32⟩
  | .hbm, ⟨3, _⟩ => ⟨S3x128, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S3x128, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RefTraceIdeal.lean ====
abbrev S8x4096 : Shape := ⟨2, ![8, 4096]⟩
abbrev S1x8x4096 : Shape := ⟨3, ![1, 8, 4096]⟩
abbrev S3x8x4096 : Shape := ⟨3, ![3, 8, 4096]⟩
abbrev S_ : Shape := ⟨0, ![]⟩
abbrev S3 : Shape := ⟨1, ![3]⟩
abbrev S3x1 : Shape := ⟨2, ![3, 1]⟩
abbrev S3x128 : Shape := ⟨2, ![3, 128]⟩

abbrev nBuf : Space → Nat
  | .hbm => 14
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8x4096, .f32⟩
  | .hbm, ⟨3, _⟩ => ⟨S1x8x4096, .f32⟩
  | .hbm, ⟨4, _⟩ => ⟨S1x8x4096, .f32⟩
  | .hbm, ⟨5, _⟩ => ⟨S1x8x4096, .f32⟩
  | .hbm, ⟨6, _⟩ => ⟨S3x8x4096, .f32⟩
  | .hbm, ⟨7, _⟩ => ⟨S_, .f32⟩
  | .hbm, ⟨8, _⟩ => ⟨S3, .f32⟩
  | .hbm, ⟨9, _⟩ => ⟨S_, .f32⟩
  | .hbm, ⟨10, _⟩ => ⟨S3, .f32⟩
  | .hbm, ⟨11, _⟩ => ⟨S3, .f32⟩
  | .hbm, ⟨12, _⟩ => ⟨S3x1, .f32⟩
  | .hbm, ⟨13, _⟩ => ⟨S3x128, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Down.Math.lean ====
module

public import Idealize.ShloMosaic.Lib.Pointwise

/-! The down projection of the block, as plain formulas over the extended reals. -/

@[expose] public section

noncomputable section

open Idealize.ShloMosaic

namespace Cert.Down.Math

/-- The down projection at a token and an output channel: the product of the codes, times the
    token's scale, times the channel's scale. -/
def down (hq : FVec Ideal ⟨2, ![4096, 6912]⟩ .fp8e4m3) (sh : FVec Ideal ⟨1, ![4096]⟩ .f32)
    (w : FVec Ideal ⟨2, ![6912, 2560]⟩ .fp8e4m3) (ws : FVec Ideal ⟨1, ![2560]⟩ .f32) :
    FVec Ideal ⟨2, ![4096, 2560]⟩ .bf16 := fun i =>
  (∑ k : Fin 6912, hq (ix2 (i 0) k) * w (ix2 k (i 1))) * sh (ix1 (i 0)) * ws (ix1 (i 1))

/-- The down projection of the tangents of every probe: probe, token, output channel. -/
def tang (tc : FVec Ideal ⟨3, ![8, 4096, 6912]⟩ .fp8e4m3) (ts : FVec Ideal ⟨2, ![8, 4096]⟩ .f32)
    (w : FVec Ideal ⟨2, ![6912, 2560]⟩ .fp8e4m3) (ws : FVec Ideal ⟨1, ![2560]⟩ .f32)
    (p : Fin 8) (n : Fin 4096) (d : Fin 2560) : EReal :=
  (∑ k : Fin 6912, tc (ix3 p n k) * w (ix2 k d)) * ts (ix2 p n) * ws (ix1 d)

/-- Probe 0 of `tang`. -/
def tang0 (tc : FVec Ideal ⟨3, ![8, 4096, 6912]⟩ .fp8e4m3) (ts : FVec Ideal ⟨2, ![8, 4096]⟩ .f32)
    (w : FVec Ideal ⟨2, ![6912, 2560]⟩ .fp8e4m3) (ws : FVec Ideal ⟨1, ![2560]⟩ .f32) :
    FVec Ideal ⟨2, ![4096, 2560]⟩ .f32 := fun i => tang tc ts w ws 0 (i 0) (i 1)

/-- A token's squared length under every probe, tokens in rows of 512. -/
def tangSq (tc : FVec Ideal ⟨3, ![8, 4096, 6912]⟩ .fp8e4m3) (ts : FVec Ideal ⟨2, ![8, 4096]⟩ .f32)
    (w : FVec Ideal ⟨2, ![6912, 2560]⟩ .fp8e4m3) (ws : FVec Ideal ⟨1, ![2560]⟩ .f32) :
    FVec Ideal ⟨4, ![8, 8, 1, 512]⟩ .f32 := fun i =>
  ∑ d : Fin 2560, tang tc ts w ws (i 0) ⟨(i 1).val * 512 + (i 3).val, by
      have h1 : (i 1).val < 8 := (i 1).isLt
      have h3 : (i 3).val < 512 := (i 3).isLt
      omega⟩ d
    * tang tc ts w ws (i 0) ⟨(i 1).val * 512 + (i 3).val, by
      have h1 : (i 1).val < 8 := (i 1).isLt
      have h3 : (i 3).val < 512 := (i 3).isLt
      omega⟩ d

/-- A sum over the 2560 output channels, taken lane by lane: 20 groups of 128 lanes are added first, two
    groups of a column piece together, then the lanes. -/
theorem sum_lanes (h : Fin 2560 → EReal) :
    ∑ x : Fin 128, ((h ⟨x.val, by omega⟩ + h ⟨128 + x.val, by omega⟩)
      + (h ⟨256 + x.val, by omega⟩ + h ⟨256 + (128 + x.val), by omega⟩)
      + (h ⟨512 + x.val, by omega⟩ + h ⟨512 + (128 + x.val), by omega⟩)
      + (h ⟨768 + x.val, by omega⟩ + h ⟨768 + (128 + x.val), by omega⟩)
      + (h ⟨1024 + x.val, by omega⟩ + h ⟨1024 + (128 + x.val), by omega⟩)
      + (h ⟨1280 + x.val, by omega⟩ + h ⟨1280 + (128 + x.val), by omega⟩)
      + (h ⟨1536 + x.val, by omega⟩ + h ⟨1536 + (128 + x.val), by omega⟩)
      + (h ⟨1792 + x.val, by omega⟩ + h ⟨1792 + (128 + x.val), by omega⟩)
      + (h ⟨2048 + x.val, by omega⟩ + h ⟨2048 + (128 + x.val), by omega⟩)
      + (h ⟨2304 + x.val, by omega⟩ + h ⟨2304 + (128 + x.val), by omega⟩))
    = ∑ d : Fin 2560, h d := by
  rw [Fin.sum_univ_tiles 10 256 rfl h, Finset.sum_congr rfl fun j _ => Fin.sum_univ_tiles 2 128 rfl _]
  simp only [Fin.sum_univ_two]
  rw [Finset.sum_congr rfl fun j _ => (Finset.sum_add_distrib).symm, Finset.sum_comm]
  refine Finset.sum_congr rfl fun x _ => ?_
  simp only [Fin.sum_univ_castSucc, Fin.sum_univ_zero, zero_add]
  repeat' refine congrArg₂ (· + ·) ?_ ?_
  all_goals refine congrArg h (Fin.ext ?_)
  all_goals simp

/-- Hutchinson's mean of every kind of probe: the total of its squared lengths over the number of probes
    and tokens, in every lane. -/
def mean (a b c : FVec Ideal ⟨2, ![8, 4096]⟩ .f32) : FVec Ideal ⟨2, ![3, 128]⟩ .f32 := fun i =>
  (∑ k : Fin 8, ∑ n : Fin 4096,
    (if (i 0).val = 0 then a (ix2 k n) else if (i 0).val = 1 then b (ix2 k n) else c (ix2 k n)))
  * Ideal.ofBits .f32 0x38000000#32

/-- Dividing by the number of probes and tokens, 32768, is multiplying by its reciprocal. -/
theorem div_count (x : EReal) : Ideal.div x (Ideal.ofBits .f32 0x47000000#32) = x * Ideal.ofBits .f32 0x38000000#32 := by
  have h1 : Ideal.ofBits .f32 0x47000000#32 = ((32768 : ℝ) : EReal) := by
    simp [Ideal.ofBits, Ideal.ieee, -EReal.coe_mul]; norm_num
  have h2 : Ideal.ofBits .f32 0x38000000#32 = ((1 / 32768 : ℝ) : EReal) := by
    simp [Ideal.ofBits, Ideal.ieee, -EReal.coe_mul]; norm_num
  rw [h1, h2, Ideal.div_coe (by norm_num)]

/-- `mean` in the row of a given kind, tokens outside. -/
theorem mean_at (a b c v : FVec Ideal ⟨2, ![8, 4096]⟩ .f32) (i : (⟨2, ![3, 128]⟩ : Shape).Idx)
    (h : v = if (i 0).val = 0 then a else if (i 0).val = 1 then b else c) :
    (∑ n : Fin 4096, ∑ k : Fin 8, v (ix2 k n)) * Ideal.ofBits .f32 0x38000000#32 = mean a b c i := by
  rw [Finset.sum_comm, h, mean]
  split_ifs <;> rfl

end Cert.Down.Math

end
-- ==== Proof.Down.YVal.lean ====
module

public import proofs.«01_k».proof.Proof.Gen.DownYIdeal.Frame
public import proofs.«01_k».proof.Proof.Down.Math
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownYIdeal.Val
open Cert.DownYIdeal Cert.DownYIdeal.Gen Cert.Down.Math

variable (m : (ℓ : Loc nD τ sig) → Buf (Elt Ideal) ℓ)

/-- Every window's block index at a grid point. -/
theorem idx : ∀ t : Fin cfg0.N, win0_0.index t = ![t.val, 0] ∧ win0_1.index t = ![t.val, 0, 0]
    ∧ win0_2.index t = ![0, 0] ∧ win0_3.index t = ![0, 0] ∧ win0_4.index t = ![t.val, 0] ∧ t.val < 8 :=
  (by decide +kernel : ∀ t : Fin grid0.N, _)

/-- The projection of a token at an output channel, over the blocks of a grid point. -/
def tile (C : FVec Ideal S512x6912 .fp8e4m3) (S : FVec Ideal S1x1x512 .f32) (W : FVec Ideal S6912x2560 .fp8e4m3)
    (T : FVec Ideal S1x2560 .f32) (r : Fin 512) (d : Fin 2560) : EReal :=
  (∑ k : Fin 6912, C (ix2 r k) * W (ix2 k d)) * S (ix3 0 0 r) * T (ix2 0 d)

set_option maxHeartbeats 1600000 in
/-- What a grid point leaves in its output block is `down` at the places of the block. -/
theorem point (c : Dev nD) (t : Fin cfg0.N) (y : S512x2560.Idx) :
    out0_4 (F := Ideal) (iblk m c 0 t) (iblk m c 1 t) (iblk m c 2 t) (iblk m c 3 t) y
      = down (m ((c : Thread nD τ).loc main_arg0)) (m ((c : Thread nD τ).loc main_arg1))
          (m ((c : Thread nD τ).loc main_arg2)) (m ((c : Thread nD τ).loc main_arg3))
          (((cfg0.win 4).blk t).view.emb y) := by
  refine Eq.trans (b := tile (iblk m c 0 t) (iblk m c 1 t) (iblk m c 2 t) (iblk m c 3 t) (y 0) (y 1)) ?_ ?_
  · canon_tiles x h
    all_goals
      open_payloads
      pointwise [tile]
      simp only [dite_eq_ite, ite_self]
      blk_point [h0, h1]
  · pointwise [down, tile]
    blk_point [iblk, V, idx t]

/-- The result array after the run. -/
theorem final (c : Dev nD) : (dats m 0 c).arrAt 4 (cfgs 0).N
    = down (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.DownYIdeal.Val

end
-- ==== Proof.Down.YRef.lean ====
module

public import proofs.«01_k».proof.Proof.Gen.RefYIdeal.Frame
public import proofs.«01_k».proof.Proof.Down.Math
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RefYIdeal.Val
open Cert.RefYIdeal Cert.RefYIdeal.Gen Cert.Down.Math

variable (m : (ℓ : Loc nD τ sig) → Buf (Elt Ideal) ℓ)

/-- Every window's block is its whole array. -/
theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

/-- The reference's result array is `down`. -/
theorem final (c : Dev nD) : (dats m 0 c).arrAt 4 (cfgs 0).N
    = down (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, down]
  blk_point [iblk, V, idx t]

end Cert.RefYIdeal.Val

end
-- ==== Proof.Down.TVal.lean ====
module

public import proofs.«01_k».proof.Proof.Gen.DownTIdeal.Frame
public import proofs.«01_k».proof.Proof.Down.Math
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownTIdeal.Val
open Cert.DownTIdeal Cert.DownTIdeal.Gen Cert.Down.Math

variable (m : (ℓ : Loc nD τ sig) → Buf (Elt Ideal) ℓ)

/-- Every window's block index at a grid point; the last probe comes first. -/
theorem idx : ∀ t : Fin cfg0.N, win0_0.index t = ![7 - t.val % 8, t.val / 8, 0] ∧ win0_1.index t = ![7 - t.val % 8, t.val / 8, 0, 0]
    ∧ win0_2.index t = ![0, 0] ∧ win0_3.index t = ![0, 0] ∧ win0_4.index t = ![t.val / 8, 0] ∧ win0_5.index t = ![7 - t.val % 8, t.val / 8, 0, 0] ∧ t.val < 64 :=
  (by decide +kernel : ∀ t : Fin grid0.N, _)

/-- A token's tangent at an output channel, over the blocks of a grid point. -/
def tile (C : FVec Ideal S1x512x6912 .fp8e4m3) (S : FVec Ideal S1x1x1x512 .f32) (W : FVec Ideal S6912x2560 .fp8e4m3)
    (T : FVec Ideal S1x2560 .f32) (r : Fin 512) (d : Fin 2560) : EReal :=
  (∑ k : Fin 6912, C (ix3 0 r k) * W (ix2 k d)) * S (ix4 0 0 0 r) * T (ix2 0 d)

set_option maxHeartbeats 1600000 in
/-- What a grid point leaves in its block of squared lengths. -/
theorem pointS (c : Dev nD) (t : Fin cfg0.N) (y : S1x1x1x512.Idx) :
    out0_5 (F := Ideal) (iblk m c 0 t) (iblk m c 1 t) (iblk m c 2 t) (iblk m c 3 t) y
      = tangSq (m ((c : Thread nD τ).loc main_arg0)) (m ((c : Thread nD τ).loc main_arg1))
          (m ((c : Thread nD τ).loc main_arg2)) (m ((c : Thread nD τ).loc main_arg3))
          (((cfg0.win 5).blk t).view.emb y) := by
  refine Eq.trans (b := ∑ d : Fin 2560, tile (iblk m c 0 t) (iblk m c 1 t) (iblk m c 2 t) (iblk m c 3 t) (y 3) d
    * tile (iblk m c 0 t) (iblk m c 1 t) (iblk m c 2 t) (iblk m c 3 t) (y 3) d) ?_ ?_
  · unfold out0_5
    frame_out
    open_payloads
    pointwise
    refine Eq.trans (Finset.sum_congr rfl fun x _ => ?_) (sum_lanes _)
    iterate 9 refine congrArg₂ (· + ·) ?_ ?_
    all_goals refine congrArg₂ (· + ·) ?_ ?_
    all_goals refine congrArg₂ (· * ·) ?_ ?_
    all_goals simp only [tile]
    all_goals blk_point []
  · pointwise [tangSq, tang, tile]
    blk_point [iblk, V, idx t]

set_option maxHeartbeats 1600000 in
/-- What a grid point of probe 0 leaves in its block of tangents. -/
theorem pointD (c : Dev nD) (t : Fin cfg0.N) (hf : t.val % 8 = 7) (y : S512x2560.Idx) :
    out0_4 (F := Ideal) (iblk m c 0 t) (iblk m c 1 t) (iblk m c 2 t) (iblk m c 3 t) y
      = tang0 (m ((c : Thread nD τ).loc main_arg0)) (m ((c : Thread nD τ).loc main_arg1))
          (m ((c : Thread nD τ).loc main_arg2)) (m ((c : Thread nD τ).loc main_arg3))
          (((cfg0.win 4).blk t).view.emb y) := by
  refine Eq.trans (b := tile (iblk m c 0 t) (iblk m c 1 t) (iblk m c 2 t) (iblk m c 3 t) (y 0) (y 1)) ?_ ?_
  · canon_tiles x h
    all_goals
      open_payloads
      pointwise [tile]
      simp only [dite_eq_ite, ite_self]
      blk_point [h0, h1]
  · pointwise [tang0, tang, tile]
    blk_point [iblk, V, idx t, hf]

/-- The tangents of probe 0 after the run. -/
theorem final4 (c : Dev nD) : (dats m 0 c).arrAt 4 (cfgs 0).N
    = tang0 (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact pointD m c t ((flush0_4 t).mp hf) y

/-- The squared lengths after the run. -/
theorem final5 (c : Dev nD) : (dats m 0 c).arrAt 5 (cfgs 0).N
    = tangSq (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  exact pointS m c t y

end Cert.DownTIdeal.Val

end
-- ==== Proof.Down.TRef.lean ====
module

public import proofs.«01_k».proof.Proof.Gen.RefTIdeal.Frame
public import proofs.«01_k».proof.Proof.Down.Math
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RefTIdeal.Val
open Cert.RefTIdeal Cert.RefTIdeal.Gen Cert.Down.Math

variable (m : (ℓ : Loc nD τ sig) → Buf (Elt Ideal) ℓ)

/-- Every window's block is its whole array. -/
theorem idx : ∀ t : Fin cfg0.N, win0_0.index t = ![0, 0, 0] ∧ win0_1.index t = ![0, 0, 0]
    ∧ win0_2.index t = ![0, 0] ∧ win0_3.index t = ![0, 0, 0] ∧ win0_4.index t = ![0, 0] ∧ win0_5.index t = ![0, 0, 0, 0] :=
  (by decide +kernel : ∀ t : Fin grid0.N, _)

/-- The reference gives `tang0`. -/
theorem final4 (c : Dev nD) : (dats m 0 c).arrAt 4 (cfgs 0).N
    = tang0 (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  open_payloads
  pointwise [tang0, tang]
  blk_point [iblk, V, idx t]

/-- The reference gives `tangSq`. -/
theorem final5 (c : Dev nD) : (dats m 0 c).arrAt 5 (cfgs 0).N
    = tangSq (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  frame_out
  open_payloads
  pointwise [tangSq, tang]
  blk_point [iblk, V, idx t]

end Cert.RefTIdeal.Val

end
-- ==== Proof.Down.TraceVal.lean ====
module

public import proofs.«01_k».proof.Proof.Gen.TraceIdeal.Frame
public import proofs.«01_k».proof.Proof.Gen.RefTraceIdeal.Run
public import proofs.«01_k».proof.Proof.Down.Math
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TraceIdeal.Val
open Cert.TraceIdeal Cert.TraceIdeal.Gen Cert.Down.Math

variable (m : (ℓ : Loc nD τ sig) → Buf (Elt Ideal) ℓ)

/-- Every window's block is its whole array. -/
theorem idx : ∀ t : Fin cfg0.N, win0_0.index t = ![0, 0] ∧ win0_1.index t = ![0, 0]
    ∧ win0_2.index t = ![0, 0] ∧ win0_3.index t = ![0, 0] :=
  (by decide +kernel : ∀ t : Fin grid0.N, _)

/-- The kernel's result is `mean`. -/
theorem final (c : Dev nD) : (dats m 0 c).arrAt 3 (cfgs 0).N
    = mean (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  canon_tiles x h
  all_goals
    open_payloads
    pointwise
    refine Eq.trans ?_ (mean_at _ _ _ _ _ rfl)
    blk_simp [idx t]
    have hx : (x 0 : ℕ) = 0 := by omega
    simp only [h0, hx, Nat.add_zero, Nat.reduceEqDiff, OfNat.ofNat_ne_zero, one_ne_zero, zero_ne_one, ↓reduceIte]
    blk_point [iblk, V, idx t]

end Cert.TraceIdeal.Val

namespace Cert.RefTraceIdeal.Val
open Cert.RefTraceIdeal Cert.Down.Math

/-- The reference's result is `mean`. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = mean (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  run_from Cert.RefTraceIdeal.Value.run m ρ
  funext i
  pointwise [mean]
  rw [div_count]
  refine congrArg (· * _) (Finset.sum_congr rfl fun k _ => Finset.sum_congr rfl fun n _ => ?_)
  split_ifs <;> first | rfl | omega

end Cert.RefTraceIdeal.Val

end
-- ==== Proof.Down.VFrame.lean ====
module

public import proofs.«01_k».proof.Proof.Gen.DownV.Frame
public import proofs.«01_k».proof.Proof.Gen.DownV.Skeleton
public import Idealize.ShloMosaic.Lib.Pipeline.Frame
public import Idealize.ShloMosaic.Lib.Tactic

@[expose] public section

set_option maxRecDepth 16384

noncomputable section

/-
  The frame of `DownV`: the body runs from any contents of its two scratch buffers and of its two outputs, leaves its
  inputs as they were, and nothing is said of what it leaves in the outputs.
-/
namespace Cert.DownV.Hand

open Cert.DownV Cert.DownV.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-- The first point of a row tile, as the body decides it. -/
abbrev first (i : grid0.Coords) : Prop :=
  Scalar.cmpi .ne (Scalar.extui (Scalar.andi (Scalar.cmpi .eq (BitVec.ofNat 32 (i 1).val) 0#32)
    (Scalar.cmpi .eq (BitVec.ofNat 32 (i 2).val) 0#32)) : BitVec 32) 0#32 = 1#1

/-- The body's triple: inputs kept, outputs and scratch at some contents before and after. -/
theorem kernelRun (i : grid0.Coords) (c : Dev nD)
    (arg3 : Memref sig .tc .vmem S512x6912 .fp8e4m3) (harg3 : arg3.IsWhole) (arg4 : Memref sig .tc .vmem S1x1x512 .f32) (harg4 : arg4.IsWhole)
    (arg5 : Memref sig .tc .vmem S1x6912x1280 .i8) (harg5 : arg5.IsWhole) (arg6 : Memref sig .tc .vmem S512x2560 .f32) (harg6 : arg6.IsWhole)
    (arg7 : Memref sig .tc .vmem S1x1x1x512 .f32) (harg7 : arg7.IsWhole) (arg8 : Memref sig .tc .vmem S512x6912 .bf16) (harg8 : arg8.IsWhole)
    (arg9 : Memref sig .tc .vmem S512x128 .f32) (harg9 : arg9.IsWhole)
    (X0 : S512x6912.Idx → Elt F .fp8e4m3) (X1 : S1x1x512.Idx → Elt F .f32) (X2 : S1x6912x1280.Idx → Elt F .i8) (K : PUnit → sProp 𝕄) :
    iprop(owns (c : Thread nD τ) arg3 fullShare X0 ∗ owns (c : Thread nD τ) arg4 fullShare X1 ∗ owns (c : Thread nD τ) arg5 fullShare X2
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare X0 ∗ owns (c : Thread nD τ) arg4 fullShare X1 ∗ owns (c : Thread nD τ) arg5 fullShare X2
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) Set.univ
          (cc0_down_v i arg3 harg3 arg4 harg4 arg5 harg5 arg6 harg6 arg7 harg7 arg8 harg8 arg9 harg9) K := by
  simp only [cc0_down_v_eq_skeleton]; unfold cc0_down_v_skel
  simp only [k0_part1_eq_skeleton, k0_part2_eq_skeleton]; unfold k0_part1_skel k0_part2_skel
  unfold owns
  iintro ⟨⟨%f0, %h0, H0⟩, ⟨%f1, %h1, H1⟩, ⟨%f2, %h2, H2⟩, ⟨%d3, %f3, -, H3⟩, ⟨%d4, %f4, -, H4⟩, ⟨%d5, %f5, -, H5⟩, ⟨%d6, %f6, -, H6⟩, Hk⟩
  by_cases hc1 : first i <;> by_cases hc2 : k0_cond2 i = 1#1
  all_goals
    sl_exec (disch := first | exact hc1 | exact hc2)
    sl_step
    iapply Hk
    isplitl [H0]
    · iexists _; isplitr; swap; · iexact H0
      ipureintro; exact h0
    isplitl [H1]
    · iexists _; isplitr; swap; · iexact H1
      ipureintro; exact h1
    isplitl [H2]
    · iexists _; isplitr; swap; · iexact H2
      ipureintro; exact h2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

/-! ## The proof data and the body obligation -/

variable (m : (ℓ : Loc nD τ sig) → Buf (Elt F) ℓ) (ρ : Dev nD → PrngReg)

/-- The two outputs are forgotten: nothing here reads what the body leaves in them. -/
def forgets0 : Fin 5 → Bool := ![false, false, false, true, true]

/-- The proof data on core `c`: the arrays as the region finds them; each input's block in place; the outputs unnamed; the scratch at
    some contents; full shares; nothing owed. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => Pipeline.Dat.unnamed (cfg := cfg0) 3 t
    | 4 => fun t => Pipeline.Dat.unnamed (cfg := cfg0) 4 t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- The invariant, conjunct by conjunct. -/
theorem Phi_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d)
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)
    ∗ (∃ d, owns (c : Thread nD τ) (st0_4 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq, after_0, after_1, after_2]
  simp only [before0_0_of m (dats m 0 c) rfl (after_0 m c), before0_1_of m (dats m 0 c) rfl (after_1 m c),
    before0_2_of m (dats m 0 c) rfl (after_2 m c)]
  iintro ⟨⟨⟨HS0, HS1⟩, Hg⟩, HO, ⟨%d0, H0⟩, ⟨%d1, H1⟩, ⟨%d2, H2⟩, H3, H4⟩
  iapply (kernelRun (grid0.coords t) c (st0_0 t) _ (st0_1 t) _ (st0_2 t) _ (st0_3 t) _ (st0_4 t) _
    (Memref.whole cc0_scratch0) _ (Memref.whole cc0_scratch1) _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]; · iexact HS0
      iexact HS1
    iexact Hg
  isplitl [HO]; · iexact HO
  isplitl [H0]; · iexact H0
  isplitl [H1]; · iexact H1
  isplitl [H2]; · iexact H2
  isplitl [H3]; · iexact H3
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every run of @main terminates with the inputs as the region found them and the counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) (p := (0 : Fin 1)) cfgs (dats m) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main leaves its arguments as it found them. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      (h.1.arr_in c 2 rfl).trans ((A_eq m c 2).trans (V_main_arg2 m c))⟩, h.2⟩) (run_main m ρ)

end Cert.DownV.Hand

end
-- ==== Proof.Down.MathV.lean ====
module

public import Idealize.ShloMosaic.Lib.Pointwise

/-! The derivative of the down projection along the probes of its weight, as plain formulas over the extended reals. -/

@[expose] public section

noncomputable section

open Idealize.ShloMosaic

namespace Cert.Down.Math

/-- The derivative at a probe, a token and an output channel: the codes of the activations times the probe's signs,
    times the token's scale. -/
def dv (hq : FVec Ideal ⟨2, ![4096, 6912]⟩ .fp8e4m3) (sh : FVec Ideal ⟨1, ![4096]⟩ .f32)
    (v : IVec ⟨3, ![8, 6912, 2560]⟩ 8) (p : Fin 8) (n : Fin 4096) (d : Fin 2560) : EReal :=
  (∑ k : Fin 6912, hq (ix2 n k) * FloatOps.sitofp (F := Ideal) .bf16 (v (ix3 p k d))) * sh (ix1 n)

/-- Probe 0 of `dv`. -/
def dv0 (hq : FVec Ideal ⟨2, ![4096, 6912]⟩ .fp8e4m3) (sh : FVec Ideal ⟨1, ![4096]⟩ .f32)
    (v : IVec ⟨3, ![8, 6912, 2560]⟩ 8) : FVec Ideal ⟨2, ![4096, 2560]⟩ .f32 := fun i => dv hq sh v 0 (i 0) (i 1)

/-- A token's squared length under every probe, tokens in rows of 512. -/
def dvSq (hq : FVec Ideal ⟨2, ![4096, 6912]⟩ .fp8e4m3) (sh : FVec Ideal ⟨1, ![4096]⟩ .f32)
    (v : IVec ⟨3, ![8, 6912, 2560]⟩ 8) : FVec Ideal ⟨4, ![8, 8, 1, 512]⟩ .f32 := fun i =>
  ∑ d : Fin 2560, dv hq sh v (i 0) ⟨(i 1).val * 512 + (i 3).val, by
      have h1 : (i 1).val < 8 := (i 1).isLt
      have h3 : (i 3).val < 512 := (i 3).isLt
      omega⟩ d
    * dv hq sh v (i 0) ⟨(i 1).val * 512 + (i 3).val, by
      have h1 : (i 1).val < 8 := (i 1).isLt
      have h3 : (i 3).val < 512 := (i 3).isLt
      omega⟩ d

end Cert.Down.Math

end
-- ==== Proof.Down.VRun.lean ====
module

public import proofs.«01_k».proof.Proof.Gen.DownVIdeal.Frame
public import proofs.«01_k».proof.Proof.Gen.DownVIdeal.Skeleton
public import Idealize.ShloMosaic.Lib.Pipeline.Frame
public import Idealize.ShloMosaic.Lib.Pipeline.DatRel
public import Idealize.ShloMosaic.Lib.VecWindow
public import Idealize.ShloMosaic.Lib.Tactic

@[expose] public section

set_option maxRecDepth 16384

noncomputable section

/-
  One run of `DownVIdeal`'s body, from any contents of the buffers, with what it leaves in each of them named.
-/
namespace Cert.DownVIdeal.Hand

open Cert.DownVIdeal Cert.DownVIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Idealize.ShloMosaic.VecWindow (put window)

variable {F : FTy → Type} [FloatOps F] [∀ e, Nonempty (Elt F e)]

local notation "𝕄" => MT nD τ sig Unit (Elt F) ℕ (UR sig nD τ) ℕ

/-- The first point of a row tile, as the body decides it. -/
abbrev first (i : grid0.Coords) : Prop :=
  Scalar.cmpi .ne (Scalar.extui (Scalar.andi (Scalar.cmpi .eq (BitVec.ofNat 32 (i 1).val) 0#32)
    (Scalar.cmpi .eq (BitVec.ofNat 32 (i 2).val) 0#32)) : BitVec 32) 0#32 = 1#1

/-- What the body leaves in the scratch of the cast activations: their cast at a row tile's first point, else what was there. -/
def hb (i : grid0.Coords) (X0 : Vec F S512x6912 .fp8e4m3) (S8 : Vec F S512x6912 .bf16) : Vec F S512x6912 .bf16 :=
  if first i then k0_pay4 X0 else S8

/-- The five column groups of the weight block. -/
def v0 (X2 : Vec F S1x6912x1280 .i8) : Vec F S1x6912x256 .i8 := window X2 ![0, 0, 0] S1x6912x256.size inb_S1x6912x1280_S1x6912x256_0_0_0
def v1 (X2 : Vec F S1x6912x1280 .i8) : Vec F S1x6912x256 .i8 := window X2 ![0, 0, 256] S1x6912x256.size inb_S1x6912x1280_S1x6912x256_0_0_256
def v2 (X2 : Vec F S1x6912x1280 .i8) : Vec F S1x6912x256 .i8 := window X2 ![0, 0, 512] S1x6912x256.size inb_S1x6912x1280_S1x6912x256_0_0_512
def v3 (X2 : Vec F S1x6912x1280 .i8) : Vec F S1x6912x256 .i8 := window X2 ![0, 0, 768] S1x6912x256.size inb_S1x6912x1280_S1x6912x256_0_0_768
def v4 (X2 : Vec F S1x6912x1280 .i8) : Vec F S1x6912x256 .i8 := window X2 ![0, 0, 1024] S1x6912x256.size inb_S1x6912x1280_S1x6912x256_0_0_1024

/-- What the body leaves in the product's buffer: five column groups put over what was there. -/
def dy (i : grid0.Coords) (X1 : Vec F S1x1x512 .f32) (X2 : Vec F S1x6912x1280 .i8) (H : Vec F S512x6912 .bf16)
    (Y : Vec F S512x2560 .f32) : Vec F S512x2560 .f32 :=
  put (put (put (put (put Y (k0_off1 i 0#32) S512x256.size (k0_pay6 X1 H (v0 X2)))
    (k0_off1 i 256#32) S512x256.size (k0_pay8 (k0_pay5 X1) H (v1 X2)))
    (k0_off1 i 512#32) S512x256.size (k0_pay9 (k0_pay5 X1) H (v2 X2)))
    (k0_off1 i 768#32) S512x256.size (k0_pay11 (k0_pay5 X1) H (v3 X2)))
    (k0_off1 i 1024#32) S512x256.size (k0_pay1 (k0_pay5 X1) H (v4 X2))

/-- What the body leaves in the scratch of the lane sums. -/
def acc (i : grid0.Coords) (X1 : Vec F S1x1x512 .f32) (X2 : Vec F S1x6912x1280 .i8) (H : Vec F S512x6912 .bf16)
    (S9 : Vec F S512x128 .f32) : Vec F S512x128 .f32 :=
  k0_pay2 (k0_pay5 X1) (k0_pay10 (k0_pay5 X1) (k0_pay7 i X1 S9 H (v0 X2)) H (v1 X2) H (v2 X2)) (k0_pay11 (k0_pay5 X1) H (v3 X2)) H (v4 X2)

/-- What the body leaves in the buffer of the squares. -/
def sq (i : grid0.Coords) (A : Vec F S512x128 .f32) (Y : Vec F S1x1x1x512 .f32) : Vec F S1x1x1x512 .f32 :=
  if k0_cond2 i = 1#1 then k0_pay3 A else Y

section reads
variable {κ : Kind} {sp : Space}
theorem rd0' (v : View sig κ sp S512x6912 .fp8e4m3) (f : v.ty.Contents (Elt F)) :
    v.readAt (Elt F) (Rect.unit (s := S512x6912) ![0, 0] ![512, 6912] inb_S512x6912_S512x6912_0_0).toLoadRect f = v.read (Elt F) f := View.readAt_full v f _
theorem rd1' (v : View sig κ sp S1x1x512 .f32) (f : v.ty.Contents (Elt F)) :
    v.readAt (Elt F) (Rect.unit (s := S1x1x512) ![0, 0, 0] ![1, 1, 512] inb_S1x1x512_S1x1x512_0_0_0).toLoadRect f = v.read (Elt F) f := View.readAt_full v f _
theorem rd8' (v : View sig κ sp S512x6912 .bf16) (f : v.ty.Contents (Elt F)) :
    v.readAt (Elt F) (Rect.unit (s := S512x6912) ![0, 0] ![512, 6912] inb_S512x6912_S512x6912_0_0).toLoadRect f = v.read (Elt F) f := View.readAt_full v f _
theorem rd9' (v : View sig κ sp S512x128 .f32) (f : v.ty.Contents (Elt F)) :
    v.readAt (Elt F) (Rect.unit (s := S512x128) ![0, 0] ![512, 128] inb_S512x128_S512x128_0_0).toLoadRect f = v.read (Elt F) f := View.readAt_full v f _
theorem rd0 (v : View sig κ sp S512x6912 .fp8e4m3) (f : v.ty.Contents (Elt F)) :
    v.readAt (Elt F) (Rect.unit ![0, 0] S512x6912.size inb_S512x6912_S512x6912_0_0).toLoadRect f = v.read (Elt F) f := View.readAt_full v f _
theorem rd1 (v : View sig κ sp S1x1x512 .f32) (f : v.ty.Contents (Elt F)) :
    v.readAt (Elt F) (Rect.unit ![0, 0, 0] S1x1x512.size inb_S1x1x512_S1x1x512_0_0_0).toLoadRect f = v.read (Elt F) f := View.readAt_full v f _
theorem rd8 (v : View sig κ sp S512x6912 .bf16) (f : v.ty.Contents (Elt F)) :
    v.readAt (Elt F) (Rect.unit ![0, 0] S512x6912.size inb_S512x6912_S512x6912_0_0).toLoadRect f = v.read (Elt F) f := View.readAt_full v f _
theorem rd9 (v : View sig κ sp S512x128 .f32) (f : v.ty.Contents (Elt F)) :
    v.readAt (Elt F) (Rect.unit ![0, 0] S512x128.size inb_S512x128_S512x128_0_0).toLoadRect f = v.read (Elt F) f := View.readAt_full v f _
theorem rc8 (v : View sig κ sp S512x6912 .bf16)
    (w : (Rect.unit (s := S512x6912) ![0, 0] ![512, 6912] inb_S512x6912_S512x6912_0_0).shape.Idx → Elt F .bf16) :
    v.readCov [⟨Rect.unit (s := S512x6912) ![0, 0] ![512, 6912] inb_S512x6912_S512x6912_0_0, w⟩]
      (Rect.unit (s := S512x6912) ![0, 0] ![512, 6912] inb_S512x6912_S512x6912_0_0).toLoadRect = w := View.readCov_full v inb_S512x6912_S512x6912_0_0 inb_S512x6912_S512x6912_0_0 w []
theorem rc9 (v : View sig κ sp S512x128 .f32)
    (w : (Rect.unit (s := S512x128) ![0, 0] ![512, 128] inb_S512x128_S512x128_0_0).shape.Idx → Elt F .f32) :
    v.readCov [⟨Rect.unit (s := S512x128) ![0, 0] ![512, 128] inb_S512x128_S512x128_0_0, w⟩]
      (Rect.unit (s := S512x128) ![0, 0] ![512, 128] inb_S512x128_S512x128_0_0).toLoadRect = w := View.readCov_full v inb_S512x128_S512x128_0_0 inb_S512x128_S512x128_0_0 w []
variable (v : View sig κ sp S1x6912x1280 .i8) (f : v.ty.Contents (Elt F))
theorem rv0 : v.readAt (Elt F) (Rect.unit (s := S1x6912x1280) ![0, 0, 0] S1x6912x256.size inb_S1x6912x1280_S1x6912x256_0_0_0).toLoadRect f = v0 (v.read (Elt F) f) := rfl
theorem rv1 : v.readAt (Elt F) (Rect.unit (s := S1x6912x1280) ![0, 0, 256] S1x6912x256.size inb_S1x6912x1280_S1x6912x256_0_0_256).toLoadRect f = v1 (v.read (Elt F) f) := rfl
theorem rv2 : v.readAt (Elt F) (Rect.unit (s := S1x6912x1280) ![0, 0, 512] S1x6912x256.size inb_S1x6912x1280_S1x6912x256_0_0_512).toLoadRect f = v2 (v.read (Elt F) f) := rfl
theorem rv3 : v.readAt (Elt F) (Rect.unit (s := S1x6912x1280) ![0, 0, 768] S1x6912x256.size inb_S1x6912x1280_S1x6912x256_0_0_768).toLoadRect f = v3 (v.read (Elt F) f) := rfl
theorem rv4 : v.readAt (Elt F) (Rect.unit (s := S1x6912x1280) ![0, 0, 1024] S1x6912x256.size inb_S1x6912x1280_S1x6912x256_0_0_1024).toLoadRect f = v4 (v.read (Elt F) f) := rfl
theorem rv0' : v.readAt (Elt F) (Rect.unit (s := S1x6912x1280) ![0, 0, 0] ![1, 6912, 256] inb_S1x6912x1280_S1x6912x256_0_0_0).toLoadRect f = v0 (v.read (Elt F) f) := rfl
theorem rv1' : v.readAt (Elt F) (Rect.unit (s := S1x6912x1280) ![0, 0, 256] ![1, 6912, 256] inb_S1x6912x1280_S1x6912x256_0_0_256).toLoadRect f = v1 (v.read (Elt F) f) := rfl
theorem rv2' : v.readAt (Elt F) (Rect.unit (s := S1x6912x1280) ![0, 0, 512] ![1, 6912, 256] inb_S1x6912x1280_S1x6912x256_0_0_512).toLoadRect f = v2 (v.read (Elt F) f) := rfl
theorem rv3' : v.readAt (Elt F) (Rect.unit (s := S1x6912x1280) ![0, 0, 768] ![1, 6912, 256] inb_S1x6912x1280_S1x6912x256_0_0_768).toLoadRect f = v3 (v.read (Elt F) f) := rfl
theorem rv4' : v.readAt (Elt F) (Rect.unit (s := S1x6912x1280) ![0, 0, 1024] ![1, 6912, 256] inb_S1x6912x1280_S1x6912x256_0_0_1024).toLoadRect f = v4 (v.read (Elt F) f) := rfl
end reads

set_option maxHeartbeats 400000 in
/-- The body's triple: inputs kept, and every other buffer left at the functions above of what was there. -/
theorem kernelRun (i : grid0.Coords) (c : Dev nD)
    (arg3 : Memref sig .tc .vmem S512x6912 .fp8e4m3) (harg3 : arg3.IsWhole) (arg4 : Memref sig .tc .vmem S1x1x512 .f32) (harg4 : arg4.IsWhole)
    (arg5 : Memref sig .tc .vmem S1x6912x1280 .i8) (harg5 : arg5.IsWhole) (arg6 : Memref sig .tc .vmem S512x2560 .f32) (harg6 : arg6.IsWhole)
    (arg7 : Memref sig .tc .vmem S1x1x1x512 .f32) (harg7 : arg7.IsWhole) (arg8 : Memref sig .tc .vmem S512x6912 .bf16) (harg8 : arg8.IsWhole)
    (arg9 : Memref sig .tc .vmem S512x128 .f32) (harg9 : arg9.IsWhole)
    (X0 : Vec F S512x6912 .fp8e4m3) (X1 : Vec F S1x1x512 .f32) (X2 : Vec F S1x6912x1280 .i8) (Y3 : Vec F S512x2560 .f32)
    (Y4 : Vec F S1x1x1x512 .f32) (S8 : Vec F S512x6912 .bf16) (S9 : Vec F S512x128 .f32) (K : PUnit → sProp 𝕄) :
    iprop(owns (c : Thread nD τ) arg3 fullShare X0 ∗ owns (c : Thread nD τ) arg4 fullShare X1 ∗ owns (c : Thread nD τ) arg5 fullShare X2
        ∗ owns (c : Thread nD τ) arg6 fullShare Y3 ∗ owns (c : Thread nD τ) arg7 fullShare Y4
        ∗ owns (c : Thread nD τ) arg8 fullShare S8 ∗ owns (c : Thread nD τ) arg9 fullShare S9
        ∗ (iprop(owns (c : Thread nD τ) arg3 fullShare X0 ∗ owns (c : Thread nD τ) arg4 fullShare X1 ∗ owns (c : Thread nD τ) arg5 fullShare X2
            ∗ owns (c : Thread nD τ) arg6 fullShare (dy i X1 X2 (hb i X0 S8) Y3)
            ∗ owns (c : Thread nD τ) arg7 fullShare (sq i (acc i X1 X2 (hb i X0 S8) S9) Y4)
            ∗ owns (c : Thread nD τ) arg8 fullShare (hb i X0 S8)
            ∗ owns (c : Thread nD τ) arg9 fullShare (acc i X1 X2 (hb i X0 S8) S9)) -∗ K ⟨⟩))
      ⊢ wp frame (wpE (defs₀ (F := F)) Variants.none c none) Set.univ
          (cc0_down_v i arg3 harg3 arg4 harg4 arg5 harg5 arg6 harg6 arg7 harg7 arg8 harg8 arg9 harg9) K := by
  simp only [cc0_down_v_eq_skeleton]; unfold cc0_down_v_skel
  simp only [k0_part1_eq_skeleton, k0_part2_eq_skeleton]; unfold k0_part1_skel k0_part2_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, Hk⟩
  subst h0 h1 h2 h3 h4 h5 h6
  by_cases hc1 : first i <;> by_cases hc2 : k0_cond2 i = 1#1
  all_goals
    simp only [hb, sq]
    first | simp only [if_pos hc1] | simp only [if_neg hc1]
    first | simp only [if_pos hc2] | simp only [if_neg hc2]
    sl_exec (disch := first | exact hc1 | exact hc2)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro
      try sl_unfold_run_names
      try dsimp only
      rw [View.read_writes_cons_put arg6.view _ _ _ _ rfl, View.read_writes_cons_put arg6.view _ _ _ _ rfl, View.read_writes_cons_put arg6.view _ _ _ _ rfl,
        View.read_writes_cons_put arg6.view _ _ _ _ rfl, View.read_writes_cons_put arg6.view _ _ _ _ rfl]
      try simp only [rd0, rd1, rd8, rd9, rd0', rd1', rd8', rd9', rv0', rv1', rv2', rv3', rv4', View.readCov_full, rc8, rc9, rv0, rv1, rv2, rv3, rv4, dy, acc, View.writes_nil]
    isplitl [H4]
    · iexists _; isplitr; swap; · iexact H4
      ipureintro
      try sl_unfold_run_names
      try dsimp only
      first
        | rw [View.read_writes_full arg7.view]
          try simp only [rd0, rd1, rd8, rd9, rd0', rd1', rd8', rd9', rv0', rv1', rv2', rv3', rv4', View.readCov_full, rc8, rc9, rv0, rv1, rv2, rv3, rv4, dy, acc, View.writes_nil]
        | skip
    isplitl [H5]
    · iexists _; isplitr; swap; · iexact H5
      ipureintro
      try sl_unfold_run_names
      try dsimp only
      first
        | rw [View.read_writes_full arg8.view]
          try simp only [rd0, rd1, rd8, rd9, rd0', rd1', rd8', rd9', rv0', rv1', rv2', rv3', rv4', View.readCov_full, rc8, rc9, rv0, rv1, rv2, rv3, rv4, dy, acc, View.writes_nil]
        | skip
    iexists _; isplitr; swap; · iexact H6
    ipureintro
    try sl_unfold_run_names
    try dsimp only
    rw [View.read_writes_full arg9.view]
    try simp only [rd0, rd1, rd8, rd9, rd0', rd1', rd8', rd9', rv0', rv1', rv2', rv3', rv4', View.readCov_full, rc8, rc9, rv0, rv1, rv2, rv3, rv4, dy, acc, View.writes_nil]

end Cert.DownVIdeal.Hand

end
-- ==== Proof.Down.VRel.lean ====
module

public import proofs.«01_k».proof.Proof.Gen.DownVIdeal.Frame
public import proofs.«01_k».proof.Proof.Gen.DownVIdeal.Skeleton
public import Idealize.ShloMosaic.Lib.Pipeline.Frame
public import Idealize.ShloMosaic.Lib.Pipeline.DatRel
public import Idealize.ShloMosaic.Lib.Pipeline.ArrRel
public import proofs.«01_k».proof.Proof.Down.VRun
public import Idealize.ShloMosaic.Lib.Tactic

@[expose] public section

set_option maxRecDepth 16384

noncomputable section

/-
  The run of the idealized `DownV`, with what it leaves in the two outputs: the derivative's block is the body's function of the point's
  blocks, applied twice (one half of the columns each), and the squares are taken of the lane sums of both halves.
-/
namespace Cert.DownVIdeal.Hand

open Cert.DownVIdeal Cert.DownVIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-! ## What the scratch and the outputs hold -/

variable (m : (ℓ : Loc nD τ sig) → Buf (Elt F) ℓ) (ρ : Dev nD → PrngReg)

/-- The grid point of a number. -/
def pt (n : ℕ) : Fin cfg0.N := ⟨n % 128, Nat.mod_lt _ (by decide)⟩

/-- The activations of the point's row tile, decoded, as the tile's first point leaves them in the scratch. -/
def H (c : Dev nD) (n : ℕ) : Vec F S512x6912 .bf16 := k0_pay4 (iblk m c 0 (pt (16 * (n / 16))))

/-- What point `n` makes of the derivative's block. -/
def dyAt (c : Dev nD) (n : ℕ) (Y : Vec F S512x2560 .f32) : Vec F S512x2560 .f32 :=
  dy (grid0.coords (pt n)) (iblk m c 1 (pt n)) (iblk m c 2 (pt n)) (H m c n) Y

/-- What point `n` makes of the lane sums. -/
def accAt (c : Dev nD) (n : ℕ) (S : Vec F S512x128 .f32) : Vec F S512x128 .f32 :=
  acc (grid0.coords (pt n)) (iblk m c 1 (pt n)) (iblk m c 2 (pt n)) (H m c n) S

/-- The first scratch before point `n`. -/
def P8 (c : Dev nD) (n : ℕ) (d : Vec F S512x6912 .bf16) : Prop := n % 16 ≠ 0 → d = H m c n

/-- The second scratch before point `n`. -/
def P9 (c : Dev nD) (n : ℕ) (d : Vec F S512x128 .f32) : Prop := n % 2 = 1 → ∃ S, d = accAt m c (n - 1) S

/-- The derivative's block after point `n`. -/
def R3 (c : Dev nD) (n : ℕ) (X : Vec F S512x2560 .f32) : Prop :=
  (n % 2 = 0 → ∃ Y, X = dyAt m c n Y) ∧ (n % 2 = 1 → ∃ Y, X = dyAt m c n (dyAt m c (n - 1) Y))

/-- The squares' block after point `n`. -/
def R4 (c : Dev nD) (n : ℕ) (X : Vec F S1x1x1x512 .f32) : Prop :=
  n % 2 = 1 → ∃ S, X = k0_pay3 (accAt m c n (accAt m c (n - 1) S))

theorem pt_val (t : Fin cfg0.N) : pt t.val = t := Fin.ext (Nat.mod_eq_of_lt t.isLt)

theorem first_iff : ∀ t : Fin cfg0.N, first (grid0.coords t) ↔ t.val % 16 = 0 := by decide +kernel
theorem cond2_iff : ∀ t : Fin cfg0.N, k0_cond2 (grid0.coords t) = 1#1 ↔ t.val % 2 = 1 := by decide +kernel

theorem hb_eq (c : Dev nD) (t : Fin cfg0.N) (d : Vec F S512x6912 .bf16) (h : P8 m c t.val d) :
    hb (grid0.coords t) (iblk m c 0 t) d = H m c t.val := by
  unfold hb
  by_cases hf : t.val % 16 = 0
  · rw [if_pos ((first_iff t).2 hf)]; unfold H
    rw [show 16 * (t.val / 16) = t.val by omega, pt_val]
  · rw [if_neg (fun e => hf ((first_iff t).1 e))]; exact h hf

theorem H_succ (c : Dev nD) (n : ℕ) (h : (n + 1) % 16 ≠ 0) : H m c (n + 1) = H m c n := by
  unfold H; rw [show (n + 1) / 16 = n / 16 by omega]

/-! ## The proof data and the body obligation -/

/-- The two outputs are held to a relation. -/
def forgets0 : Fin 5 → Bool := ![false, false, false, true, true]

/-- The invariant before point `n`. -/
def Phi (c : Dev nD) (n : ℕ) : sProp 𝕄 :=
  iprop((∃ d, ⌜P8 m c n d⌝ ∗ owns (c : Thread nD τ) (Memref.whole cc0_scratch0) fullShare d)
    ∗ (∃ d, ⌜P9 m c n d⌝ ∗ owns (c : Thread nD τ) (Memref.whole cc0_scratch1) fullShare d) ∗ (∃ r, prngReg c r))

/-- What the outputs are held to. -/
def Rl (c : Dev nD) : (w : Fin cfg0.W) → Fin cfg0.N → ((cfg0.win w).block.Idx → Elt F (cfg0.win w).elt) → Prop := fun
  | 0 => fun _ _ => True
  | 1 => fun _ _ => True
  | 2 => fun _ _ => True
  | 3 => fun t X => R3 m c t.val X
  | 4 => fun t X => R4 m c t.val X
  | ⟨_ + 5, h⟩ => absurd h (Nat.not_lt.2 (Nat.le_add_left _ _))

/-- The proof data on core `c`: the arrays as the region finds them; each input's block in place; the outputs unnamed; the scratch as `Phi` says; full shares; nothing owed. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => Pipeline.Dat.unnamed (cfg := cfg0) 3 t
    | 4 => fun t => Pipeline.Dat.unnamed (cfg := cfg0) 4 t
    | ⟨_ + 5, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- The invariant, conjunct by conjunct. -/
theorem Phi_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- What the body finds in the derivative's block at an odd point. -/
theorem finds_3 (c : Dev nD) (t : Fin cfg0.N) (Y : Vec F S512x2560 .f32)
    (h : ((dats m 0 c).toRRel forgets0 (Rl m c)).Finds 3 t Y) (ho : t.val % 2 = 1) : ∃ Z, Y = dyAt m c (t.val - 1) Z := by
  have h0 : t.val ≠ 0 := by omega
  have hfe : (cfg0.win 3).fetch t = false := (by decide +kernel : ∀ t : Fin cfg0.N, (cfg0.win 3).fetch t = false) t
  have hfl : (cfg0.win 3).flush ⟨t.val - 1, Nat.lt_of_le_of_lt (Nat.sub_le _ _) t.isLt⟩ = false :=
    (by decide +kernel : ∀ t : Fin cfg0.N, t.val % 2 = 1 → (cfg0.win 3).flush ⟨t.val - 1, Nat.lt_of_le_of_lt (Nat.sub_le _ _) t.isLt⟩ = false) t ho
  rcases (Pipeline.RDat.finds_of_pos _ hfe h0 Y).1 h with h | h
  · exact absurd (h.symm.trans hfl) (by decide)
  · exact ((dats m 0 c).toRRel_leaves (fgt := forgets0) (Rl := Rl m c) (w := 3) rfl h).1 (by show (t.val - 1) % 2 = 0; omega)

/-- What the body is called with at point `t`, and what it returns. -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, ⌜((dats m 0 c).toRRel forgets0 (Rl m c)).Finds 3 t d⌝ ∗ owns (c : Thread nD τ) (st0_3 t) fullShare d)
    ∗ (∃ d, ⌜((dats m 0 c).toRRel forgets0 (Rl m c)).Finds 4 t d⌝ ∗ owns (c : Thread nD τ) (st0_4 t) fullShare d))
def bodyPost (c : Dev nD) (t : Fin cfg0.N) : sProp 𝕄 :=
  iprop(Phi m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, ⌜R3 m c t.val d⌝ ∗ owns (c : Thread nD τ) (st0_3 t) fullShare d)
    ∗ (∃ d, ⌜R4 m c t.val d⌝ ∗ owns (c : Thread nD τ) (st0_4 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Phi
  rw [show (dats m 0 c).owesAt () t.succ = (dats m 0 c).owesAt () t.castSucc from rfl, after_0, after_1, after_2]
  simp only [before0_0_of m (dats m 0 c) rfl (after_0 m c), before0_1_of m (dats m 0 c) rfl (after_1 m c),
    before0_2_of m (dats m 0 c) rfl (after_2 m c)]
  iintro ⟨⟨⟨%s8, %h8, HS0⟩, ⟨%s9, %h9, HS1⟩, Hg⟩, HO, ⟨%d0, H0⟩, ⟨%d1, H1⟩, ⟨%d2, H2⟩, ⟨%d3, %h3, H3⟩, ⟨%d4, %h4, H4⟩⟩
  iapply (kernelRun (grid0.coords t) c (st0_0 t) _ (st0_1 t) _ (st0_2 t) _ (st0_3 t) _ (st0_4 t) _
    (Memref.whole cc0_scratch0) _ (Memref.whole cc0_scratch1) _ (iblk m c 0 t) (iblk m c 1 t) (iblk m c 2 t) d3 d4 s8 s9 _)
  rw [hb_eq m c t s8 h8]
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0]
    · iexists _; isplitr; swap; · iexact HS0
      ipureintro; exact fun h => (H_succ m c t.val h).symm
    isplitl [HS1]
    · iexists _; isplitr; swap; · iexact HS1
      ipureintro; exact fun _ => ⟨s9, by rw [Nat.add_sub_cancel]; unfold accAt; rw [pt_val]⟩
    iexact Hg
  isplitl [HO]; · iexact HO
  isplitl [H0]; · iexact H0
  isplitl [H1]; · iexact H1
  isplitl [H2]; · iexact H2
  isplitl [H3]
  · iexists _; isplitr; swap; · iexact H3
    ipureintro
    refine ⟨fun _ => ⟨d3, by unfold dyAt; rw [pt_val]⟩, fun ho => ?_⟩
    obtain ⟨Z, hZ⟩ := finds_3 m c t d3 h3 ho
    exact ⟨Z, by rw [← hZ]; unfold dyAt; rw [pt_val]⟩
  iexists _; isplitr; swap; · iexact H4
  ipureintro
  intro ho
  obtain ⟨S, hS⟩ := h9 ho
  refine ⟨S, ?_⟩
  rw [← hS]; unfold sq accAt; rw [if_pos ((cond2_iff t).2 ho), pt_val]

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs held to `Rl`. -/
theorem body_obligation (c : Dev nD) :
    Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The launch -/

theorem Phi_in (c : Dev nD) : (Pipeline.ΦA spec0 c : sProp 𝕄) ⊢ Phi m c 0 := by
  rw [Phi_eq]; unfold Phi
  iintro ⟨⟨⟨%d8, HS0⟩, ⟨%d9, HS1⟩⟩, Hg⟩
  isplitl [HS0]
  · iexists d8; isplitr; swap; · iexact HS0
    ipureintro; exact fun h => absurd rfl h
  isplitl [HS1]
  · iexists d9; isplitr; swap; · iexact HS1
    ipureintro; exact fun h => absurd h (by decide)
  iexact Hg

theorem Phi_out (c : Dev nD) (n : ℕ) : Phi m c n ⊢ (Pipeline.ΦA spec0 c : sProp 𝕄) := by
  rw [Phi_eq]; unfold Phi
  iintro ⟨⟨%d8, %h8, HS0⟩, ⟨%d9, %h9, HS1⟩, Hg⟩
  isplitl [HS0 HS1]
  · isplitl [HS0]
    · iexists d8; iexact HS0
    iexists d9; iexact HS1
  iexact Hg

set_option backward.isDefEq.respectTransparency.types false in
/-- Every run of @main terminates with the outputs as `Rl` has them and the counters at zero. -/
theorem run_main :
    θ_run defs (onTc (τ := τ) (main (F := F))) (s₀ m ρ)
      (fun r => Pipeline.RDat.FramePost (cfgs 0) (fun c => (dats m 0 c).toRRel forgets0 (Rl m c)) (V m) r ∧ r.2.sem = fun _ => 0) :=
  Pipeline.RDat.θ_run_frame_track (p := (0 : Fin 1)) cfgs launch0 defs₀ Variants.none (fun c => (dats m 0 c).toRRel forgets0 (Rl m c)) m ρ main
    (hbody := fun c => (body_obligation m c).toRRel) (hshare := fun c => (dats m 0 c).share_full fun _ => rfl)
    (howed := fun _ _ => rfl) (V := V m) (hmain := hmain m Variants.none) (hA := A_eq m) (hin := fun c => Phi_in m c)
    (hout := fun c => Phi_out m c _) (Q' := _) (hQ' := fun _ h => h)

/-- The frame: @main leaves its arguments as it found them. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      (h.1.arr_in c 2 rfl).trans ((A_eq m c 2).trans (V_main_arg2 m c))⟩, h.2⟩) (run_main m ρ)

end Cert.DownVIdeal.Hand

end
-- ==== Proof.Down.VVal.lean ====
module

public import proofs.«01_k».proof.Proof.Gen.DownVIdeal.Frame
public import proofs.«01_k».proof.Proof.Down.Math
public import proofs.«01_k».proof.Proof.Down.MathV
public import proofs.«01_k».proof.Proof.Down.VRel
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownVIdeal.Val
open Cert.DownVIdeal Cert.DownVIdeal.Gen Cert.DownVIdeal.Hand Cert.Down.Math

variable (m : (ℓ : Loc nD τ sig) → Buf (Elt Ideal) ℓ)

/-- Every window's block index at a grid point; the last probe comes first. -/
theorem idx : ∀ t : Fin cfg0.N, win0_0.index t = ![t.val / 16, 0] ∧ win0_1.index t = ![t.val / 16, 0, 0]
    ∧ win0_2.index t = ![7 - t.val % 16 / 2, 0, t.val % 2] ∧ win0_3.index t = ![t.val / 16, 0]
    ∧ win0_4.index t = ![7 - t.val % 16 / 2, t.val / 16, 0, 0] ∧ t.val < 128 ∧ (grid0.coords t 2).val = t.val % 2 :=
  (by decide +kernel : ∀ t : Fin grid0.N, _)

/-- A token's derivative at one of a grid point's output channels, over the blocks of the point. -/
def tile (C : FVec Ideal S512x6912 .bf16) (S : FVec Ideal S1x1x512 .f32) (W : IVec S1x6912x1280 8) (r : Fin 512) (q : Fin 1280) : EReal :=
  (∑ k : Fin 6912, C (ix2 r k) * FloatOps.sitofp (F := Ideal) .bf16 (W (ix3 0 k q))) * S (ix3 0 0 r)

/-- An entry of each of the five column groups. -/
theorem v0_at (W : IVec S1x6912x1280 8) (k : Fin 6912) (q : Fin 256) : v0 (F := Ideal) W (ix3 0 k q) = W (ix3 0 k ⟨q.val, by omega⟩) :=
  congrArg W (funext fun a => by match a with | 0 => rfl | 1 => exact Fin.ext (by show 0 + 1 * k.val = k.val; omega) | 2 => exact Fin.ext (by show 0 + 1 * q.val = q.val; omega))
theorem v1_at (W : IVec S1x6912x1280 8) (k : Fin 6912) (q : Fin 256) : v1 (F := Ideal) W (ix3 0 k q) = W (ix3 0 k ⟨256 + q.val, by omega⟩) :=
  congrArg W (funext fun a => by match a with | 0 => rfl | 1 => exact Fin.ext (by show 0 + 1 * k.val = k.val; omega) | 2 => exact Fin.ext (by show 256 + 1 * q.val = 256 + q.val; omega))
theorem v2_at (W : IVec S1x6912x1280 8) (k : Fin 6912) (q : Fin 256) : v2 (F := Ideal) W (ix3 0 k q) = W (ix3 0 k ⟨512 + q.val, by omega⟩) :=
  congrArg W (funext fun a => by match a with | 0 => rfl | 1 => exact Fin.ext (by show 0 + 1 * k.val = k.val; omega) | 2 => exact Fin.ext (by show 512 + 1 * q.val = 512 + q.val; omega))
theorem v3_at (W : IVec S1x6912x1280 8) (k : Fin 6912) (q : Fin 256) : v3 (F := Ideal) W (ix3 0 k q) = W (ix3 0 k ⟨768 + q.val, by omega⟩) :=
  congrArg W (funext fun a => by match a with | 0 => rfl | 1 => exact Fin.ext (by show 0 + 1 * k.val = k.val; omega) | 2 => exact Fin.ext (by show 768 + 1 * q.val = 768 + q.val; omega))
theorem v4_at (W : IVec S1x6912x1280 8) (k : Fin 6912) (q : Fin 256) : v4 (F := Ideal) W (ix3 0 k q) = W (ix3 0 k ⟨1024 + q.val, by omega⟩) :=
  congrArg W (funext fun a => by match a with | 0 => rfl | 1 => exact Fin.ext (by show 0 + 1 * k.val = k.val; omega) | 2 => exact Fin.ext (by show 1024 + 1 * q.val = 1024 + q.val; omega))

/-- A product of the casts, times the token's scale: what every stored piece is. -/
def prod (C : FVec Ideal S512x6912 .bf16) (S : FVec Ideal S1x1x512 .f32) (w : IVec S1x6912x256 8) : FVec Ideal S512x256 .f32 :=
  fun y => (∑ k : Fin 6912, C (ix2 (y 0) k) * FloatOps.sitofp (F := Ideal) .bf16 (w (ix3 0 k (y 1)))) * S (ix3 0 0 (y 0))

theorem pay6_eq (C : FVec Ideal S512x6912 .bf16) (S : FVec Ideal S1x1x512 .f32) (w : IVec S1x6912x256 8) : k0_pay6 (F := Ideal) S C w = prod C S w := by
  funext y; open_payloads; pointwise [prod]; blk_point []
theorem pay8_eq (C : FVec Ideal S512x6912 .bf16) (S : FVec Ideal S1x1x512 .f32) (w : IVec S1x6912x256 8) : k0_pay8 (F := Ideal) (k0_pay5 S) C w = prod C S w := by
  funext y; open_payloads; pointwise [prod]; blk_point []
theorem pay9_eq (C : FVec Ideal S512x6912 .bf16) (S : FVec Ideal S1x1x512 .f32) (w : IVec S1x6912x256 8) : k0_pay9 (F := Ideal) (k0_pay5 S) C w = prod C S w := by
  funext y; open_payloads; pointwise [prod]; blk_point []
theorem pay11_eq (C : FVec Ideal S512x6912 .bf16) (S : FVec Ideal S1x1x512 .f32) (w : IVec S1x6912x256 8) : k0_pay11 (F := Ideal) (k0_pay5 S) C w = prod C S w := by
  funext y; open_payloads; pointwise [prod]; blk_point []
theorem pay1_eq (C : FVec Ideal S512x6912 .bf16) (S : FVec Ideal S1x1x512 .f32) (w : IVec S1x6912x256 8) : k0_pay1 (F := Ideal) (k0_pay5 S) C w = prod C S w := by
  funext y; open_payloads; pointwise [prod]; blk_point []

theorem prod_v0 (C : FVec Ideal S512x6912 .bf16) (S : FVec Ideal S1x1x512 .f32) (W : IVec S1x6912x1280 8) (r : Fin 512) (q : Fin 256) :
    prod C S (v0 (F := Ideal) W) (ix2 r q) = tile C S W r ⟨q.val, by omega⟩ :=
  congrArg (· * S (ix3 0 0 r)) (Finset.sum_congr rfl fun k _ => congrArg (fun b => C (ix2 r k) * FloatOps.sitofp (F := Ideal) .bf16 b) (v0_at W k q))
theorem prod_v1 (C : FVec Ideal S512x6912 .bf16) (S : FVec Ideal S1x1x512 .f32) (W : IVec S1x6912x1280 8) (r : Fin 512) (q : Fin 256) :
    prod C S (v1 (F := Ideal) W) (ix2 r q) = tile C S W r ⟨256 + q.val, by omega⟩ :=
  congrArg (· * S (ix3 0 0 r)) (Finset.sum_congr rfl fun k _ => congrArg (fun b => C (ix2 r k) * FloatOps.sitofp (F := Ideal) .bf16 b) (v1_at W k q))
theorem prod_v2 (C : FVec Ideal S512x6912 .bf16) (S : FVec Ideal S1x1x512 .f32) (W : IVec S1x6912x1280 8) (r : Fin 512) (q : Fin 256) :
    prod C S (v2 (F := Ideal) W) (ix2 r q) = tile C S W r ⟨512 + q.val, by omega⟩ :=
  congrArg (· * S (ix3 0 0 r)) (Finset.sum_congr rfl fun k _ => congrArg (fun b => C (ix2 r k) * FloatOps.sitofp (F := Ideal) .bf16 b) (v2_at W k q))
theorem prod_v3 (C : FVec Ideal S512x6912 .bf16) (S : FVec Ideal S1x1x512 .f32) (W : IVec S1x6912x1280 8) (r : Fin 512) (q : Fin 256) :
    prod C S (v3 (F := Ideal) W) (ix2 r q) = tile C S W r ⟨768 + q.val, by omega⟩ :=
  congrArg (· * S (ix3 0 0 r)) (Finset.sum_congr rfl fun k _ => congrArg (fun b => C (ix2 r k) * FloatOps.sitofp (F := Ideal) .bf16 b) (v3_at W k q))
theorem prod_v4 (C : FVec Ideal S512x6912 .bf16) (S : FVec Ideal S1x1x512 .f32) (W : IVec S1x6912x1280 8) (r : Fin 512) (q : Fin 256) :
    prod C S (v4 (F := Ideal) W) (ix2 r q) = tile C S W r ⟨1024 + q.val, by omega⟩ :=
  congrArg (· * S (ix3 0 0 r)) (Finset.sum_congr rfl fun k _ => congrArg (fun b => C (ix2 r k) * FloatOps.sitofp (F := Ideal) .bf16 b) (v4_at W k q))

/-- The choice between zero and the sums so far, at a grid point. -/
theorem sel_half (n : ℕ) (h : n < 2) (a b : EReal) :
    Scalar.select (Scalar.cmpi CmpIPredicate.eq (BitVec.ofNat 32 n) 0#32) a b = if n = 0 then a else b := by
  interval_cases n <;> rfl

/-- The lane sums after the body: those of before, or zero at the first half, and each group's two squares. -/
theorem acc_at (i : grid0.Coords) (S : FVec Ideal S1x1x512 .f32) (W : IVec S1x6912x1280 8) (C : FVec Ideal S512x6912 .bf16) (A : FVec Ideal S512x128 .f32)
    (r : Fin 512) (x : Fin 128) :
    acc (F := Ideal) i S W C A (ix2 r x) = (if (i 2).val = 0 then 0 else A (ix2 r x))
      + (tile C S W r ⟨x.val, by omega⟩ * tile C S W r ⟨x.val, by omega⟩ + tile C S W r ⟨128 + x.val, by omega⟩ * tile C S W r ⟨128 + x.val, by omega⟩)
      + (tile C S W r ⟨256 + x.val, by omega⟩ * tile C S W r ⟨256 + x.val, by omega⟩ + tile C S W r ⟨256 + (128 + x.val), by omega⟩ * tile C S W r ⟨256 + (128 + x.val), by omega⟩)
      + (tile C S W r ⟨512 + x.val, by omega⟩ * tile C S W r ⟨512 + x.val, by omega⟩ + tile C S W r ⟨512 + (128 + x.val), by omega⟩ * tile C S W r ⟨512 + (128 + x.val), by omega⟩)
      + (tile C S W r ⟨768 + x.val, by omega⟩ * tile C S W r ⟨768 + x.val, by omega⟩ + tile C S W r ⟨768 + (128 + x.val), by omega⟩ * tile C S W r ⟨768 + (128 + x.val), by omega⟩)
      + (tile C S W r ⟨1024 + x.val, by omega⟩ * tile C S W r ⟨1024 + x.val, by omega⟩ + tile C S W r ⟨1024 + (128 + x.val), by omega⟩ * tile C S W r ⟨1024 + (128 + x.val), by omega⟩) := by
  unfold acc k0_pay2 k0_pay10 k0_pay7
  rw [pay6_eq, pay8_eq, pay9_eq, pay11_eq, pay1_eq]
  pointwise
  rw [sel_half _ (show (i 2).val < 2 from (i 2).isLt)]
  simp only [prod_v0, prod_v1, prod_v2, prod_v3, prod_v4]

/-- An entry after one stored piece. -/
theorem put_at (Z : FVec Ideal S512x2560 .f32) (o : ℕ) (w : FVec Ideal S512x256 .f32) (r : Fin 512) (d : Fin 2560) :
    VecWindow.put Z ![0, o] S512x256.size w (ix2 r d)
      = if h : o ≤ d.val ∧ d.val < o + 256 then w (ix2 r ⟨d.val - o, by omega⟩) else Z (ix2 r d) := by
  unfold VecWindow.put
  by_cases h : o ≤ d.val ∧ d.val < o + 256
  · rw [dif_pos h, dif_pos (fun a => by match a with | 0 => exact ⟨Nat.zero_le _, by show r.val < 0 + 512; omega⟩ | 1 => exact h)]
    exact congrArg w (funext fun a => by match a with | 0 => rfl | 1 => rfl)
  · rw [dif_neg h, dif_neg (fun hh => h (hh 1))]

/-- An entry after the five stored pieces. -/
theorem puts_at (Y : FVec Ideal S512x2560 .f32) (o : ℕ) (w0 w1 w2 w3 w4 : FVec Ideal S512x256 .f32) (g : Fin 1280 → EReal) (r : Fin 512) (d : Fin 2560)
    (h0 : ∀ q : Fin 256, w0 (ix2 r q) = g ⟨q.val, by omega⟩) (h1 : ∀ q : Fin 256, w1 (ix2 r q) = g ⟨256 + q.val, by omega⟩)
    (h2 : ∀ q : Fin 256, w2 (ix2 r q) = g ⟨512 + q.val, by omega⟩) (h3 : ∀ q : Fin 256, w3 (ix2 r q) = g ⟨768 + q.val, by omega⟩)
    (h4 : ∀ q : Fin 256, w4 (ix2 r q) = g ⟨1024 + q.val, by omega⟩) :
    VecWindow.put (VecWindow.put (VecWindow.put (VecWindow.put (VecWindow.put Y ![0, o + 0] S512x256.size w0) ![0, o + 256] S512x256.size w1)
      ![0, o + 512] S512x256.size w2) ![0, o + 768] S512x256.size w3) ![0, o + 1024] S512x256.size w4 (ix2 r d)
      = if h : o ≤ d.val ∧ d.val < o + 1280 then g ⟨d.val - o, by omega⟩ else Y (ix2 r d) := by
  rw [put_at, put_at, put_at, put_at, put_at]
  simp only [h0, h1, h2, h3, h4]
  by_cases h : o ≤ d.val ∧ d.val < o + 1280
  · rw [dif_pos h]
    by_cases c4 : o + 1024 ≤ d.val
    · rw [dif_pos (by omega)]; exact congrArg g (Fin.ext (by dsimp only; omega))
    rw [dif_neg (by omega)]
    by_cases c3 : o + 768 ≤ d.val
    · rw [dif_pos (by omega)]; exact congrArg g (Fin.ext (by dsimp only; omega))
    rw [dif_neg (by omega)]
    by_cases c2 : o + 512 ≤ d.val
    · rw [dif_pos (by omega)]; exact congrArg g (Fin.ext (by dsimp only; omega))
    rw [dif_neg (by omega)]
    by_cases c1 : o + 256 ≤ d.val
    · rw [dif_pos (by omega)]; exact congrArg g (Fin.ext (by dsimp only; omega))
    rw [dif_neg (by omega), dif_pos (by omega)]; exact congrArg g (Fin.ext (by dsimp only; omega))
  · rw [dif_neg h, dif_neg (by omega), dif_neg (by omega), dif_neg (by omega), dif_neg (by omega), dif_neg (by omega)]

/-- The derivative's block after the body: the columns of the point's half are the point's, the others are kept. -/
theorem dy_at (i : grid0.Coords) (S : FVec Ideal S1x1x512 .f32) (W : IVec S1x6912x1280 8) (C : FVec Ideal S512x6912 .bf16) (Y : FVec Ideal S512x2560 .f32)
    (r : Fin 512) (d : Fin 2560) :
    dy (F := Ideal) i S W C Y (ix2 r d) = if h : 1280 * (i 2).val ≤ d.val ∧ d.val < 1280 * (i 2).val + 1280
      then tile C S W r ⟨d.val - 1280 * (i 2).val, by omega⟩ else Y (ix2 r d) := by
  unfold dy
  rw [pay6_eq, pay8_eq, pay9_eq, pay11_eq, pay1_eq,
    show k0_off1 i 0#32 = ![0, 1280 * (i 2).val + 0] from k0_off1_eq i 0, show k0_off1 i 256#32 = ![0, 1280 * (i 2).val + 256] from k0_off1_eq i 1,
    show k0_off1 i 512#32 = ![0, 1280 * (i 2).val + 512] from k0_off1_eq i 2, show k0_off1 i 768#32 = ![0, 1280 * (i 2).val + 768] from k0_off1_eq i 3,
    show k0_off1 i 1024#32 = ![0, 1280 * (i 2).val + 1024] from k0_off1_eq i 4]
  exact puts_at Y _ _ _ _ _ _ (tile C S W r) r d (prod_v0 C S W r) (prod_v1 C S W r) (prod_v2 C S W r) (prod_v3 C S W r) (prod_v4 C S W r)

/-- `dy_at` at a known half. -/
theorem dy_at' (i : grid0.Coords) (j : ℕ) (hj : (i 2).val = j) (S : FVec Ideal S1x1x512 .f32) (W : IVec S1x6912x1280 8) (C : FVec Ideal S512x6912 .bf16)
    (Y : FVec Ideal S512x2560 .f32) (r : Fin 512) (d : Fin 2560) :
    dy (F := Ideal) i S W C Y (ix2 r d) = if h : 1280 * j ≤ d.val ∧ d.val < 1280 * j + 1280
      then tile C S W r ⟨d.val - 1280 * j, by omega⟩ else Y (ix2 r d) := by
  subst hj; exact dy_at i S W C Y r d

/-- The derivative over a core's arguments. -/
abbrev D (c : Dev nD) (p : Fin 8) (n : Fin 4096) (d : Fin 2560) : EReal :=
  dv (m ((c : Thread nD τ).loc main_arg0)) (m ((c : Thread nD τ).loc main_arg1)) (m ((c : Thread nD τ).loc main_arg2)) p n d

/-- An entry of the decoded activations. -/
theorem H_at (c : Dev nD) (t : Fin cfg0.N) (r : Fin 512) (k : Fin 6912) :
    H m c t.val (ix2 r k) = m ((c : Thread nD τ).loc main_arg0) (ix2 ⟨t.val / 16 * 512 + r.val, by have := (idx t).2.2.2.2.2.1; omega⟩ k) := by
  have ht := (idx t).2.2.2.2.2.1
  have e : (pt (16 * (t.val / 16))).val / 16 = t.val / 16 := by show 16 * (t.val / 16) % 128 / 16 = _; omega
  unfold H
  generalize pt (16 * (t.val / 16)) = u at e
  open_payloads
  pointwise
  blk_point [iblk, V, idx u, e]

/-- What a grid point makes of a column is the derivative there. -/
theorem tile_at (c : Dev nD) (t : Fin cfg0.N) (r : Fin 512) (q : Fin 1280) :
    tile (H m c t.val) (iblk m c 1 t) (iblk m c 2 t) r q
      = D m c ⟨7 - t.val % 16 / 2, by omega⟩ ⟨t.val / 16 * 512 + r.val, by have := (idx t).2.2.2.2.2.1; omega⟩ ⟨t.val % 2 * 1280 + q.val, by omega⟩ := by
  simp only [tile, D, dv, H_at]
  blk_point [iblk, V, idx t]

/-- The derivative's block after both halves. -/
theorem dyAt_at (c : Dev nD) (t : Fin cfg0.N) (ho : t.val % 2 = 1) (Y : FVec Ideal S512x2560 .f32) (r : Fin 512) (d : Fin 2560) :
    dyAt m c t.val (dyAt m c (t.val - 1) Y) (ix2 r d)
      = D m c ⟨7 - t.val % 16 / 2, by omega⟩ ⟨t.val / 16 * 512 + r.val, by have := (idx t).2.2.2.2.2.1; omega⟩ d := by
  have ht := (idx t).2.2.2.2.2.1
  obtain ⟨u, hu⟩ : ∃ u : Fin cfg0.N, u.val = t.val - 1 := ⟨pt (t.val - 1), Nat.mod_eq_of_lt (by omega)⟩
  rw [← hu]
  unfold dyAt
  rw [pt_val, pt_val, dy_at' _ 1 ((idx t).2.2.2.2.2.2.trans ho), dy_at' _ 0 ((idx u).2.2.2.2.2.2.trans (by omega))]
  by_cases h : 1280 ≤ d.val
  · rw [dif_pos (by omega), tile_at]
    congr 1 <;> (first | rfl | exact Fin.ext (by dsimp only; omega))
  · rw [dif_neg (by omega), dif_pos (by omega), tile_at]
    congr 1 <;> (first | rfl | exact Fin.ext (by dsimp only; omega))

/-- The squares' block sums the lanes. -/
theorem pay3_at (A : FVec Ideal S512x128 .f32) (y : S1x1x1x512.Idx) : k0_pay3 (F := Ideal) A y = ∑ x : Fin 128, A (ix2 (y 3) x) := by
  open_payloads
  pointwise

/-- The lane sums after both halves add up to the squares. -/
theorem accAt_at (c : Dev nD) (t : Fin cfg0.N) (ho : t.val % 2 = 1) (S : FVec Ideal S512x128 .f32) (r : Fin 512) :
    ∑ x : Fin 128, accAt m c t.val (accAt m c (t.val - 1) S) (ix2 r x)
      = ∑ d : Fin 2560, D m c ⟨7 - t.val % 16 / 2, by omega⟩ ⟨t.val / 16 * 512 + r.val, by have := (idx t).2.2.2.2.2.1; omega⟩ d
          * D m c ⟨7 - t.val % 16 / 2, by omega⟩ ⟨t.val / 16 * 512 + r.val, by have := (idx t).2.2.2.2.2.1; omega⟩ d := by
  have ht := (idx t).2.2.2.2.2.1
  obtain ⟨u, hu⟩ : ∃ u : Fin cfg0.N, u.val = t.val - 1 := ⟨pt (t.val - 1), Nat.mod_eq_of_lt (by omega)⟩
  rw [← hu]
  have e : ∀ q : Fin 1280, tile (H m c u.val) (iblk m c 1 u) (iblk m c 2 u) r q
      = D m c ⟨7 - t.val % 16 / 2, by omega⟩ ⟨t.val / 16 * 512 + r.val, by omega⟩ ⟨q.val, by omega⟩ := fun q => by
    rw [tile_at]
    congr 1 <;> exact Fin.ext (by dsimp only; omega)
  have e' : ∀ q : Fin 1280, tile (H m c t.val) (iblk m c 1 t) (iblk m c 2 t) r q
      = D m c ⟨7 - t.val % 16 / 2, by omega⟩ ⟨t.val / 16 * 512 + r.val, by omega⟩ ⟨1280 + q.val, by omega⟩ := fun q => by
    rw [tile_at]
    congr 1 <;> exact Fin.ext (by dsimp only; omega)
  generalize D m c ⟨7 - t.val % 16 / 2, by omega⟩ ⟨t.val / 16 * 512 + r.val, by omega⟩ = g at e e' ⊢
  refine Eq.trans (Finset.sum_congr rfl fun x _ => ?_) (sum_lanes fun d => g d * g d)
  unfold accAt
  rw [pt_val, pt_val, acc_at, acc_at, (idx t).2.2.2.2.2.2, (idx u).2.2.2.2.2.2, if_neg (by omega), if_pos (by omega)]
  simp only [e, e', zero_add, ← Nat.add_assoc, Nat.reduceAdd]

/-- The run: the first output is `dv0`, the second `dvSq`, the arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v1_0) = dv0 (m ((c.tc : Thread nD τ).loc main_arg0))
        (m ((c.tc : Thread nD τ).loc main_arg1)) (m ((c.tc : Thread nD τ).loc main_arg2))
      ∧ r.2.mem ((c.tc : Thread nD τ).loc main_v1_1) = dvSq (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (θ_run_and (run_main m ρ) (frame m ρ)) fun r hr c => ?_
  obtain ⟨after, hL, hA⟩ := hr.1.1.exists_exact c
  refine ⟨(hA 3).trans ?_, (hA 4).trans ?_, hr.2.1 c⟩
  · refine Dat.arrAt_eq_of_covers _ 3 _ (by decide +kernel) fun t hf y => ?_
    have h15 : t.val % 16 = 15 := (flush0_3 t).1 hf
    obtain ⟨Y, hY⟩ := ((dats m 0 c).toRRel_leaves (fgt := forgets0) (Rl := Rl m c) (w := 3) rfl (hL 3 t hf)).2 (by omega)
    blk_simp
    rw [Pipeline.RDat.withAfter_after, hY]
    refine (congrArg (dyAt m c t.val (dyAt m c (t.val - 1) Y)) (ix2_eta (n0 := 512) (n1 := 2560) y).symm).trans ?_
    refine (dyAt_at m c t (by omega) Y (y 0) (y 1)).trans ?_
    refine congr (congr (congrArg (dv _ _ _) (Fin.ext ?_)) (Fin.ext ?_)) (Fin.ext ?_)
    · show 7 - t.val % 16 / 2 = 0
      omega
    · blk_simp [idx t]
    · blk_simp [idx t]
  · refine Dat.arrAt_eq_of_covers _ 4 _ (by decide +kernel) fun t hf y => ?_
    have h1 : t.val % 2 = 1 := (flush0_4 t).1 hf
    obtain ⟨S, hS⟩ := ((dats m 0 c).toRRel_leaves (fgt := forgets0) (Rl := Rl m c) (w := 4) rfl (hL 4 t hf)) h1
    blk_simp
    rw [Pipeline.RDat.withAfter_after, hS]
    refine (pay3_at _ y).trans ((accAt_at m c t h1 S (y 3)).trans ?_)
    have ht : t.val < 128 := t.isLt
    refine Eq.trans (b := dvSq (m ((c.tc : Thread nD τ).loc main_arg0)) (m ((c.tc : Thread nD τ).loc main_arg1)) (m ((c.tc : Thread nD τ).loc main_arg2))
      (ix4 ⟨7 - t.val % 16 / 2, by omega⟩ ⟨t.val / 16, by omega⟩ 0 (y 3))) rfl (congrArg (dvSq _ _ _) (funext fun a => Fin.ext ?_))
    match a with
    | 0 => blk_simp [idx t]
    | 1 => blk_simp [idx t]
    | 2 => blk_simp [idx t]; rfl
    | 3 => blk_simp [idx t]

end Cert.DownVIdeal.Val

end
-- ==== Proof.Down.VRef.lean ====
module

public import proofs.«01_k».proof.Proof.Gen.RefVIdeal.Frame
public import proofs.«01_k».proof.Proof.Down.MathV
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RefVIdeal.Val
open Cert.RefVIdeal Cert.RefVIdeal.Gen Cert.Down.Math

variable (m : (ℓ : Loc nD τ sig) → Buf (Elt Ideal) ℓ)

/-- Every window's block is its whole array. -/
theorem idx : ∀ t : Fin cfg0.N, win0_0.index t = ![0, 0] ∧ win0_1.index t = ![0, 0, 0]
    ∧ win0_2.index t = ![0, 0, 0] ∧ win0_3.index t = ![0, 0] ∧ win0_4.index t = ![0, 0, 0, 0] :=
  (by decide +kernel : ∀ t : Fin grid0.N, _)

/-- The reference gives `dv0`. -/
theorem final3 (c : Dev nD) : (dats m 0 c).arrAt 3 (cfgs 0).N
    = dv0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  open_payloads
  pointwise [dv0, dv]
  blk_point [iblk, V, idx t]

/-- The blocks are the arguments. -/
theorem blk0 (c : Dev nD) (t : Fin cfg0.N) (n : Fin 4096) (k : Fin 6912) :
    iblk m c 0 t (ix2 n k) = m ((c : Thread nD τ).loc main_arg0) (ix2 n k) := by blk_point [iblk, V, idx t]
theorem blk1 (c : Dev nD) (t : Fin cfg0.N) (n : Fin 4096) :
    iblk m c 1 t (ix3 0 n 0) = m ((c : Thread nD τ).loc main_arg1) (ix1 n) := by blk_point [iblk, V, idx t]
theorem blk2 (c : Dev nD) (t : Fin cfg0.N) (p : Fin 8) (k : Fin 6912) (d : Fin 2560) :
    iblk m c 2 t (ix3 p k d) = m ((c : Thread nD τ).loc main_arg2) (ix3 p k d) := by blk_point [iblk, V, idx t]

/-- What the reference stores second. -/
theorem out_at (c : Dev nD) (t : Fin cfg0.N) (y : S8x8x1x512.Idx) : out0_4 (iblk m c 0 t) (iblk m c 1 t) (iblk m c 2 t) y
    = dvSq (m ((c : Thread nD τ).loc main_arg0)) (m ((c : Thread nD τ).loc main_arg1)) (m ((c : Thread nD τ).loc main_arg2)) y := by
  unfold out0_4
  frame_out
  open_payloads
  pointwise [dvSq, dv]
  refine Finset.sum_congr rfl fun x _ => ?_
  simp only [blk0, blk1]
  rw [Finset.sum_congr rfl fun k _ => congrArg (fun b => _ * FloatOps.sitofp (F := Ideal) .bf16 b) (blk2 m c t (y 0) k x)]

/-- The reference gives `dvSq`. -/
theorem final4 (c : Dev nD) : (dats m 0 c).arrAt 4 (cfgs 0).N
    = dvSq (m ((c : Thread nD τ).loc main_arg0)) (m ((c : Thread nD τ).loc main_arg1)) (m ((c : Thread nD τ).loc main_arg2)) := by
  refine (dats m 0 c).arrAt_eq_of_covers 4 _ (by decide +kernel) fun t _ y => ?_
  have e : ((View.whole main_v1_1).slice (win0_4.rect t)).emb y = y := funext fun a => Fin.ext (by
    match a with
    | 0 => blk_simp [idx t]
    | 1 => blk_simp [idx t]
    | 2 => blk_simp [idx t]
    | 3 => blk_simp [idx t])
  blk_simp
  rw [after0_4]
  exact (out_at m c t y).trans (congrArg (dvSq _ _ _) e.symm)

end Cert.RefVIdeal.Val

end
-- ==== Proof.Down.GFrame.lean ====
module

public import proofs.«01_k».proof.Proof.Gen.Tangent.Frame
public import proofs.«01_k».proof.Proof.Gen.Tangent.Skeleton
public import Idealize.ShloMosaic.Lib.Pipeline.Frame
public import Idealize.ShloMosaic.Lib.Tactic

@[expose] public section

set_option maxRecDepth 16384

noncomputable section

/-
  The frame of `Tangent`: the body runs from any contents of its three scratch buffers and of its two outputs, leaves its
  inputs as they were, and nothing is said of what it leaves in the outputs.
-/
namespace Cert.Tangent.Hand

open Cert.Tangent Cert.Tangent.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-- The first point of the grid, as the body decides it. -/
abbrev first (i : grid0.Coords) : Prop :=
  Scalar.cmpi .ne (Scalar.extui (Scalar.andi (Scalar.cmpi .eq (BitVec.ofNat 32 (i 0).val) 0#32)
    (Scalar.cmpi .eq (BitVec.ofNat 32 (i 1).val) 0#32)) : BitVec 32) 0#32 = 1#1

set_option sl_exec.squeezeSlice true in
/-- The body's triple: inputs kept, outputs and scratch at some contents before and after. -/
theorem kernelRun (i : grid0.Coords) (c : Dev nD)
    (arg2 : Memref sig .tc .vmem S512x2560 .bf16) (harg2 : arg2.IsWhole) (arg3 : Memref sig .tc .vmem S1x1x512 .f32) (harg3 : arg3.IsWhole)
    (arg4 : Memref sig .tc .vmem S1x2560x2304 .i8) (harg4 : arg4.IsWhole) (arg5 : Memref sig .tc .vmem S512x2304 .f32) (harg5 : arg5.IsWhole)
    (arg6 : Memref sig .tc .vmem S1x512x2304 .fp8e4m3) (harg6 : arg6.IsWhole) (arg7 : Memref sig .tc .vmem S1x1x1x512 .f32) (harg7 : arg7.IsWhole)
    (arg8 : Memref sig .tc .vmem S512x6912 .f32) (harg8 : arg8.IsWhole) (arg9 : Memref sig .tc .vmem S512x128 .f32) (harg9 : arg9.IsWhole)
    (arg10 : Memref sig .tc .vmem S512x128 .f32) (harg10 : arg10.IsWhole)
    (X0 : S512x2560.Idx → Elt F .bf16) (X1 : S1x1x512.Idx → Elt F .f32) (X2 : S1x2560x2304.Idx → Elt F .i8) (X3 : S512x2304.Idx → Elt F .f32)
    (K : PUnit → sProp 𝕄) :
    iprop(owns (c : Thread nD τ) arg2 fullShare X0 ∗ owns (c : Thread nD τ) arg3 fullShare X1 ∗ owns (c : Thread nD τ) arg4 fullShare X2 ∗ owns (c : Thread nD τ) arg5 fullShare X3
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare X0 ∗ owns (c : Thread nD τ) arg3 fullShare X1 ∗ owns (c : Thread nD τ) arg4 fullShare X2 ∗ owns (c : Thread nD τ) arg5 fullShare X3
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ
          (cc0_tangent i arg2 harg2 arg3 harg3 arg4 harg4 arg5 harg5 arg6 harg6 arg7 harg7 arg8 harg8 arg9 harg9 arg10 harg10) K := by
  simp only [cc0_tangent_eq_skeleton]; unfold cc0_tangent_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f0, %h0, H0⟩, ⟨%f1, %h1, H1⟩, ⟨%f2, %h2, H2⟩, ⟨%f3, %h3, H3⟩, ⟨%d4, %f4, -, H4⟩, ⟨%d5, %f5, -, H5⟩, ⟨%d6, %f6, -, H6⟩, ⟨%d7, %f7, -, H7⟩, ⟨%d8, %f8, -, H8⟩, Hk⟩
  by_cases hc1 : first i <;> by_cases hc2 : k0_cond2 i = 1#1 <;> by_cases hc3 : k0_cond3 i = 1#1
  all_goals
    sl_exec (disch := first | exact hc1 | exact hc2 | exact hc3)
    sl_step
    iapply Hk
    isplitl [H0]
    · iexists _; isplitr; swap; · iexact H0
      ipureintro; exact h0
    isplitl [H1]
    · iexists _; isplitr; swap; · iexact H1
      ipureintro; exact h1
    isplitl [H2]
    · iexists _; isplitr; swap; · iexact H2
      ipureintro; exact h2
    isplitl [H3]
    · iexists _; isplitr; swap; · iexact H3
      ipureintro; exact h3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-! ## The proof data and the body obligation -/

variable (m : (ℓ : Loc nD τ sig) → Buf (Elt F) ℓ) (ρ : Dev nD → PrngReg)

/-- The two outputs are forgotten: nothing here reads what the body leaves in them. -/
def forgets0 : Fin 6 → Bool := ![false, false, false, false, true, true]

/-- The proof data on core `c`: the arrays as the region finds them; each input's block in place; the outputs unnamed; the scratch at
    some contents; full shares; nothing owed. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => Pipeline.Dat.unnamed (cfg := cfg0) 4 t
    | 5 => fun t => Pipeline.Dat.unnamed (cfg := cfg0) 5 t
    | ⟨_ + 6, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- The invariant, conjunct by conjunct. -/
theorem Phi_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq, after_0, after_1, after_2, after_3]
  simp only [before0_0_of m (dats m 0 c) rfl (after_0 m c), before0_1_of m (dats m 0 c) rfl (after_1 m c),
    before0_2_of m (dats m 0 c) rfl (after_2 m c), before0_3_of m (dats m 0 c) rfl (after_3 m c)]
  iintro ⟨⟨⟨HS0, HS1, HS2⟩, Hg⟩, HO, ⟨%d0, H0⟩, ⟨%d1, H1⟩, ⟨%d2, H2⟩, ⟨%d3, H3⟩, H4, H5⟩
  iapply (kernelRun (grid0.coords t) c (st0_0 t) _ (st0_1 t) _ (st0_2 t) _ (st0_3 t) _ (st0_4 t) _ (st0_5 t) _
    (Memref.whole cc0_scratch0) _ (Memref.whole cc0_scratch1) _ (Memref.whole cc0_scratch2) _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [HO]; · iexact HO
  isplitl [H0]; · iexact H0
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every run of @main terminates with the inputs as the region found them and the counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) (p := (0 : Fin 1)) cfgs (dats m) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main leaves its arguments as it found them. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      (h.1.arr_in c 2 rfl).trans ((A_eq m c 2).trans (V_main_arg2 m c)),
      (h.1.arr_in c 3 rfl).trans ((A_eq m c 3).trans (V_main_arg3 m c))⟩, h.2⟩) (run_main m ρ)

end Cert.Tangent.Hand

end
-- ==== Proof.Down.MathG.lean ====
module

public import Idealize.ShloMosaic.Lib.Pointwise

/-! The quantized tangent of a gated projection, as plain formulas over the extended reals, and the power-of-two scale: its exponent, taken
from the bits of a number's logarithm or from its size, and its value, put together from bits or taken as a power of two. -/

@[expose] public section

noncomputable section

open Idealize.ShloMosaic

namespace Cert.Down.Math

/-- The tangent at a probe, a token and a hidden unit: the product with the probe's signs, times the token's scale, times the factor. -/
def tng (xb : FVec Ideal ⟨2, ![4096, 2560]⟩ .bf16) (sx : FVec Ideal ⟨1, ![4096]⟩ .f32) (v : IVec ⟨3, ![8, 2560, 6912]⟩ 8)
    (fac : FVec Ideal ⟨2, ![4096, 6912]⟩ .f32) (p : Fin 8) (n : Fin 4096) (k : Fin 6912) : EReal :=
  fac (ix2 n k) * ((∑ x : Fin 2560, xb (ix2 n x) * FloatOps.sitofp (F := Ideal) .bf16 (v (ix3 p x k))) * sx (ix1 n))

/-- The greatest size in a family, at least `-∞`. -/
def big {n : ℕ} (f : Fin n → EReal) : EReal := Finset.fold max (Ideal.ofBits .f32 4286578688#32) f Finset.univ

/-- The logarithm to base two of a size over the largest code, rounded down. -/
def lg (a : EReal) : EReal :=
  Ideal.liftRound Int.floor (Ideal.div (Ideal.log (a * Ideal.ofBits .f32 991054117#32)) (Ideal.log (Ideal.ofBits .f32 1073741824#32)))

/-- The scale's exponent. -/
def ex (a : EReal) : BitVec 32 :=
  Scalar.select (IntOp.ori (IntOp.ori (BitVec.ofBool (decide (a = 0))) (BitVec.ofBool (decide (lg a < Ideal.ofBits .f32 3271294976#32))))
      (BitVec.ofBool (decide (Ideal.ofBits .f32 1123680256#32 < lg a))))
    0#32 (IntOp.addi (Ideal.fptosi 32 (lg a)) 1#32)

/-- The exponent field of a size over the largest code. -/
def field (f : EReal) : BitVec 32 :=
  if Ideal.ofBits .f32 1123680256#32 < f then 255#32 else IntOp.addi (Ideal.fptosi 32 (max f (Ideal.ofBits .f32 3271426048#32))) 127#32

/-- The scale's exponent, taken from the exponent field. -/
def exf (a : EReal) : BitVec 32 :=
  if a = 0 then 0#32
  else Scalar.select (IntOp.ori (IntOp.cmpi CmpIPredicate.eq (field (lg a)) 0#32) (IntOp.cmpi CmpIPredicate.eq (field (lg a)) 255#32))
    0#32 (IntOp.subi (field (lg a)) 126#32)

/-- The scale, and its inverse. -/
def scl (a : EReal) : EReal := Ideal.exp2 (FloatOps.sitofp (F := Ideal) .f32 (ex a))
def inv (a : EReal) : EReal := Ideal.exp2 (0 - FloatOps.sitofp (F := Ideal) .f32 (ex a))

/-- A number's code at an inverse scale, before rounding to the code's format. -/
def code (t s : EReal) : EReal := min (Ideal.ofBits .f32 1138753536#32) (max (Ideal.ofBits .f32 3286237184#32) (t * s))

/-- The codes of the tangent: probe, token, hidden unit. -/
def tngCode (xb : FVec Ideal ⟨2, ![4096, 2560]⟩ .bf16) (sx : FVec Ideal ⟨1, ![4096]⟩ .f32) (v : IVec ⟨3, ![8, 2560, 6912]⟩ 8)
    (fac : FVec Ideal ⟨2, ![4096, 6912]⟩ .f32) : FVec Ideal ⟨3, ![8, 4096, 6912]⟩ .fp8e4m3 := fun i =>
  code (tng xb sx v fac (i 0) (i 1) (i 2)) (inv (big fun k : Fin 6912 => max (tng xb sx v fac (i 0) (i 1) k) (-tng xb sx v fac (i 0) (i 1) k)))

/-- The scales of the tangent: probe, then tokens in rows of 512. -/
def tngScale (xb : FVec Ideal ⟨2, ![4096, 2560]⟩ .bf16) (sx : FVec Ideal ⟨1, ![4096]⟩ .f32) (v : IVec ⟨3, ![8, 2560, 6912]⟩ 8)
    (fac : FVec Ideal ⟨2, ![4096, 6912]⟩ .f32) : FVec Ideal ⟨4, ![8, 8, 1, 512]⟩ .f32 := fun i =>
  scl (big fun k : Fin 6912 => max (tng xb sx v fac (i 0) ⟨(i 1).val * 512 + (i 3).val, by
      have h1 : (i 1).val < 8 := (i 1).isLt
      have h3 : (i 3).val < 512 := (i 3).isLt
      omega⟩ k) (-tng xb sx v fac (i 0) ⟨(i 1).val * 512 + (i 3).val, by
      have h1 : (i 1).val < 8 := (i 1).isLt
      have h3 : (i 3).val < 512 := (i 3).isLt
      omega⟩ k))

/-! ## The constants -/

theorem b_bot : Ideal.ofBits .f32 4286578688#32 = ⊥ := by simp [Ideal.ofBits, Ideal.ieee, -EReal.coe_mul]
theorem b_m126 : Ideal.ofBits .f32 3271294976#32 = (((-126 : ℤ) : ℝ) : EReal) := by simp [Ideal.ofBits, Ideal.ieee, -EReal.coe_mul]; norm_num
theorem b_m127 : Ideal.ofBits .f32 3271426048#32 = (((-127 : ℤ) : ℝ) : EReal) := by simp [Ideal.ofBits, Ideal.ieee, -EReal.coe_mul]; norm_num
theorem b_125 : Ideal.ofBits .f32 1123680256#32 = (((125 : ℤ) : ℝ) : EReal) := by simp [Ideal.ofBits, Ideal.ieee, -EReal.coe_mul]; norm_num

/-- The logarithm rounded down is an infinity or an integer. -/
theorem lg_cases (a : EReal) : lg a = ⊥ ∨ lg a = ⊤ ∨ ∃ z : ℤ, lg a = ((z : ℝ) : EReal) := by
  unfold lg
  generalize Ideal.div _ _ = x
  induction x using EReal.rec with
  | bot => exact .inl rfl
  | top => exact .inr (.inl rfl)
  | coe r => exact .inr (.inr ⟨⌊r⌋, rfl⟩)

/-- An integer of moderate size, rounded toward zero and held to 32 bits, is itself. -/
theorem fptosi_int (z : ℤ) (h : -2147483648 ≤ z) (h' : z ≤ 2147483647) : Ideal.fptosi 32 ((z : ℝ) : EReal) = BitVec.ofInt 32 z := by
  unfold Ideal.fptosi
  rw [Ideal.toIntClamped_coe]
  congr 1
  have e : (if (0 : ℝ) ≤ (z : ℝ) then ⌊(z : ℝ)⌋ else ⌈(z : ℝ)⌉) = z := by split <;> simp
  rw [e]
  norm_num
  omega

/-- The field's arithmetic, at each integer it can hold. -/
theorem field_arith : ∀ k : Fin 252, Scalar.select (IntOp.ori (IntOp.cmpi CmpIPredicate.eq (IntOp.addi (BitVec.ofInt 32 ((k.val : ℤ) - 126)) 127#32) 0#32)
      (IntOp.cmpi CmpIPredicate.eq (IntOp.addi (BitVec.ofInt 32 ((k.val : ℤ) - 126)) 127#32) 255#32)) 0#32
      (IntOp.subi (IntOp.addi (BitVec.ofInt 32 ((k.val : ℤ) - 126)) 127#32) 126#32)
    = IntOp.addi (BitVec.ofInt 32 ((k.val : ℤ) - 126)) 1#32 := by decide +kernel

theorem sum_arith : ∀ k : Fin 252, IntOp.addi (BitVec.ofInt 32 ((k.val : ℤ) - 126)) 1#32 = BitVec.ofInt 32 ((k.val : ℤ) - 125) := by decide +kernel

theorem coe_lt (a b : ℤ) : (((a : ℝ) : EReal) < ((b : ℝ) : EReal)) ↔ a < b := by
  rw [EReal.coe_lt_coe_iff, Int.cast_lt]

theorem fin_of (z : ℤ) (h : -126 ≤ z) (h' : z ≤ 125) : ∃ k : Fin 252, z = (k.val : ℤ) - 126 :=
  ⟨⟨(z + 126).toNat, by omega⟩, by dsimp only; omega⟩

theorem sel1 {c : BitVec 1} (h : c = 1#1) (x y : BitVec 32) : Scalar.select c x y = x := by subst h; rfl
theorem or1 : ∀ x y : BitVec 1, IntOp.ori (IntOp.ori (BitVec.ofBool true) x) y = 1#1 := by decide
theorem or2 : ∀ x y : BitVec 1, IntOp.ori (IntOp.ori x (BitVec.ofBool true)) y = 1#1 := by decide
theorem or3 : ∀ x : BitVec 1, IntOp.ori x (BitVec.ofBool true) = 1#1 := by decide
theorem or4 : ∀ x y : BitVec 32, Scalar.select (IntOp.ori (IntOp.ori (BitVec.ofBool false) (BitVec.ofBool false)) (BitVec.ofBool false)) x y = y := fun _ _ => rfl
theorem fld0 : ∀ y : BitVec 32, Scalar.select (IntOp.ori (IntOp.cmpi CmpIPredicate.eq (IntOp.addi (BitVec.ofInt 32 (-127)) 127#32) 0#32)
    (IntOp.cmpi CmpIPredicate.eq (IntOp.addi (BitVec.ofInt 32 (-127)) 127#32) 255#32)) 0#32 y = 0#32 := fun _ => rfl
theorem fld255 : ∀ y : BitVec 32, Scalar.select (IntOp.ori (IntOp.cmpi CmpIPredicate.eq 255#32 0#32)
    (IntOp.cmpi CmpIPredicate.eq 255#32 255#32)) 0#32 y = 0#32 := fun _ => rfl

/-- The exponent by the field is the exponent by size. -/
theorem exf_eq (a : EReal) : exf a = ex a := by
  unfold exf ex field
  by_cases ha : a = 0
  · rw [if_pos ha, decide_eq_true ha, sel1 (or1 _ _)]
  rw [if_neg ha, decide_eq_false ha, b_m126, b_m127, b_125]
  rcases lg_cases a with h | h | ⟨z, h⟩
  · rw [h]
    rw [if_neg (by simp), max_eq_right (by simp), fptosi_int _ (by norm_num) (by norm_num), decide_eq_true (EReal.bot_lt_coe _), sel1 (or2 _ _), fld0]
  · rw [h, if_pos (EReal.coe_lt_top _), decide_eq_true (EReal.coe_lt_top _), sel1 (or3 _), fld255]
  · rw [h]
    simp only [coe_lt]
    by_cases h1 : 125 < z
    · rw [if_pos h1, decide_eq_true h1, sel1 (or3 _), fld255]
    rw [if_neg h1, decide_eq_false h1]
    by_cases h2 : z < -126
    · rw [decide_eq_true h2, max_eq_right (by rw [EReal.coe_le_coe_iff, Int.cast_le]; omega), fptosi_int _ (by norm_num) (by norm_num), sel1 (or2 _ _), fld0]
    rw [decide_eq_false h2, max_eq_left (by rw [EReal.coe_le_coe_iff, Int.cast_le]; omega), fptosi_int z (by omega) (by omega)]
    obtain ⟨k, rfl⟩ := fin_of z (by omega) (by omega)
    rw [field_arith, or4]

/-- The exponent is an integer between -125 and 126. -/
theorem ex_range (a : EReal) : ∃ k : Fin 252, ex a = BitVec.ofInt 32 ((k.val : ℤ) - 125) := by
  have h0 : ∃ k : Fin 252, (0#32 : BitVec 32) = BitVec.ofInt 32 ((k.val : ℤ) - 125) := ⟨125, by decide⟩
  unfold ex
  rw [b_m126, b_125]
  by_cases ha : a = 0
  · rw [decide_eq_true ha, sel1 (or1 _ _)]; exact h0
  rw [decide_eq_false ha]
  rcases lg_cases a with h | h | ⟨z, h⟩
  · rw [h, decide_eq_true (EReal.bot_lt_coe _), sel1 (or2 _ _)]; exact h0
  · rw [h, decide_eq_true (EReal.coe_lt_top _), sel1 (or3 _)]; exact h0
  · rw [h]
    simp only [coe_lt]
    by_cases h1 : 125 < z
    · rw [decide_eq_true h1, sel1 (or3 _)]; exact h0
    rw [decide_eq_false h1]
    by_cases h2 : z < -126
    · rw [decide_eq_true h2, sel1 (or2 _ _)]; exact h0
    rw [decide_eq_false h2, fptosi_int z (by omega) (by omega), or4]
    obtain ⟨k, rfl⟩ := fin_of z (by omega) (by omega)
    exact ⟨k, sum_arith k⟩

/-- The parts of a pattern with only an exponent field. -/
theorem parts : ∀ k : Fin 255, ((BitVec.ofNat 32 (k.val * 8388608)).extractLsb' 31 1 == 1#1) = false
    ∧ ((BitVec.ofNat 32 (k.val * 8388608)).extractLsb' 23 8).toNat = k.val
    ∧ ((BitVec.ofNat 32 (k.val * 8388608)).extractLsb' 0 23).toNat = 0 := by decide +kernel

/-- A pattern with only an exponent field is a power of two. -/
theorem pow_bits (k : Fin 255) (h : 1 ≤ k.val) : Ideal.ofBits .f32 (BitVec.ofNat 32 (k.val * 8388608)) = ((Real.rpow 2 (((k.val : ℤ) - 127 : ℤ) : ℝ) : ℝ) : EReal) := by
  obtain ⟨h1, h2, h3⟩ := parts k
  show Ideal.ieee 8 23 (BitVec.ofNat 32 (k.val * 8388608)) = _
  unfold Ideal.ieee
  dsimp only [Nat.reduceAdd]
  rw [h1, h2, h3, if_neg (by omega), if_neg (by omega)]
  congr 1
  rw [show Real.rpow 2 (((k.val : ℤ) - 127 : ℤ) : ℝ) = (2 : ℝ) ^ ((k.val : ℤ) - 127) from Real.rpow_intCast 2 _]
  rw [show ((k.val : ℤ) - 127) = 23 + ((k.val : ℤ) - (2 ^ (8 - 1) - 1) - (23 : ℕ)) by norm_num, zpow_add₀ (by norm_num)]
  norm_num

/-- The shifted fields, and the exponents as integers. -/
theorem shift_arith : ∀ k : Fin 252, IntOp.shli ArithUnit.vector (IntOp.addi 127#32 (BitVec.ofInt 32 ((k.val : ℤ) - 125))) 23#32 = BitVec.ofNat 32 ((k.val + 2) * 8388608)
    ∧ IntOp.shli ArithUnit.vector (IntOp.subi 127#32 (BitVec.ofInt 32 ((k.val : ℤ) - 125))) 23#32 = BitVec.ofNat 32 ((252 - k.val) * 8388608)
    ∧ (BitVec.ofInt 32 ((k.val : ℤ) - 125)).toInt = (k.val : ℤ) - 125 := by decide +kernel

/-- The scale, put together from bits. -/
theorem scl_bits (a : EReal) : Ideal.ofBits .f32 (IntOp.shli ArithUnit.vector (IntOp.addi 127#32 (ex a)) 23#32) = scl a := by
  obtain ⟨k, hk⟩ := ex_range a
  obtain ⟨h1, h2, h3⟩ := shift_arith k
  unfold scl
  rw [hk, h1, pow_bits ⟨k.val + 2, by omega⟩ (by dsimp only; omega)]
  show _ = Ideal.exp2 (((BitVec.ofInt 32 ((k.val : ℤ) - 125)).toInt : ℝ) : EReal)
  rw [h3, Ideal.exp2_coe]
  congr 3
  push_cast; ring

/-- The inverse scale, put together from bits. -/
theorem inv_bits (a : EReal) : Ideal.ofBits .f32 (IntOp.shli ArithUnit.vector (IntOp.subi 127#32 (ex a)) 23#32) = inv a := by
  obtain ⟨k, hk⟩ := ex_range a
  obtain ⟨h1, h2, h3⟩ := shift_arith k
  unfold inv
  rw [hk, h2, pow_bits ⟨252 - k.val, by omega⟩ (by dsimp only; omega)]
  show _ = Ideal.exp2 (0 - (((BitVec.ofInt 32 ((k.val : ℤ) - 125)).toInt : ℝ) : EReal))
  rw [h3, zero_sub, ← EReal.coe_neg, Ideal.exp2_coe]
  congr 3
  rw [← Int.cast_neg]
  congr 1
  have := k.isLt
  push_cast [Nat.cast_sub (show k.val ≤ 252 by omega)]; ring

/-! ## Greatest sizes -/

theorem big_le {n : ℕ} (f : Fin n → EReal) (b : EReal) : big f ≤ b ↔ ∀ k, f k ≤ b := by
  unfold big
  rw [b_bot, Finset.fold_max_le]
  simp

/-- Two greatest sizes with the same bounds are equal. -/
theorem eq_of_le_iff {x y : EReal} (h : ∀ b, x ≤ b ↔ y ≤ b) : x = y := le_antisymm ((h y).2 le_rfl) ((h x).1 le_rfl)

end Cert.Down.Math

end
-- ==== Proof.Down.GRun.lean ====
module

public import proofs.«01_k».proof.Proof.Gen.TangentIdeal.Frame
public import proofs.«01_k».proof.Proof.Gen.TangentIdeal.Skeleton
public import Idealize.ShloMosaic.Lib.Pipeline.Frame
public import Idealize.ShloMosaic.Lib.Pipeline.DatRel
public import Idealize.ShloMosaic.Lib.VecWindow
public import Idealize.ShloMosaic.Lib.Pointwise
public import Idealize.ShloMosaic.Lib.Tactic

@[expose] public section

set_option maxRecDepth 16384

noncomputable section

/-
  One run of `TangentIdeal`'s body, from any contents of the buffers, with what it leaves in each of them named.
-/
namespace Cert.TangentIdeal.Hand

open Cert.TangentIdeal Cert.TangentIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Idealize.ShloMosaic.VecWindow (put window)

variable {F : FTy → Type} [FloatOps F] [∀ e, Nonempty (Elt F e)]

local notation "𝕄" => MT nD τ sig Unit (Elt F) ℕ (UR sig nD τ) ℕ

/-- The first point of the grid, as the body decides it. -/
abbrev first (i : grid0.Coords) : Prop :=
  Scalar.cmpi .ne (Scalar.extui (Scalar.andi (Scalar.cmpi .eq (BitVec.ofNat 32 (i 0).val) 0#32)
    (Scalar.cmpi .eq (BitVec.ofNat 32 (i 1).val) 0#32)) : BitVec 32) 0#32 = 1#1

/-- The lane maxima the body reads: cleared at the grid's first point. -/
def c9 (i : grid0.Coords) (S9 : Vec F S512x128 .f32) : Vec F S512x128 .f32 := if first i then k0_pay1 else S9
def c10 (i : grid0.Coords) (S10 : Vec F S512x128 .f32) : Vec F S512x128 .f32 := if first i then k0_pay2 else S10

/-- The lane maxima of the step before, after the body. -/
def mp (i : grid0.Coords) (S9 S10 : Vec F S512x128 .f32) : Vec F S512x128 .f32 := k0_pay3 i (c9 i S9) (c10 i S10)

/-- A group of 256 columns of the probe's block and of the factor's block. -/
def wv (o : ℕ) (h : ∀ a, (![0, 0, o] : Fin 3 → ℕ) a + S1x2560x256.size a ≤ S1x2560x2304.size a) (X2 : Vec F S1x2560x2304 .i8) : Vec F S1x2560x256 .i8 :=
  window X2 ![0, 0, o] S1x2560x256.size h
def wf (o : ℕ) (h : ∀ a, (![0, o] : Fin 2 → ℕ) a + S512x256.size a ≤ S512x2304.size a) (X3 : Vec F S512x2304 .f32) : Vec F S512x256 .f32 :=
  window X3 ![0, o] S512x256.size h

/-- What the body leaves in the scratch of the tangents: nine column groups put over what was there. -/
def puts (i : grid0.Coords) (X0 : Vec F S512x2560 .bf16) (X1 : Vec F S1x1x512 .f32) (X2 : Vec F S1x2560x2304 .i8) (X3 : Vec F S512x2304 .f32)
    (S8 : Vec F S512x6912 .f32) : Vec F S512x6912 .f32 :=
  put (put (put (put (put (put (put (put (put S8 (k0_off2 i 0#32) S512x256.size (k0_pay13 X1 X0 (wv 0 inb_S1x2560x2304_S1x2560x256_0_0_0 X2) (wf 0 inb_S512x2304_S512x256_0_0 X3))
    ) (k0_off2 i 256#32) S512x256.size (k0_pay17 (k0_pay15 X1 X0 (wv 256 inb_S1x2560x2304_S1x2560x256_0_0_256 X2)) (wf 256 inb_S512x2304_S512x256_0_256 X3))
    ) (k0_off2 i 512#32) S512x256.size (k0_pay19 (k0_pay11 X1) X0 (wv 512 inb_S1x2560x2304_S1x2560x256_0_0_512 X2) (wf 512 inb_S512x2304_S512x256_0_512 X3))
    ) (k0_off2 i 768#32) S512x256.size (k0_pay22 (k0_pay11 X1) X0 (wv 768 inb_S1x2560x2304_S1x2560x256_0_0_768 X2) (wf 768 inb_S512x2304_S512x256_0_768 X3))
    ) (k0_off2 i 1024#32) S512x256.size (k0_pay24 (k0_pay11 X1) X0 (wv 1024 inb_S1x2560x2304_S1x2560x256_0_0_1024 X2) (wf 1024 inb_S512x2304_S512x256_0_1024 X3))
    ) (k0_off2 i 1280#32) S512x256.size (k0_pay27 (k0_pay11 X1) X0 (wv 1280 inb_S1x2560x2304_S1x2560x256_0_0_1280 X2) (wf 1280 inb_S512x2304_S512x256_0_1280 X3))
    ) (k0_off2 i 1536#32) S512x256.size (k0_pay29 (k0_pay11 X1) X0 (wv 1536 inb_S1x2560x2304_S1x2560x256_0_0_1536 X2) (wf 1536 inb_S512x2304_S512x256_0_1536 X3))
    ) (k0_off2 i 1792#32) S512x256.size (k0_pay32 (k0_pay11 X1) X0 (wv 1792 inb_S1x2560x2304_S1x2560x256_0_0_1792 X2) (wf 1792 inb_S512x2304_S512x256_0_1792 X3))
    ) (k0_off2 i 2048#32) S512x256.size (k0_pay35 (k0_pay11 X1) X0 (wv 2048 inb_S1x2560x2304_S1x2560x256_0_0_2048 X2) (wf 2048 inb_S512x2304_S512x256_0_2048 X3))
def tt (i : grid0.Coords) (X0 : Vec F S512x2560 .bf16) (X1 : Vec F S1x1x512 .f32) (X2 : Vec F S1x2560x2304 .i8) (X3 : Vec F S512x2304 .f32)
    (S8 : Vec F S512x6912 .f32) : Vec F S512x6912 .f32 := if k0_cond3 i = 1#1 then puts i X0 X1 X2 X3 S8 else S8

/-- The lane maxima after the column groups, from those read. -/
def maxs (i : grid0.Coords) (X0 : Vec F S512x2560 .bf16) (X1 : Vec F S1x1x512 .f32) (X2 : Vec F S1x2560x2304 .i8) (X3 : Vec F S512x2304 .f32)
    (C : Vec F S512x128 .f32) : Vec F S512x128 .f32 :=
  k0_pay7 (k0_pay33 (k0_pay11 X1) (k0_pay30 (k0_pay11 X1) (k0_pay25 (k0_pay11 X1) (k0_pay20 (k0_pay11 X1) (k0_pay14 (k0_pay4 i C) X1 X0 (wv 0 inb_S1x2560x2304_S1x2560x256_0_0_0 X2) (wf 0 inb_S512x2304_S512x256_0_0 X3))
    (k0_pay15 X1 X0 (wv 256 inb_S1x2560x2304_S1x2560x256_0_0_256 X2)) (wf 256 inb_S512x2304_S512x256_0_256 X3) X0 (wv 512 inb_S1x2560x2304_S1x2560x256_0_0_512 X2) (wf 512 inb_S512x2304_S512x256_0_512 X3)) X0 (wv 768 inb_S1x2560x2304_S1x2560x256_0_0_768 X2) (wf 768 inb_S512x2304_S512x256_0_768 X3) X0 (wv 1024 inb_S1x2560x2304_S1x2560x256_0_0_1024 X2) (wf 1024 inb_S512x2304_S512x256_0_1024 X3)) X0 (wv 1280 inb_S1x2560x2304_S1x2560x256_0_0_1280 X2) (wf 1280 inb_S512x2304_S512x256_0_1280 X3) X0 (wv 1536 inb_S1x2560x2304_S1x2560x256_0_0_1536 X2) (wf 1536 inb_S512x2304_S512x256_0_1536 X3)) X0 (wv 1792 inb_S1x2560x2304_S1x2560x256_0_0_1792 X2) (wf 1792 inb_S512x2304_S512x256_0_1792 X3)) (k0_pay34 (k0_pay11 X1) X0 (wv 2048 inb_S1x2560x2304_S1x2560x256_0_0_2048 X2) (wf 2048 inb_S512x2304_S512x256_0_2048 X3))

/-- What the body leaves in the scratch of the lane maxima. -/
def cur (i : grid0.Coords) (X0 : Vec F S512x2560 .bf16) (X1 : Vec F S1x1x512 .f32) (X2 : Vec F S1x2560x2304 .i8) (X3 : Vec F S512x2304 .f32)
    (S9 : Vec F S512x128 .f32) : Vec F S512x128 .f32 := if k0_cond3 i = 1#1 then maxs i X0 X1 X2 X3 (c9 i S9) else c9 i S9

/-- What the body leaves in the codes' buffer and in the scales' buffer. -/
def cd (i : grid0.Coords) (M : Vec F S512x128 .f32) (S8 : Vec F S512x6912 .f32) (Y : Vec F S1x512x2304 .fp8e4m3) : Vec F S1x512x2304 .fp8e4m3 :=
  if h : k0_cond2 i = 1#1 then k0_pay6 (k0_pay10 M) 23#32 (window S8 (k0_off1 i) S512x2304.size (k0_off1_inb i h)) else Y
def sc (i : grid0.Coords) (M : Vec F S512x128 .f32) (Y : Vec F S1x1x1x512 .f32) : Vec F S1x1x1x512 .f32 :=
  if k0_cond2 i = 1#1 then fun y => k0_pay5 (k0_pay9 M) (ix3 0 0 (y 3)) else Y

section reads
variable {κ : Kind} {sp : Space}
theorem rd2 (v : View sig κ sp S512x2560 .bf16) (f : v.ty.Contents (Elt F)) :
    v.readAt (Elt F) (Rect.unit (s := S512x2560) ![0, 0] S512x2560.size inb_S512x2560_S512x2560_0_0).toLoadRect f = v.read (Elt F) f := View.readAt_full v f _
theorem rd2' (v : View sig κ sp S512x2560 .bf16) (f : v.ty.Contents (Elt F)) :
    v.readAt (Elt F) (Rect.unit (s := S512x2560) ![0, 0] ![512, 2560] inb_S512x2560_S512x2560_0_0).toLoadRect f = v.read (Elt F) f := View.readAt_full v f _
theorem rd3 (v : View sig κ sp S1x1x512 .f32) (f : v.ty.Contents (Elt F)) :
    v.readAt (Elt F) (Rect.unit (s := S1x1x512) ![0, 0, 0] S1x1x512.size inb_S1x1x512_S1x1x512_0_0_0).toLoadRect f = v.read (Elt F) f := View.readAt_full v f _
theorem rd3' (v : View sig κ sp S1x1x512 .f32) (f : v.ty.Contents (Elt F)) :
    v.readAt (Elt F) (Rect.unit (s := S1x1x512) ![0, 0, 0] ![1, 1, 512] inb_S1x1x512_S1x1x512_0_0_0).toLoadRect f = v.read (Elt F) f := View.readAt_full v f _
theorem rd9 (v : View sig κ sp S512x128 .f32) (f : v.ty.Contents (Elt F)) :
    v.readAt (Elt F) (Rect.unit (s := S512x128) ![0, 0] S512x128.size inb_S512x128_S512x128_0_0).toLoadRect f = v.read (Elt F) f := View.readAt_full v f _
theorem rd9' (v : View sig κ sp S512x128 .f32) (f : v.ty.Contents (Elt F)) :
    v.readAt (Elt F) (Rect.unit (s := S512x128) ![0, 0] ![512, 128] inb_S512x128_S512x128_0_0).toLoadRect f = v.read (Elt F) f := View.readAt_full v f _
theorem rc9 (v : View sig κ sp S512x128 .f32)
    (w : (Rect.unit (s := S512x128) ![0, 0] ![512, 128] inb_S512x128_S512x128_0_0).shape.Idx → Elt F .f32) (L) :
    v.readCov (⟨Rect.unit (s := S512x128) ![0, 0] ![512, 128] inb_S512x128_S512x128_0_0, w⟩ :: L)
      (Rect.unit (s := S512x128) ![0, 0] ![512, 128] inb_S512x128_S512x128_0_0).toLoadRect = w := View.readCov_full v inb_S512x128_S512x128_0_0 inb_S512x128_S512x128_0_0 w L
theorem rwv (v : View sig κ sp S1x2560x2304 .i8) (f : v.ty.Contents (Elt F)) (o : ℕ) (h) :
    v.readAt (Elt F) (Rect.unit (s := S1x2560x2304) ![0, 0, o] S1x2560x256.size h).toLoadRect f = wv o h (v.read (Elt F) f) := rfl
theorem rwv' (v : View sig κ sp S1x2560x2304 .i8) (f : v.ty.Contents (Elt F)) (o : ℕ) (h) :
    v.readAt (Elt F) (Rect.unit (s := S1x2560x2304) ![0, 0, o] ![1, 2560, 256] h).toLoadRect f = wv o h (v.read (Elt F) f) := rfl
theorem rwf (v : View sig κ sp S512x2304 .f32) (f : v.ty.Contents (Elt F)) (o : ℕ) (h) :
    v.readAt (Elt F) (Rect.unit (s := S512x2304) ![0, o] S512x256.size h).toLoadRect f = wf o h (v.read (Elt F) f) := rfl
theorem rwf' (v : View sig κ sp S512x2304 .f32) (f : v.ty.Contents (Elt F)) (o : ℕ) (h) :
    v.readAt (Elt F) (Rect.unit (s := S512x2304) ![0, o] ![512, 256] h).toLoadRect f = wf o h (v.read (Elt F) f) := rfl
theorem rt (v : View sig κ sp S512x6912 .f32) (f : v.ty.Contents (Elt F)) (o) (h) :
    v.readAt (Elt F) (Rect.unit (s := S512x6912) o S512x2304.size h).toLoadRect f = window (v.read (Elt F) f) o S512x2304.size h := rfl
theorem rt' (v : View sig κ sp S512x6912 .f32) (f : v.ty.Contents (Elt F)) (o) (h) :
    v.readAt (Elt F) (Rect.unit (s := S512x6912) o ![512, 2304] h).toLoadRect f = window (v.read (Elt F) f) o S512x2304.size h := rfl
end reads

set_option sl_exec.squeezeSlice true in
set_option maxHeartbeats 1600000 in
/-- The body's triple: inputs kept, and every other buffer left at the functions above of what was there. -/
theorem kernelRun (i : grid0.Coords) (c : Dev nD)
    (arg2 : Memref sig .tc .vmem S512x2560 .bf16) (harg2 : arg2.IsWhole) (arg3 : Memref sig .tc .vmem S1x1x512 .f32) (harg3 : arg3.IsWhole)
    (arg4 : Memref sig .tc .vmem S1x2560x2304 .i8) (harg4 : arg4.IsWhole) (arg5 : Memref sig .tc .vmem S512x2304 .f32) (harg5 : arg5.IsWhole)
    (arg6 : Memref sig .tc .vmem S1x512x2304 .fp8e4m3) (harg6 : arg6.IsWhole) (arg7 : Memref sig .tc .vmem S1x1x1x512 .f32) (harg7 : arg7.IsWhole)
    (arg8 : Memref sig .tc .vmem S512x6912 .f32) (harg8 : arg8.IsWhole) (arg9 : Memref sig .tc .vmem S512x128 .f32) (harg9 : arg9.IsWhole)
    (arg10 : Memref sig .tc .vmem S512x128 .f32) (harg10 : arg10.IsWhole)
    (X0 : Vec F S512x2560 .bf16) (X1 : Vec F S1x1x512 .f32) (X2 : Vec F S1x2560x2304 .i8) (X3 : Vec F S512x2304 .f32)
    (Y4 : Vec F S1x512x2304 .fp8e4m3) (Y5 : Vec F S1x1x1x512 .f32) (S8 : Vec F S512x6912 .f32) (S9 S10 : Vec F S512x128 .f32)
    (K : PUnit → sProp 𝕄) :
    iprop(owns (c : Thread nD τ) arg2 fullShare X0 ∗ owns (c : Thread nD τ) arg3 fullShare X1 ∗ owns (c : Thread nD τ) arg4 fullShare X2 ∗ owns (c : Thread nD τ) arg5 fullShare X3
        ∗ owns (c : Thread nD τ) arg6 fullShare Y4 ∗ owns (c : Thread nD τ) arg7 fullShare Y5
        ∗ owns (c : Thread nD τ) arg8 fullShare S8 ∗ owns (c : Thread nD τ) arg9 fullShare S9 ∗ owns (c : Thread nD τ) arg10 fullShare S10
        ∗ (iprop(owns (c : Thread nD τ) arg2 fullShare X0 ∗ owns (c : Thread nD τ) arg3 fullShare X1 ∗ owns (c : Thread nD τ) arg4 fullShare X2 ∗ owns (c : Thread nD τ) arg5 fullShare X3
            ∗ owns (c : Thread nD τ) arg6 fullShare (cd i (mp i S9 S10) S8 Y4) ∗ owns (c : Thread nD τ) arg7 fullShare (sc i (mp i S9 S10) Y5)
            ∗ owns (c : Thread nD τ) arg8 fullShare (tt i X0 X1 X2 X3 S8) ∗ owns (c : Thread nD τ) arg9 fullShare (cur i X0 X1 X2 X3 S9)
            ∗ owns (c : Thread nD τ) arg10 fullShare (mp i S9 S10)) -∗ K ⟨⟩))
      ⊢ wp frame (wpE (defs₀ (F := F)) Variants.none c none) Set.univ
          (cc0_tangent i arg2 harg2 arg3 harg3 arg4 harg4 arg5 harg5 arg6 harg6 arg7 harg7 arg8 harg8 arg9 harg9 arg10 harg10) K := by
  simp only [cc0_tangent_eq_skeleton]; unfold cc0_tangent_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, Hk⟩
  subst h0 h1 h2 h3 h4 h5 h6 h7 h8
  by_cases hc1 : first i <;> by_cases hc2 : k0_cond2 i = 1#1 <;> by_cases hc3 : k0_cond3 i = 1#1
  all_goals
    simp only [cd, sc, tt, cur, mp, c9, c10]
    first | simp only [if_pos hc1] | simp only [if_neg hc1]
    first | simp only [if_pos hc2, dif_pos hc2] | simp only [if_neg hc2, dif_neg hc2]
    first | simp only [if_pos hc3] | simp only [if_neg hc3]
    sl_exec (disch := first | exact hc1 | exact hc2 | exact hc3)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro
      try sl_unfold_run_names
      try dsimp only
      first
        | rw [View.read_writes_full arg6.view]
          try simp only [rd9, rd9', rc9, rt, rt', View.writes_nil]
        | skip
    isplitl [H5]
    · iexists _; isplitr; swap; · iexact H5
      ipureintro
      try sl_unfold_run_names
      try dsimp only
      first
        | done
        | (funext y
           refine (View.read_writes_cons_hit_of_coords arg7.view f5 _ _ _ (ix4 0 0 0 (y 3)) y ?_).trans ((Rect.payAlong_consLift _ _ _ _ _ _ _ (ix3 0 0 (y 3)) ?_).trans ?_)
           · intro a
             match a with
             | 0 => exact Nat.lt_one_iff.1 (y 0).isLt
             | 1 => exact Nat.lt_one_iff.1 (y 1).isLt
             | 2 => exact Nat.lt_one_iff.1 (y 2).isLt
             | 3 => simp [Rect.within]; exact (Nat.one_mul _).symm
           · intro a
             match a with
             | 0 => rfl
             | 1 => rfl
             | 2 => rfl
           · simp only [rd9, rd9', rc9]; rfl)
    isplitl [H6]
    · iexists _; isplitr; swap; · iexact H6
      ipureintro
      try sl_unfold_run_names
      try dsimp only
      first
        | rw [View.read_writes_cons_put arg8.view _ _ _ _ rfl, View.read_writes_cons_put arg8.view _ _ _ _ rfl, View.read_writes_cons_put arg8.view _ _ _ _ rfl,
            View.read_writes_cons_put arg8.view _ _ _ _ rfl, View.read_writes_cons_put arg8.view _ _ _ _ rfl, View.read_writes_cons_put arg8.view _ _ _ _ rfl,
            View.read_writes_cons_put arg8.view _ _ _ _ rfl, View.read_writes_cons_put arg8.view _ _ _ _ rfl, View.read_writes_cons_put arg8.view _ _ _ _ rfl]
          try simp only [rd2, rd2', rd3, rd3', rwv, rwv', rwf, rwf', puts, View.writes_nil]
        | skip
    isplitl [H7]
    · iexists _; isplitr; swap; · iexact H7
      ipureintro
      try sl_unfold_run_names
      try dsimp only
      first
        | rw [View.read_writes_full arg9.view]
          try simp only [rd2, rd2', rd3, rd3', rd9, rd9', rc9, rwv, rwv', rwf, rwf', maxs, View.writes_nil]
        | skip
    iexists _; isplitr; swap; · iexact H8
    ipureintro
    try sl_unfold_run_names
    try dsimp only
    rw [View.read_writes_full arg10.view]
    try simp only [rd9, rd9', rc9, View.writes_nil]

end Cert.TangentIdeal.Hand

end
-- ==== Proof.Down.GRel.lean ====
module

public import proofs.«01_k».proof.Proof.Gen.TangentIdeal.Frame
public import proofs.«01_k».proof.Proof.Gen.TangentIdeal.Skeleton
public import Idealize.ShloMosaic.Lib.Pipeline.Frame
public import Idealize.ShloMosaic.Lib.Pipeline.DatRel
public import Idealize.ShloMosaic.Lib.Pipeline.ArrRel
public import proofs.«01_k».proof.Proof.Down.GRun
public import Idealize.ShloMosaic.Lib.Tactic

@[expose] public section

set_option maxRecDepth 16384

noncomputable section

/-
  The run of the idealized `Tangent`, with what it leaves in the two outputs. A step's three points compute the step's tangents into the
  scratch, a third of the columns each, and the greatest sizes lane by lane; the next step's three points store their codes and their scales.
-/
namespace Cert.TangentIdeal.Hand

open Cert.TangentIdeal Cert.TangentIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-! ## Stored column groups -/

/-- Two buffers that agree up to a group's first column agree up to its last after the same group is put into both. -/
theorem agree_step {S S' : Vec F S512x6912 .f32} {lo o : ℕ} (w : Vec F S512x256 .f32) (h : ∀ y, lo ≤ (y 1).val → (y 1).val < o → S y = S' y) :
    ∀ y, lo ≤ (y 1).val → (y 1).val < o + 256 → put S ![0, o] S512x256.size w y = put S' ![0, o] S512x256.size w y := fun y h1 h2 => by
  unfold put
  by_cases hh : ∀ a, (![0, o] : Fin 2 → ℕ) a ≤ (y a).val ∧ (y a).val < (![0, o] : Fin 2 → ℕ) a + S512x256.size a
  · rw [dif_pos hh, dif_pos hh]
  · rw [dif_neg hh, dif_neg hh]
    refine h y h1 (Nat.lt_of_not_le fun ho => hh fun a => ?_)
    match a with
    | 0 => exact ⟨Nat.zero_le _, by have := (y 0).isLt; show (y 0).val < 0 + 512; exact lt_of_lt_of_eq this rfl⟩
    | 1 => exact ⟨ho, h2⟩

/-- A group put elsewhere leaves a column. -/
theorem keep_step (S : Vec F S512x6912 .f32) (o : ℕ) (w : Vec F S512x256 .f32) (y : S512x6912.Idx) (h : (y 1).val < o ∨ o + 256 ≤ (y 1).val) :
    put S ![0, o] S512x256.size w y = S y := by
  unfold put
  rw [dif_neg]
  intro hh
  have h1 : o ≤ (y 1).val ∧ (y 1).val < o + 256 := hh 1
  omega

theorem off2_eq (i : grid0.Coords) (n : Fin 9) : k0_off2 i (BitVec.ofNat 32 (256 * n.val)) = ![0, 2304 * (i 1).val + 256 * n.val] := k0_off2_eq i n

/-- In the columns of the point's third, what was there before does not matter. -/
theorem puts_in (i : grid0.Coords) (j : ℕ) (hj : (i 1).val = j) (X0 : Vec F S512x2560 .bf16) (X1 : Vec F S1x1x512 .f32) (X2 : Vec F S1x2560x2304 .i8)
    (X3 : Vec F S512x2304 .f32) (S S' : Vec F S512x6912 .f32) (y : S512x6912.Idx) (h1 : 2304 * j ≤ (y 1).val) (h2 : (y 1).val < 2304 * j + 2304) :
    puts i X0 X1 X2 X3 S y = puts i X0 X1 X2 X3 S' y := by
  subst hj
  unfold puts
  rw [show k0_off2 i 0#32 = ![0, 2304 * (i 1).val] from off2_eq i 0, show k0_off2 i 256#32 = ![0, 2304 * (i 1).val + 256] from off2_eq i 1,
    show k0_off2 i 512#32 = ![0, 2304 * (i 1).val + 256 + 256] from off2_eq i 2, show k0_off2 i 768#32 = ![0, 2304 * (i 1).val + 256 + 256 + 256] from off2_eq i 3,
    show k0_off2 i 1024#32 = ![0, 2304 * (i 1).val + 256 + 256 + 256 + 256] from off2_eq i 4,
    show k0_off2 i 1280#32 = ![0, 2304 * (i 1).val + 256 + 256 + 256 + 256 + 256] from off2_eq i 5,
    show k0_off2 i 1536#32 = ![0, 2304 * (i 1).val + 256 + 256 + 256 + 256 + 256 + 256] from off2_eq i 6,
    show k0_off2 i 1792#32 = ![0, 2304 * (i 1).val + 256 + 256 + 256 + 256 + 256 + 256 + 256] from off2_eq i 7,
    show k0_off2 i 2048#32 = ![0, 2304 * (i 1).val + 256 + 256 + 256 + 256 + 256 + 256 + 256 + 256] from off2_eq i 8]
  exact agree_step _ (agree_step _ (agree_step _ (agree_step _ (agree_step _ (agree_step _ (agree_step _ (agree_step _ (agree_step _
    fun y a b => absurd a (Nat.not_le.2 b))))))))) y h1 (by omega)

/-- The columns of the other thirds are kept. -/
theorem puts_out (i : grid0.Coords) (j : ℕ) (hj : (i 1).val = j) (X0 : Vec F S512x2560 .bf16) (X1 : Vec F S1x1x512 .f32) (X2 : Vec F S1x2560x2304 .i8)
    (X3 : Vec F S512x2304 .f32) (S : Vec F S512x6912 .f32) (y : S512x6912.Idx) (h : (y 1).val < 2304 * j ∨ 2304 * j + 2304 ≤ (y 1).val) :
    puts i X0 X1 X2 X3 S y = S y := by
  subst hj
  unfold puts
  rw [show k0_off2 i 0#32 = ![0, 2304 * (i 1).val] from off2_eq i 0, show k0_off2 i 256#32 = ![0, 2304 * (i 1).val + 256] from off2_eq i 1,
    show k0_off2 i 512#32 = ![0, 2304 * (i 1).val + 512] from off2_eq i 2, show k0_off2 i 768#32 = ![0, 2304 * (i 1).val + 768] from off2_eq i 3,
    show k0_off2 i 1024#32 = ![0, 2304 * (i 1).val + 1024] from off2_eq i 4, show k0_off2 i 1280#32 = ![0, 2304 * (i 1).val + 1280] from off2_eq i 5,
    show k0_off2 i 1536#32 = ![0, 2304 * (i 1).val + 1536] from off2_eq i 6, show k0_off2 i 1792#32 = ![0, 2304 * (i 1).val + 1792] from off2_eq i 7,
    show k0_off2 i 2048#32 = ![0, 2304 * (i 1).val + 2048] from off2_eq i 8]
  rw [keep_step _ _ _ y (by omega), keep_step _ _ _ y (by omega), keep_step _ _ _ y (by omega), keep_step _ _ _ y (by omega), keep_step _ _ _ y (by omega),
    keep_step _ _ _ y (by omega), keep_step _ _ _ y (by omega), keep_step _ _ _ y (by omega), keep_step _ _ _ y (by omega)]

/-! ## What the scratch and the outputs hold -/

variable (m : (ℓ : Loc nD τ sig) → Buf (Elt F) ℓ) (ρ : Dev nD → PrngReg)

/-- The grid point of a number. -/
def pt (n : ℕ) : Fin cfg0.N := ⟨n % 195, Nat.mod_lt _ (by decide)⟩

/-- The tangents of point `n`, over a buffer of zeros. -/
def T (c : Dev nD) (n : ℕ) : Vec F S512x6912 .f32 :=
  puts (grid0.coords (pt n)) (iblk m c 0 (pt n)) (iblk m c 1 (pt n)) (iblk m c 2 (pt n)) (iblk m c 3 (pt n)) (fun _ => Scalar.ofBits .f32 0#32)

/-- The lane maxima after point `n`. -/
def L (c : Dev nD) : ℕ → Vec F S512x128 .f32
  | 0 => maxs (grid0.coords (pt 0)) (iblk m c 0 (pt 0)) (iblk m c 1 (pt 0)) (iblk m c 2 (pt 0)) (iblk m c 3 (pt 0)) k0_pay1
  | n + 1 => maxs (grid0.coords (pt (n + 1))) (iblk m c 0 (pt (n + 1))) (iblk m c 1 (pt (n + 1))) (iblk m c 2 (pt (n + 1))) (iblk m c 3 (pt (n + 1))) (L c n)

/-- The scratch of the tangents before point `n`: the last three points' columns are theirs. -/
def P8 (c : Dev nD) (n : ℕ) (d : Vec F S512x6912 .f32) : Prop :=
  ∀ u, u < n → n ≤ u + 3 → u < 192 → ∀ y : S512x6912.Idx, 2304 * (u % 3) ≤ (y 1).val → (y 1).val < 2304 * (u % 3) + 2304 → d y = T m c u y

/-- The scratch of the lane maxima before point `n`. -/
def P9 (c : Dev nD) (n : ℕ) (d : Vec F S512x128 .f32) : Prop := 1 ≤ n → d = L m c (min (n - 1) 191)

/-- The scratch of the step before's lane maxima before point `n`. -/
def P10 (c : Dev nD) (n : ℕ) (d : Vec F S512x128 .f32) : Prop := n % 3 ≠ 0 → 3 ≤ n → d = L m c (3 * (n / 3) - 1)

/-- The codes' block after point `n`. -/
def R4 (c : Dev nD) (n : ℕ) (X : Vec F S1x512x2304 .fp8e4m3) : Prop :=
  3 ≤ n → ∃ h, X = k0_pay6 (k0_pay10 (L m c (3 * (n / 3) - 1))) 23#32 (window (T m c (n - 3)) ![0, 2304 * (n % 3)] S512x2304.size h)

/-- The scales' block after point `n`. -/
def R5 (c : Dev nD) (n : ℕ) (X : Vec F S1x1x1x512 .f32) : Prop :=
  3 ≤ n → X = fun y => k0_pay5 (k0_pay9 (L m c (3 * (n / 3) - 1))) (ix3 0 0 (y 3))

theorem pt_val (t : Fin cfg0.N) : pt t.val = t := Fin.ext (Nat.mod_eq_of_lt t.isLt)

theorem first_iff : ∀ t : Fin cfg0.N, first (grid0.coords t) ↔ t.val = 0 := by decide +kernel
theorem cond2_iff : ∀ t : Fin cfg0.N, k0_cond2 (grid0.coords t) = 1#1 ↔ 3 ≤ t.val := by decide +kernel
theorem cond3_iff : ∀ t : Fin cfg0.N, k0_cond3 (grid0.coords t) = 1#1 ↔ t.val < 192 := by decide +kernel
theorem coord1 : ∀ t : Fin cfg0.N, (grid0.coords t 1).val = t.val % 3 := by decide +kernel

theorem c9_eq (c : Dev nD) (t : Fin cfg0.N) (d : Vec F S512x128 .f32) (h : P9 m c t.val d) (h1 : 1 ≤ t.val) :
    c9 (grid0.coords t) d = L m c (min (t.val - 1) 191) := by
  unfold c9; rw [if_neg (fun e => by have := (first_iff t).1 e; omega)]; exact h h1

/-- The lane maxima after the body. -/
theorem cur_eq (c : Dev nD) (t : Fin cfg0.N) (d : Vec F S512x128 .f32) (h : P9 m c t.val d) :
    P9 m c (t.val + 1) (cur (grid0.coords t) (iblk m c 0 t) (iblk m c 1 t) (iblk m c 2 t) (iblk m c 3 t) d) := fun _ => by
  unfold cur
  rw [Nat.add_sub_cancel]
  by_cases h0 : t.val = 0
  · rw [if_pos ((cond3_iff t).2 (by omega)), h0, show c9 (grid0.coords t) d = k0_pay1 from if_pos ((first_iff t).2 h0)]
    rw [show min 0 191 = 0 from rfl, L, show pt 0 = t from (congrArg pt h0.symm).trans (pt_val t)]
  rw [c9_eq m c t d h (by omega)]
  by_cases h1 : t.val < 192
  · rw [if_pos ((cond3_iff t).2 h1), Nat.min_eq_left (by omega), Nat.min_eq_left (by omega)]
    obtain ⟨n, hn⟩ : ∃ n, t.val = n + 1 := ⟨t.val - 1, by omega⟩
    rw [hn, Nat.add_sub_cancel, L, ← hn, pt_val]
  · rw [if_neg (fun e => h1 ((cond3_iff t).1 e)), Nat.min_eq_right (by omega), Nat.min_eq_right (by omega)]

/-- The choice the body makes between the two scratches of lane maxima. -/
theorem pay3_eq (t : Fin cfg0.N) (a b : Vec F S512x128 .f32) : k0_pay3 (grid0.coords t) a b = if t.val % 3 = 0 then a else b := by
  refine (shapeCast_id _ _).trans ?_
  have h : (grid0.coords t 1).val = t.val % 3 := coord1 t
  dsimp only
  rw [h]
  have h3 : t.val % 3 < 3 := Nat.mod_lt _ (by decide)
  generalize t.val % 3 = j at h3
  interval_cases j <;> rfl

/-- The lane maxima of the step before. -/
theorem mp_eq (c : Dev nD) (t : Fin cfg0.N) (d e : Vec F S512x128 .f32) (h : P9 m c t.val d) (h' : P10 m c t.val e) (h3 : 3 ≤ t.val) :
    mp (grid0.coords t) d e = L m c (3 * (t.val / 3) - 1) := by
  have ht : t.val < 195 := t.isLt
  unfold mp
  rw [pay3_eq]
  by_cases hm : t.val % 3 = 0
  · rw [if_pos hm, c9_eq m c t d h (by omega), Nat.min_eq_left (by omega)]; congr 1; omega
  · rw [if_neg hm]; unfold c10; rw [if_neg (fun e => by have := (first_iff t).1 e; omega)]; exact h' hm h3

theorem mp_next (c : Dev nD) (t : Fin cfg0.N) (d e : Vec F S512x128 .f32) (h : P9 m c t.val d) (h' : P10 m c t.val e) :
    P10 m c (t.val + 1) (mp (grid0.coords t) d e) := fun hm h3 => by
  rw [mp_eq m c t d e h h' (by omega)]; congr 1; omega

/-- The tangents after the body. -/
theorem tt_eq (c : Dev nD) (t : Fin cfg0.N) (d : Vec F S512x6912 .f32) (h : P8 m c t.val d) :
    P8 m c (t.val + 1) (tt (grid0.coords t) (iblk m c 0 t) (iblk m c 1 t) (iblk m c 2 t) (iblk m c 3 t) d) := fun u hu hn hl y h1 h2 => by
  unfold tt
  by_cases hc : t.val < 192
  · rw [if_pos ((cond3_iff t).2 hc)]
    by_cases he : u = t.val
    · subst he
      refine (puts_in _ _ (coord1 t) _ _ _ _ _ (fun _ => Scalar.ofBits .f32 0#32) y h1 h2).trans ?_
      unfold T; rw [pt_val]
    · exact (puts_out _ _ (coord1 t) _ _ _ _ _ y (by omega)).trans (h u (by omega) (by omega) hl y h1 h2)
  · rw [if_neg (fun e => hc ((cond3_iff t).1 e))]
    exact h u (by omega) (by omega) hl y h1 h2

theorem window_congr (x : Vec F S512x6912 .f32) {o o' : Fin 2 → ℕ} (e : o = o') (h) (h') :
    window x o S512x2304.size h = window x o' S512x2304.size h' := by subst e; rfl

/-- The codes' block after the body. -/
theorem cd_eq (c : Dev nD) (t : Fin cfg0.N) (M : Vec F S512x128 .f32) (d : Vec F S512x6912 .f32) (Y : Vec F S1x512x2304 .fp8e4m3) (h : P8 m c t.val d)
    (hM : 3 ≤ t.val → M = L m c (3 * (t.val / 3) - 1)) : R4 m c t.val (cd (grid0.coords t) M d Y) := fun h3 => by
  have ht : t.val < 195 := t.isLt
  have ho : k0_off1 (grid0.coords t) = ![0, 2304 * (t.val % 3)] := (k0_off1_eq _).trans (by rw [coord1 t])
  have hb : ∀ a, (![0, 2304 * (t.val % 3)] : Fin 2 → ℕ) a + S512x2304.size a ≤ S512x6912.size a := fun a => by
    match a with
    | 0 => show 0 + 512 ≤ 512; omega
    | 1 => show 2304 * (t.val % 3) + 2304 ≤ 6912; omega
  refine ⟨hb, ?_⟩
  unfold cd
  rw [dif_pos ((cond2_iff t).2 h3), hM h3]
  refine congrArg (k0_pay6 _ 23#32) ((window_congr d ho _ hb).trans (funext fun y => ?_))
  have hy : (y 1).val < 2304 := (y 1).isLt
  refine h (t.val - 3) (by omega) (by omega) (by omega) _ ?_ ?_
  · show 2304 * ((t.val - 3) % 3) ≤ 2304 * (t.val % 3) + 1 * (y 1).val
    omega
  · show 2304 * (t.val % 3) + 1 * (y 1).val < 2304 * ((t.val - 3) % 3) + 2304
    omega

/-- The scales' block after the body. -/
theorem sc_eq (c : Dev nD) (t : Fin cfg0.N) (M : Vec F S512x128 .f32) (Y : Vec F S1x1x1x512 .f32)
    (hM : 3 ≤ t.val → M = L m c (3 * (t.val / 3) - 1)) : R5 m c t.val (sc (grid0.coords t) M Y) := fun h3 => by
  unfold sc
  rw [if_pos ((cond2_iff t).2 h3), hM h3]

/-! ## The proof data and the body obligation -/

/-- The two outputs are held to a relation. -/
def forgets0 : Fin 6 → Bool := ![false, false, false, false, true, true]

/-- The invariant before point `n`. -/
def Phi (c : Dev nD) (n : ℕ) : sProp 𝕄 :=
  iprop((∃ d, ⌜P8 m c n d⌝ ∗ owns (c : Thread nD τ) (Memref.whole cc0_scratch0) fullShare d)
    ∗ (∃ d, ⌜P9 m c n d⌝ ∗ owns (c : Thread nD τ) (Memref.whole cc0_scratch1) fullShare d)
    ∗ (∃ d, ⌜P10 m c n d⌝ ∗ owns (c : Thread nD τ) (Memref.whole cc0_scratch2) fullShare d) ∗ (∃ r, prngReg c r))

/-- What the outputs are held to. -/
def Rl (c : Dev nD) : (w : Fin cfg0.W) → Fin cfg0.N → ((cfg0.win w).block.Idx → Elt F (cfg0.win w).elt) → Prop := fun
  | 0 => fun _ _ => True
  | 1 => fun _ _ => True
  | 2 => fun _ _ => True
  | 3 => fun _ _ => True
  | 4 => fun t X => R4 m c t.val X
  | 5 => fun t X => R5 m c t.val X
  | ⟨_ + 6, h⟩ => absurd h (Nat.not_lt.2 (Nat.le_add_left _ _))

/-- The proof data on core `c`: the arrays as the region finds them; each input's block in place; the outputs unnamed; the scratch as
    `Phi` says; full shares; nothing owed. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => Pipeline.Dat.unnamed (cfg := cfg0) 4 t
    | 5 => fun t => Pipeline.Dat.unnamed (cfg := cfg0) 5 t
    | ⟨_ + 6, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- The invariant, conjunct by conjunct. -/
theorem Phi_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, ⌜((dats m 0 c).toRRel forgets0 (Rl m c)).Finds 4 t d⌝ ∗ owns (c : Thread nD τ) (st0_4 t) fullShare d)
    ∗ (∃ d, ⌜((dats m 0 c).toRRel forgets0 (Rl m c)).Finds 5 t d⌝ ∗ owns (c : Thread nD τ) (st0_5 t) fullShare d))
def bodyPost (c : Dev nD) (t : Fin cfg0.N) : sProp 𝕄 :=
  iprop(Phi m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, ⌜R4 m c t.val d⌝ ∗ owns (c : Thread nD τ) (st0_4 t) fullShare d)
    ∗ (∃ d, ⌜R5 m c t.val d⌝ ∗ owns (c : Thread nD τ) (st0_5 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Phi
  rw [show (dats m 0 c).owesAt () t.succ = (dats m 0 c).owesAt () t.castSucc from rfl, after_0, after_1, after_2, after_3]
  simp only [before0_0_of m (dats m 0 c) rfl (after_0 m c), before0_1_of m (dats m 0 c) rfl (after_1 m c),
    before0_2_of m (dats m 0 c) rfl (after_2 m c), before0_3_of m (dats m 0 c) rfl (after_3 m c)]
  iintro ⟨⟨⟨%s8, %h8, HS0⟩, ⟨%s9, %h9, HS1⟩, ⟨%s10, %h10, HS2⟩, Hg⟩, HO, ⟨%d0, H0⟩, ⟨%d1, H1⟩, ⟨%d2, H2⟩, ⟨%d3, H3⟩, ⟨%d4, %h4, H4⟩, ⟨%d5, %h5, H5⟩⟩
  iapply (kernelRun (grid0.coords t) c (st0_0 t) _ (st0_1 t) _ (st0_2 t) _ (st0_3 t) _ (st0_4 t) _ (st0_5 t) _
    (Memref.whole cc0_scratch0) _ (Memref.whole cc0_scratch1) _ (Memref.whole cc0_scratch2) _ (iblk m c 0 t) (iblk m c 1 t) (iblk m c 2 t) (iblk m c 3 t) d4 d5 s8 s9 s10 _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0]
    · iexists _; isplitr; swap; · iexact HS0
      ipureintro; exact tt_eq m c t s8 h8
    isplitl [HS1]
    · iexists _; isplitr; swap; · iexact HS1
      ipureintro; exact cur_eq m c t s9 h9
    isplitl [HS2]
    · iexists _; isplitr; swap; · iexact HS2
      ipureintro; exact mp_next m c t s9 s10 h9 h10
    iexact Hg
  isplitl [HO]; · iexact HO
  isplitl [H0]; · iexact H0
  isplitl [H1]; · iexact H1
  isplitl [H2]; · iexact H2
  isplitl [H3]; · iexact H3
  isplitl [H4]
  · iexists _; isplitr; swap; · iexact H4
    ipureintro; exact cd_eq m c t _ s8 d4 h8 (mp_eq m c t s9 s10 h9 h10)
  iexists _; isplitr; swap; · iexact H5
  ipureintro; exact sc_eq m c t _ d5 (mp_eq m c t s9 s10 h9 h10)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs held to `Rl`. -/
theorem body_obligation (c : Dev nD) :
    Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The launch -/

theorem Phi_in (c : Dev nD) : (Pipeline.ΦA spec0 c : sProp 𝕄) ⊢ Phi m c 0 := by
  rw [Phi_eq]; unfold Phi
  iintro ⟨⟨⟨%d8, HS0⟩, ⟨%d9, HS1⟩, ⟨%d10, HS2⟩⟩, Hg⟩
  isplitl [HS0]
  · iexists d8; isplitr; swap; · iexact HS0
    ipureintro; exact fun u h => absurd h (Nat.not_lt_zero _)
  isplitl [HS1]
  · iexists d9; isplitr; swap; · iexact HS1
    ipureintro; exact fun h => absurd h (by decide)
  isplitl [HS2]
  · iexists d10; isplitr; swap; · iexact HS2
    ipureintro; exact fun h => absurd rfl h
  iexact Hg

theorem Phi_out (c : Dev nD) (n : ℕ) : Phi m c n ⊢ (Pipeline.ΦA spec0 c : sProp 𝕄) := by
  rw [Phi_eq]; unfold Phi
  iintro ⟨⟨%d8, %h8, HS0⟩, ⟨%d9, %h9, HS1⟩, ⟨%d10, %h10, HS2⟩, Hg⟩
  isplitl [HS0 HS1 HS2]
  · isplitl [HS0]
    · iexists d8; iexact HS0
    isplitl [HS1]
    · iexists d9; iexact HS1
    iexists d10; iexact HS2
  iexact Hg

set_option backward.isDefEq.respectTransparency.types false in
/-- Every run of @main terminates with the outputs as `Rl` has them and the counters at zero. -/
theorem run_main :
    θ_run defs (onTc (τ := τ) (main (F := F))) (s₀ m ρ)
      (fun r => Pipeline.RDat.FramePost (cfgs 0) (fun c => (dats m 0 c).toRRel forgets0 (Rl m c)) (V m) r ∧ r.2.sem = fun _ => 0) :=
  Pipeline.RDat.θ_run_frame_track (p := (0 : Fin 1)) cfgs launch0 defs₀ Variants.none (fun c => (dats m 0 c).toRRel forgets0 (Rl m c)) m ρ main
    (hbody := fun c => (body_obligation m c).toRRel) (hshare := fun c => (dats m 0 c).share_full fun _ => rfl)
    (howed := fun _ _ => rfl) (V := V m) (hmain := hmain m Variants.none) (hA := A_eq m) (hin := fun c => Phi_in m c)
    (hout := fun c => Phi_out m c _) (Q' := _) (hQ' := fun _ h => h)

/-- The frame: @main leaves its arguments as it found them. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      (h.1.arr_in c 2 rfl).trans ((A_eq m c 2).trans (V_main_arg2 m c)),
      (h.1.arr_in c 3 rfl).trans ((A_eq m c 3).trans (V_main_arg3 m c))⟩, h.2⟩) (run_main m ρ)

end Cert.TangentIdeal.Hand

end
-- ==== Proof.Down.GVal.lean ====
module

public import proofs.«01_k».proof.Proof.Gen.TangentIdeal.Frame
public import proofs.«01_k».proof.Proof.Down.MathG
public import proofs.«01_k».proof.Proof.Down.GRel
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.VecWindow (put window)

namespace Cert.TangentIdeal.Val
open Cert.TangentIdeal Cert.TangentIdeal.Gen Cert.TangentIdeal.Hand Cert.Down.Math

variable (m : (ℓ : Loc nD τ sig) → Buf (Elt Ideal) ℓ)

/-- The inputs' block indices at a point that computes, and the outputs' at a point that stores. -/
theorem idxI : ∀ t : Fin cfg0.N, t.val < 192 → win0_0.index t = ![t.val / 3 / 8, 0] ∧ win0_1.index t = ![t.val / 3 / 8, 0, 0]
    ∧ win0_2.index t = ![t.val / 3 % 8, 0, t.val % 3] ∧ win0_3.index t = ![t.val / 3 / 8, t.val % 3] :=
  (by decide +kernel : ∀ t : Fin grid0.N, _)
theorem idxO : ∀ t : Fin cfg0.N, 3 ≤ t.val → win0_4.index t = ![(t.val / 3 - 1) % 8, (t.val / 3 - 1) / 8, t.val % 3]
    ∧ win0_5.index t = ![(t.val / 3 - 1) % 8, (t.val / 3 - 1) / 8, 0, 0] :=
  (by decide +kernel : ∀ t : Fin grid0.N, _)

/-! ## The tangents of a point -/

/-- A token's tangent at one of a grid point's hidden units, over the blocks of the point. -/
def tile (X0 : FVec Ideal S512x2560 .bf16) (X1 : FVec Ideal S1x1x512 .f32) (X2 : IVec S1x2560x2304 8) (X3 : FVec Ideal S512x2304 .f32)
    (r : Fin 512) (q : Fin 2304) : EReal :=
  X3 (ix2 r q) * ((∑ x : Fin 2560, X0 (ix2 r x) * FloatOps.sitofp (F := Ideal) .bf16 (X2 (ix3 0 x q))) * X1 (ix3 0 0 r))

/-- A column group's tangents. -/
def prod (X0 : FVec Ideal S512x2560 .bf16) (X1 : FVec Ideal S1x1x512 .f32) (w : IVec S1x2560x256 8) (f : FVec Ideal S512x256 .f32) : FVec Ideal S512x256 .f32 :=
  fun y => f y * ((∑ x : Fin 2560, X0 (ix2 (y 0) x) * FloatOps.sitofp (F := Ideal) .bf16 (w (ix3 0 x (y 1)))) * X1 (ix3 0 0 (y 0)))

theorem wv_at (X2 : IVec S1x2560x2304 8) (o : ℕ) (h) (x : Fin 2560) (q : Fin 256) (ho : o + q.val < 2304) :
    wv (F := Ideal) o h X2 (ix3 0 x q) = X2 (ix3 0 x ⟨o + q.val, ho⟩) :=
  congrArg X2 (funext fun a => by match a with | 0 => rfl | 1 => exact Fin.ext (by show 0 + 1 * x.val = x.val; omega) | 2 => exact Fin.ext (by show o + 1 * q.val = o + q.val; omega))
theorem wf_at (X3 : FVec Ideal S512x2304 .f32) (o : ℕ) (h) (r : Fin 512) (q : Fin 256) (ho : o + q.val < 2304) :
    wf (F := Ideal) o h X3 (ix2 r q) = X3 (ix2 r ⟨o + q.val, ho⟩) :=
  congrArg X3 (funext fun a => by match a with | 0 => exact Fin.ext (by show 0 + 1 * r.val = r.val; omega) | 1 => exact Fin.ext (by show o + 1 * q.val = o + q.val; omega))

/-- A column group's tangents are the point's. -/
theorem prod_at (X0 : FVec Ideal S512x2560 .bf16) (X1 : FVec Ideal S1x1x512 .f32) (X2 : IVec S1x2560x2304 8) (X3 : FVec Ideal S512x2304 .f32)
    (o : ℕ) (h) (h') (r : Fin 512) (q : Fin 256) (ho : o + q.val < 2304) :
    prod X0 X1 (wv (F := Ideal) o h X2) (wf (F := Ideal) o h' X3) (ix2 r q) = tile X0 X1 X2 X3 r ⟨o + q.val, ho⟩ :=
  congr (congrArg (· * ·) (wf_at X3 o h' r q ho)) (congrArg (· * X1 (ix3 0 0 r))
    (Finset.sum_congr rfl fun x _ => congrArg (fun b => X0 (ix2 r x) * FloatOps.sitofp (F := Ideal) .bf16 b) (wv_at X2 o h x q ho)))

theorem pay12_eq (X0 : FVec Ideal S512x2560 .bf16) (X1 : FVec Ideal S1x1x512 .f32) (w : IVec S1x2560x256 8) (f : FVec Ideal S512x256 .f32) :
    k0_pay12 (F := Ideal) X1 X0 w f = prod X0 X1 w f := by
  funext y; open_payloads; pointwise [prod]; blk_point []
theorem pay16_eq (X0 : FVec Ideal S512x2560 .bf16) (X1 : FVec Ideal S1x1x512 .f32) (w : IVec S1x2560x256 8) (f : FVec Ideal S512x256 .f32) :
    k0_pay16 (F := Ideal) (k0_pay15 X1 X0 w) f = prod X0 X1 w f := pay12_eq X0 X1 w f
theorem pay18_eq (X0 : FVec Ideal S512x2560 .bf16) (X1 : FVec Ideal S1x1x512 .f32) (w : IVec S1x2560x256 8) (f : FVec Ideal S512x256 .f32) :
    k0_pay18 (F := Ideal) (k0_pay11 X1) X0 w f = prod X0 X1 w f := pay12_eq X0 X1 w f

/-- A stored group is the group. -/
theorem stored (P : FVec Ideal S512x256 .f32) (h : Shape.ShapeCasts S512x256 S512x256) : shapeCast S512x256 P h = P := shapeCast_id P h

/-! ## What is stored in the scratch of the tangents -/

/-- An entry after one stored piece. -/
theorem hit {S : FVec Ideal S512x6912 .f32} {o : ℕ} {w : FVec Ideal S512x256 .f32} {r : Fin 512} {d : Fin 6912} {z : EReal}
    (hS : d.val < o → S (ix2 r d) = z) (hw : ∀ q : Fin 256, o + q.val = d.val → w (ix2 r q) = z) (hd : d.val < o + 256) :
    put S ![0, o] S512x256.size w (ix2 r d) = z := by
  unfold put
  by_cases h : o ≤ d.val
  · rw [dif_pos (fun a => by match a with | 0 => exact ⟨Nat.zero_le _, by show r.val < 0 + 512; omega⟩ | 1 => exact ⟨h, hd⟩)]
    refine Eq.trans (congrArg w (funext fun a => ?_)) (hw ⟨d.val - o, by omega⟩ (by dsimp only; omega))
    match a with
    | 0 => rfl
    | 1 => rfl
  · rw [dif_neg (fun hh => h (hh 1).1)]
    exact hS (by omega)

/-- What a point stores in its columns. -/
theorem puts_at (i : grid0.Coords) (j : ℕ) (hj : (i 1).val = j) (X0 : FVec Ideal S512x2560 .bf16) (X1 : FVec Ideal S1x1x512 .f32) (X2 : IVec S1x2560x2304 8)
    (X3 : FVec Ideal S512x2304 .f32) (S : FVec Ideal S512x6912 .f32) (r : Fin 512) (d : Fin 6912) (q : Fin 2304) (hq : d.val = 2304 * j + q.val) :
    puts (F := Ideal) i X0 X1 X2 X3 S (ix2 r d) = tile X0 X1 X2 X3 r q := by
  subst hj
  have hw : ∀ (n : ℕ) (o : ℕ) (h) (h') (P : FVec Ideal S512x256 .f32), P = prod X0 X1 (wv (F := Ideal) n h X2) (wf (F := Ideal) n h' X3) →
      o = 2304 * (i 1).val + n → ∀ q' : Fin 256, o + q'.val = d.val → P (ix2 r q') = tile X0 X1 X2 X3 r q := fun n o h h' P hP ho q' hq' => by
    rw [hP, prod_at X0 X1 X2 X3 n h h' r q' (by omega)]
    exact congrArg _ (Fin.ext (by dsimp only; omega))
  unfold puts
  rw [show k0_off2 i 0#32 = ![0, 2304 * (i 1).val] from off2_eq i 0, show k0_off2 i 256#32 = ![0, 2304 * (i 1).val + 256] from off2_eq i 1,
    show k0_off2 i 512#32 = ![0, 2304 * (i 1).val + 512] from off2_eq i 2, show k0_off2 i 768#32 = ![0, 2304 * (i 1).val + 768] from off2_eq i 3,
    show k0_off2 i 1024#32 = ![0, 2304 * (i 1).val + 1024] from off2_eq i 4, show k0_off2 i 1280#32 = ![0, 2304 * (i 1).val + 1280] from off2_eq i 5,
    show k0_off2 i 1536#32 = ![0, 2304 * (i 1).val + 1536] from off2_eq i 6, show k0_off2 i 1792#32 = ![0, 2304 * (i 1).val + 1792] from off2_eq i 7,
    show k0_off2 i 2048#32 = ![0, 2304 * (i 1).val + 2048] from off2_eq i 8]
  have hq2 : q.val < 2304 := q.isLt
  refine hit (fun h8 => hit (fun h7 => hit (fun h6 => hit (fun h5 => hit (fun h4 => hit (fun h3 => hit (fun h2 => hit (fun h1 => hit (fun h0 => ?_)
    (hw 0 _ _ _ _ ((stored _ _).trans (pay12_eq _ _ _ _)) rfl) (by omega)) (hw 256 _ _ _ _ ((stored _ _).trans (pay16_eq _ _ _ _)) rfl) (by omega))
    (hw 512 _ _ _ _ ((stored _ _).trans (pay18_eq _ _ _ _)) rfl) (by omega)) (hw 768 _ _ _ _ ((stored _ _).trans (pay18_eq _ _ _ _)) rfl) (by omega))
    (hw 1024 _ _ _ _ ((stored _ _).trans (pay18_eq _ _ _ _)) rfl) (by omega)) (hw 1280 _ _ _ _ ((stored _ _).trans (pay18_eq _ _ _ _)) rfl) (by omega))
    (hw 1536 _ _ _ _ ((stored _ _).trans (pay18_eq _ _ _ _)) rfl) (by omega)) (hw 1792 _ _ _ _ ((stored _ _).trans (pay18_eq _ _ _ _)) rfl) (by omega))
    (hw 2048 _ _ _ _ ((stored _ _).trans (pay18_eq _ _ _ _)) rfl) (by omega)
  omega

/-! ## The lane maxima -/

/-- The size of a number. -/
abbrev sz (x : EReal) : EReal := max x (-x)

/-- The lane maxima after one column group. -/
def gm (C : FVec Ideal S512x128 .f32) (P : FVec Ideal S512x256 .f32) : FVec Ideal S512x128 .f32 := fun y =>
  max (C y) (max (sz (P (ix2 (y 0) ⟨(y 1).val, by have h : (y 1).val < 128 := (y 1).isLt; omega⟩)))
    (sz (P (ix2 (y 0) ⟨128 + (y 1).val, by have h : (y 1).val < 128 := (y 1).isLt; omega⟩))))

theorem pay7_eq (C : FVec Ideal S512x128 .f32) (P : FVec Ideal S512x256 .f32) : k0_pay7 (F := Ideal) C P = gm C P := by
  funext y; unfold k0_pay7; pointwise [gm]; blk_point []; rfl

theorem maxs_eq (i : grid0.Coords) (X0 : FVec Ideal S512x2560 .bf16) (X1 : FVec Ideal S1x1x512 .f32) (X2 : IVec S1x2560x2304 8)
    (X3 : FVec Ideal S512x2304 .f32) (C : FVec Ideal S512x128 .f32) :
    maxs (F := Ideal) i X0 X1 X2 X3 C = k0_pay7 (F := Ideal) (k0_pay7 (F := Ideal) (k0_pay7 (F := Ideal) (k0_pay7 (F := Ideal) (k0_pay7 (F := Ideal) (k0_pay7 (F := Ideal) (k0_pay7 (F := Ideal) (k0_pay7 (F := Ideal) (k0_pay7 (F := Ideal) (k0_pay4 (F := Ideal) i C)
      (k0_pay12 (F := Ideal) X1 X0 (wv (F := Ideal) 0 inb_S1x2560x2304_S1x2560x256_0_0_0 X2) (wf (F := Ideal) 0 inb_S512x2304_S512x256_0_0 X3)))
      (k0_pay16 (F := Ideal) (k0_pay15 (F := Ideal) X1 X0 (wv (F := Ideal) 256 inb_S1x2560x2304_S1x2560x256_0_0_256 X2)) (wf (F := Ideal) 256 inb_S512x2304_S512x256_0_256 X3)))
      (k0_pay18 (F := Ideal) (k0_pay11 (F := Ideal) X1) X0 (wv (F := Ideal) 512 inb_S1x2560x2304_S1x2560x256_0_0_512 X2) (wf (F := Ideal) 512 inb_S512x2304_S512x256_0_512 X3)))
      (k0_pay18 (F := Ideal) (k0_pay11 (F := Ideal) X1) X0 (wv (F := Ideal) 768 inb_S1x2560x2304_S1x2560x256_0_0_768 X2) (wf (F := Ideal) 768 inb_S512x2304_S512x256_0_768 X3)))
      (k0_pay18 (F := Ideal) (k0_pay11 (F := Ideal) X1) X0 (wv (F := Ideal) 1024 inb_S1x2560x2304_S1x2560x256_0_0_1024 X2) (wf (F := Ideal) 1024 inb_S512x2304_S512x256_0_1024 X3)))
      (k0_pay18 (F := Ideal) (k0_pay11 (F := Ideal) X1) X0 (wv (F := Ideal) 1280 inb_S1x2560x2304_S1x2560x256_0_0_1280 X2) (wf (F := Ideal) 1280 inb_S512x2304_S512x256_0_1280 X3)))
      (k0_pay18 (F := Ideal) (k0_pay11 (F := Ideal) X1) X0 (wv (F := Ideal) 1536 inb_S1x2560x2304_S1x2560x256_0_0_1536 X2) (wf (F := Ideal) 1536 inb_S512x2304_S512x256_0_1536 X3)))
      (k0_pay18 (F := Ideal) (k0_pay11 (F := Ideal) X1) X0 (wv (F := Ideal) 1792 inb_S1x2560x2304_S1x2560x256_0_0_1792 X2) (wf (F := Ideal) 1792 inb_S512x2304_S512x256_0_1792 X3)))
      (k0_pay18 (F := Ideal) (k0_pay11 (F := Ideal) X1) X0 (wv (F := Ideal) 2048 inb_S1x2560x2304_S1x2560x256_0_0_2048 X2) (wf (F := Ideal) 2048 inb_S512x2304_S512x256_0_2048 X3)) := by
  unfold maxs k0_pay33 k0_pay30 k0_pay25 k0_pay20 k0_pay14
  unfold k0_pay7
  simp only [shapeCast_id]
  rfl

/-- The bounds of a row of lane maxima after one more column group. -/
theorem row_step {X0 : FVec Ideal S512x2560 .bf16} {X1 : FVec Ideal S1x1x512 .f32} {X2 : IVec S1x2560x2304 8} {X3 : FVec Ideal S512x2304 .f32}
    {C : FVec Ideal S512x128 .f32} {r : Fin 512} {b : EReal} {Z : Prop} {o : ℕ} (h) (h') (ho : o + 256 ≤ 2304) (P : FVec Ideal S512x256 .f32)
    (hP : P = prod X0 X1 (wv (F := Ideal) o h X2) (wf (F := Ideal) o h' X3))
    (hC : (∀ l : Fin 128, C (ix2 r l) ≤ b) ↔ Z ∧ ∀ q : Fin 2304, q.val < o → sz (tile X0 X1 X2 X3 r q) ≤ b) :
    (∀ l : Fin 128, k0_pay7 (F := Ideal) C P (ix2 r l) ≤ b) ↔ Z ∧ ∀ q : Fin 2304, q.val < o + 256 → sz (tile X0 X1 X2 X3 r q) ≤ b := by
  have e : ∀ l : Fin 128, k0_pay7 (F := Ideal) C P (ix2 r l) ≤ b ↔ C (ix2 r l) ≤ b ∧ sz (tile X0 X1 X2 X3 r ⟨o + l.val, by omega⟩) ≤ b
      ∧ sz (tile X0 X1 X2 X3 r ⟨o + (128 + l.val), by omega⟩) ≤ b := fun l => by
    rw [pay7_eq, hP]
    show max (C (ix2 r l)) (max (sz (prod X0 X1 _ _ (ix2 r ⟨l.val, _⟩))) (sz (prod X0 X1 _ _ (ix2 r ⟨128 + l.val, _⟩)))) ≤ b ↔ _
    rw [prod_at X0 X1 X2 X3 o h h' r ⟨l.val, by omega⟩ (by dsimp only; omega), prod_at X0 X1 X2 X3 o h h' r ⟨128 + l.val, by omega⟩ (by dsimp only; omega)]
    rw [max_le_iff, max_le_iff]
  constructor
  · intro H
    obtain ⟨hZ, hq⟩ := hC.1 fun l => ((e l).1 (H l)).1
    refine ⟨hZ, fun q hlt => ?_⟩
    by_cases h1 : q.val < o
    · exact hq q h1
    by_cases h2 : q.val < o + 128
    · have := ((e ⟨q.val - o, by omega⟩).1 (H _)).2.1
      rwa [show (⟨o + (q.val - o), by omega⟩ : Fin 2304) = q from Fin.ext (by dsimp only; omega)] at this
    · have := ((e ⟨q.val - o - 128, by omega⟩).1 (H _)).2.2
      rwa [show (⟨o + (128 + (q.val - o - 128)), by omega⟩ : Fin 2304) = q from Fin.ext (by dsimp only; omega)] at this
  · rintro ⟨hZ, hq⟩ l
    exact (e l).2 ⟨hC.2 ⟨hZ, fun q h1 => hq q (by omega)⟩ l, hq _ (by dsimp only; omega), hq _ (by dsimp only; omega)⟩

/-- The bounds of a row of lane maxima after a point. -/
theorem maxs_row (i : grid0.Coords) (X0 : FVec Ideal S512x2560 .bf16) (X1 : FVec Ideal S1x1x512 .f32) (X2 : IVec S1x2560x2304 8)
    (X3 : FVec Ideal S512x2304 .f32) (C : FVec Ideal S512x128 .f32) (r : Fin 512) (b : EReal) :
    (∀ l : Fin 128, maxs (F := Ideal) i X0 X1 X2 X3 C (ix2 r l) ≤ b)
      ↔ (∀ l : Fin 128, k0_pay4 (F := Ideal) i C (ix2 r l) ≤ b) ∧ ∀ q : Fin 2304, sz (tile X0 X1 X2 X3 r q) ≤ b := by
  rw [maxs_eq]
  refine (row_step _ _ (by omega) _ (pay18_eq _ _ _ _) (row_step _ _ (by omega) _ (pay18_eq _ _ _ _) (row_step _ _ (by omega) _ (pay18_eq _ _ _ _)
    (row_step _ _ (by omega) _ (pay18_eq _ _ _ _) (row_step _ _ (by omega) _ (pay18_eq _ _ _ _) (row_step _ _ (by omega) _ (pay18_eq _ _ _ _)
    (row_step _ _ (by omega) _ (pay18_eq _ _ _ _) (row_step _ _ (by omega) _ (pay16_eq _ _ _ _) (row_step _ _ (by omega) _ (pay12_eq _ _ _ _)
    (Z := ∀ l : Fin 128, k0_pay4 (F := Ideal) i C (ix2 r l) ≤ b) ⟨fun H => ⟨H, fun q hq => absurd hq (Nat.not_lt_zero _)⟩, fun H => H.1⟩))))))))).trans ?_
  exact ⟨fun H => ⟨H.1, fun q => H.2 q q.isLt⟩, fun H => ⟨H.1, fun q _ => H.2 q⟩⟩

/-- The lane maxima a point starts from. -/
theorem pay4_at (i : grid0.Coords) (j : ℕ) (hj : (i 1).val = j) (h3 : j < 3) (C : FVec Ideal S512x128 .f32) (r : Fin 512) (l : Fin 128) :
    k0_pay4 (F := Ideal) i C (ix2 r l) = if j = 0 then 0 else C (ix2 r l) := by
  unfold k0_pay4
  dsimp only
  rw [hj]
  have z : Scalar.ofBits (F := Ideal) .f32 0#32 = 0 := Ideal.ofBits_zero .f32
  interval_cases j
  · exact z
  · rfl
  · rfl

/-- The greatest entry of every row, as every lane has it, and the scale's exponent. -/
theorem pay8_at (A : FVec Ideal S512x128 .f32) (r : Fin 512) (l : Fin 128) :
    k0_pay8 (F := Ideal) A (ix2 r l) = ex (big fun x : Fin 128 => A (ix2 r x)) := by
  rw [← exf_eq]
  unfold k0_pay8
  pointwise
  rfl

theorem pay9_at (A : FVec Ideal S512x128 .f32) (r : Fin 512) (l : Fin 128) :
    k0_pay9 (F := Ideal) A (ix2 r l) = scl (big fun x : Fin 128 => A (ix2 r x)) := by
  rw [← scl_bits, ← pay8_at A r l]
  unfold k0_pay9
  generalize k0_pay8 (F := Ideal) A = e
  pointwise

theorem pay5_at (A : FVec Ideal S512x128 .f32) (r : Fin 512) : k0_pay5 (F := Ideal) A (ix3 0 0 r) = A (ix2 r 0) := by
  unfold k0_pay5
  pointwise

theorem pay10_at (A : FVec Ideal S512x128 .f32) (r : Fin 512) (l : Fin 128) :
    k0_pay10 (F := Ideal) A (ix2 r l) = IntOp.subi 127#32 (ex (big fun x : Fin 128 => A (ix2 r x))) := by
  rw [← pay8_at A r l]
  unfold k0_pay10
  generalize k0_pay8 (F := Ideal) A = e
  pointwise

/-- Eighteen copies side by side. -/
theorem cat_at (x : FVec Ideal S512x128 .f32) (h) (r : Fin 512) (q : Fin 2304) :
    concatenate S512x2304 1 (List.replicate 18 (⟨S512x128, x⟩ : (s : Shape) × (s.Idx → EReal))) h (ix2 r q)
      = x (ix2 r ⟨q.val % 128, Nat.mod_lt _ (by decide)⟩) :=
  concatenate_replicate_apply (s₁ := S512x128) (t := S512x2304) 1 18 x h rfl (ix2 r q) (ix2 r ⟨q.val % 128, Nat.mod_lt _ (by decide)⟩) rfl fun b hb => by
    match b with
    | 0 => rfl
    | 1 => exact absurd rfl hb

theorem pay6_at (e : IVec S512x128 32) (t : FVec Ideal S512x2304 .f32) (r : Fin 512) (q : Fin 2304) :
    k0_pay6 (F := Ideal) e 23#32 t (ix3 0 r q)
      = code (t (ix2 r q)) (Ideal.ofBits .f32 (IntOp.shli ArithUnit.vector (e (ix2 r ⟨q.val % 128, Nat.mod_lt _ (by decide)⟩)) 23#32)) := by
  have hz := cat_at (bitcastToFloat (F := Ideal) .f32 (shli e (broadcast S512x128 23#32)))
    concatenates_S512x128_S512x128_S512x128_S512x128_S512x128_S512x128_S512x128_S512x128_S512x128_S512x128_S512x128_S512x128_S512x128_S512x128_S512x128_S512x128_S512x128_S512x128_S512x2304_d1 r q
  unfold k0_pay6
  dsimp only [List.replicate] at hz ⊢
  generalize concatenate S512x2304 1 _ _ = z at hz ⊢
  have hz' : z (ix2 r q) = Ideal.ofBits .f32 (IntOp.shli ArithUnit.vector (e (ix2 r ⟨q.val % 128, Nat.mod_lt _ (by decide)⟩)) 23#32) := hz
  rw [← hz']
  unfold code
  pointwise

/-! ## Over a core's arguments -/

/-- The tangent over a core's arguments. -/
abbrev G (c : Dev nD) (p : Fin 8) (n : Fin 4096) (k : Fin 6912) : EReal :=
  tng (m ((c : Thread nD τ).loc main_arg0)) (m ((c : Thread nD τ).loc main_arg1)) (m ((c : Thread nD τ).loc main_arg2)) (m ((c : Thread nD τ).loc main_arg3)) p n k

/-- The tangents of a computing point. -/
theorem tile_at (c : Dev nD) (t : Fin cfg0.N) (s j : ℕ) (hs : s < 64) (hj : j < 3) (ht : t.val = 3 * s + j) (r : Fin 512) (q : Fin 2304) :
    tile (iblk m c 0 t) (iblk m c 1 t) (iblk m c 2 t) (iblk m c 3 t) r q
      = G m c ⟨s % 8, by omega⟩ ⟨s / 8 * 512 + r.val, by omega⟩ ⟨j * 2304 + q.val, by omega⟩ := by
  have h := idxI t (by omega)
  have e1 : t.val / 3 = s := by omega
  have e2 : t.val % 3 = j := by omega
  rw [e1, e2] at h
  simp only [tile, G, tng]
  blk_point [iblk, V, h]

theorem L_eq (c : Dev nD) (t : Fin cfg0.N) : ∃ C, L m c t.val = maxs (grid0.coords t) (iblk m c 0 t) (iblk m c 1 t) (iblk m c 2 t) (iblk m c 3 t) C
    ∧ (t.val ≠ 0 → C = L m c (t.val - 1)) := by
  by_cases h : t.val = 0
  · refine ⟨k0_pay1 (F := Ideal), ?_, fun hh => absurd h hh⟩
    rw [h, L, show pt 0 = t from (congrArg pt h.symm).trans (pt_val t)]
  · refine ⟨L m c (t.val - 1), ?_, fun _ => rfl⟩
    obtain ⟨n, hn⟩ : ∃ n, t.val = n + 1 := ⟨t.val - 1, by omega⟩
    rw [hn, Nat.add_sub_cancel, L, ← hn, pt_val]

/-- The bounds of a row of lane maxima after a point. -/
theorem L_row (c : Dev nD) (s j : ℕ) (hs : s < 64) (hj : j < 3) (r : Fin 512) (b : EReal) :
    (∀ l : Fin 128, L m c (3 * s + j) (ix2 r l) ≤ b) ↔ (if j = 0 then 0 ≤ b else ∀ l : Fin 128, L m c (3 * s + j - 1) (ix2 r l) ≤ b)
      ∧ ∀ q : Fin 2304, sz (G m c ⟨s % 8, by omega⟩ ⟨s / 8 * 512 + r.val, by omega⟩ ⟨j * 2304 + q.val, by omega⟩) ≤ b := by
  obtain ⟨t, ht⟩ : ∃ t : Fin cfg0.N, t.val = 3 * s + j := ⟨pt (3 * s + j), Nat.mod_eq_of_lt (by omega)⟩
  obtain ⟨C, hC, hC'⟩ := L_eq m c t
  rw [← ht, hC, maxs_row]
  simp only [pay4_at _ j ((coord1 t).trans (by omega)) hj, tile_at m c t s j hs hj ht]
  refine and_congr_left fun _ => ?_
  by_cases h : j = 0
  · simp only [if_pos h]; exact ⟨fun H => H 0, fun H _ => H⟩
  · simp only [if_neg h]; rw [hC' (by omega)]

/-- The greatest lane maximum after a step is the row's greatest size. -/
theorem big_L (c : Dev nD) (s : ℕ) (hs : s < 64) (r : Fin 512) :
    (big fun l : Fin 128 => L m c (3 * s + 2) (ix2 r l)) = big fun k : Fin 6912 => sz (G m c ⟨s % 8, by omega⟩ ⟨s / 8 * 512 + r.val, by omega⟩ k) := by
  refine eq_of_le_iff fun b => ?_
  rw [big_le, big_le, L_row m c s 2 hs (by decide), if_neg (by decide), show 3 * s + 2 - 1 = 3 * s + 1 from rfl, L_row m c s 1 hs (by decide), if_neg (by decide),
    show 3 * s + 1 - 1 = 3 * s + 0 from rfl, L_row m c s 0 hs (by decide), if_pos rfl]
  generalize G m c ⟨s % 8, by omega⟩ ⟨s / 8 * 512 + r.val, by omega⟩ = g
  have h0 : 0 ≤ sz (g 0) := by
    rcases le_total 0 (g 0) with h | h
    · exact le_max_of_le_left h
    · exact le_max_of_le_right (by rw [← neg_zero]; exact EReal.neg_le_neg_iff.2 h)
  constructor
  · rintro ⟨⟨⟨-, H0⟩, H1⟩, H2⟩ k
    have hk : k.val < 6912 := k.isLt
    by_cases h1 : k.val < 2304
    · have := H0 ⟨k.val, h1⟩
      rwa [show (⟨0 * 2304 + k.val, by omega⟩ : Fin 6912) = k from Fin.ext (by dsimp only; omega)] at this
    by_cases h2 : k.val < 4608
    · have := H1 ⟨k.val - 2304, by omega⟩
      rwa [show (⟨1 * 2304 + (k.val - 2304), by omega⟩ : Fin 6912) = k from Fin.ext (by dsimp only; omega)] at this
    · have := H2 ⟨k.val - 4608, by omega⟩
      rwa [show (⟨2 * 2304 + (k.val - 4608), by omega⟩ : Fin 6912) = k from Fin.ext (by dsimp only; omega)] at this
  · exact fun H => ⟨⟨⟨h0.trans (H 0), fun q => H _⟩, fun q => H _⟩, fun q => H _⟩

/-- The codes' block after a storing point. -/
theorem code_at (c : Dev nD) (s j : ℕ) (hs : s < 64) (hj : j < 3) (M n jj : ℕ) (hM : M = 3 * s + 2) (hn : n = 3 * s + j) (hjj : jj = j) (h) (r : Fin 512) (q : Fin 2304) :
    k0_pay6 (F := Ideal) (k0_pay10 (F := Ideal) (L m c M)) 23#32 (window (T m c n) ![0, 2304 * jj] S512x2304.size h) (ix3 0 r q)
      = tngCode (m ((c : Thread nD τ).loc main_arg0)) (m ((c : Thread nD τ).loc main_arg1)) (m ((c : Thread nD τ).loc main_arg2)) (m ((c : Thread nD τ).loc main_arg3))
        (ix3 ⟨s % 8, by omega⟩ ⟨s / 8 * 512 + r.val, by omega⟩ ⟨j * 2304 + q.val, by omega⟩) := by
  subst hM hn hjj
  have hp : (pt (3 * s + jj)).val = 3 * s + jj := Nat.mod_eq_of_lt (by omega)
  rw [pay6_at, pay10_at, inv_bits, big_L m c s hs r]
  refine congr (congrArg code ?_) rfl
  refine Eq.trans (congrArg (T m c (3 * s + jj)) (a₂ := ix2 r ⟨2304 * jj + q.val, by omega⟩) (funext fun a => Fin.ext ?_)) ?_
  · match a with
    | 0 => show 0 + 1 * r.val = r.val; omega
    | 1 => show 2304 * jj + 1 * q.val = 2304 * jj + q.val; omega
  refine (puts_at (grid0.coords (pt (3 * s + jj))) jj ((coord1 _).trans (by omega)) _ _ _ _ _ r _ q rfl).trans ?_
  exact tile_at m c _ s jj hs hj hp r q

/-- The scales' block after a storing point. -/
theorem scale_at (c : Dev nD) (s : ℕ) (hs : s < 64) (M : ℕ) (hM : M = 3 * s + 2) (y : S1x1x1x512.Idx) :
    k0_pay5 (F := Ideal) (k0_pay9 (F := Ideal) (L m c M)) (ix3 0 0 (y 3))
      = tngScale (m ((c : Thread nD τ).loc main_arg0)) (m ((c : Thread nD τ).loc main_arg1)) (m ((c : Thread nD τ).loc main_arg2)) (m ((c : Thread nD τ).loc main_arg3))
        (ix4 ⟨s % 8, by omega⟩ ⟨s / 8, by omega⟩ 0 (y 3)) := by
  subst hM
  refine (pay5_at _ (y 3)).trans ((pay9_at _ (y 3) 0).trans ?_)
  rw [big_L m c s hs (y 3)]
  rfl

/-- The run: the first output is `tngCode`, the second `tngScale`, the arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v1_0) = tngCode (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v1_1) = tngScale (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (θ_run_and (run_main m ρ) (frame m ρ)) fun r hr c => ?_
  obtain ⟨after, hL, hA⟩ := hr.1.1.exists_exact c
  refine ⟨(hA 4).trans ?_, (hA 5).trans ?_, hr.2.1 c⟩
  · refine Dat.arrAt_eq_of_covers _ 4 _ (by decide +kernel) fun t hf y => ?_
    have h3 : 3 ≤ t.val := (by decide +kernel : ∀ t : Fin cfg0.N, (cfg0.win 4).flush t = true → 3 ≤ t.val) t hf
    have ht : t.val < 195 := t.isLt
    obtain ⟨h, hX⟩ := ((dats m 0 c).toRRel_leaves (fgt := forgets0) (Rl := Rl m c) (w := 4) rfl (hL 4 t hf)) h3
    have ey : y = ix3 (n0 := 1) (n1 := 512) (n2 := 2304) 0 (y 1) (y 2) := (ix3_eta (n0 := 1) (n1 := 512) (n2 := 2304) y).symm.trans
      (congrArg (fun z : Fin 1 => ix3 (n0 := 1) (n1 := 512) (n2 := 2304) z (y 1) (y 2)) (Subsingleton.elim _ _))
    blk_simp
    rw [Pipeline.RDat.withAfter_after, hX]
    refine (congrArg (k0_pay6 (F := Ideal) _ 23#32 _) ey).trans ?_
    refine (code_at m c (t.val / 3 - 1) (t.val % 3) (by omega) (by omega) _ _ _ (by omega) (by omega) rfl h (y 1) (y 2)).trans (congrArg (tngCode _ _ _ _) (funext fun a => Fin.ext ?_))
    match a with
    | 0 => blk_simp [idxO t h3]
    | 1 => blk_simp [idxO t h3]
    | 2 => blk_simp [idxO t h3]
  · refine Dat.arrAt_eq_of_covers _ 5 _ (by decide +kernel) fun t hf y => ?_
    have h3 : 3 ≤ t.val := (by decide +kernel : ∀ t : Fin cfg0.N, (cfg0.win 5).flush t = true → 3 ≤ t.val) t hf
    have ht : t.val < 195 := t.isLt
    have hX := ((dats m 0 c).toRRel_leaves (fgt := forgets0) (Rl := Rl m c) (w := 5) rfl (hL 5 t hf)) h3
    blk_simp
    rw [Pipeline.RDat.withAfter_after, hX]
    refine (scale_at m c (t.val / 3 - 1) (by omega) _ (by omega) y).trans (congrArg (tngScale _ _ _ _) (funext fun a => Fin.ext ?_))
    match a with
    | 0 => blk_simp [idxO t h3]
    | 1 => blk_simp [idxO t h3]
    | 2 => blk_simp [idxO t h3]; rfl
    | 3 => blk_simp [idxO t h3]

end Cert.TangentIdeal.Val

end
-- ==== Proof.Down.GRef.lean ====
module

public import proofs.«01_k».proof.Proof.Gen.RefGIdeal.Frame
public import proofs.«01_k».proof.Proof.Down.MathG
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RefGIdeal.Val
open Cert.RefGIdeal Cert.RefGIdeal.Gen Cert.Down.Math

variable (m : (ℓ : Loc nD τ sig) → Buf (Elt Ideal) ℓ)

/-- Every window's block is its whole array. -/
theorem idx : ∀ t : Fin cfg0.N, win0_0.index t = ![0, 0] ∧ win0_1.index t = ![0, 0, 0] ∧ win0_2.index t = ![0, 0, 0]
    ∧ win0_3.index t = ![0, 0] ∧ win0_4.index t = ![0, 0, 0] ∧ win0_5.index t = ![0, 0, 0, 0] :=
  (by decide +kernel : ∀ t : Fin grid0.N, _)

/-- The tangent at a probe, a token and a hidden unit. -/
theorem pay3_at (X0 : FVec Ideal S4096x2560 .bf16) (X2 : IVec S8x2560x6912 8) (X1 : FVec Ideal S1x4096x1 .f32) (X3 : FVec Ideal S4096x6912 .f32)
    (p : Fin 8) (n : Fin 4096) (k : Fin 6912) : k0_pay3 (F := Ideal) X0 X2 X1 X3 (ix3 p n k)
      = X3 (ix2 n k) * ((∑ x : Fin 2560, X0 (ix2 n x) * FloatOps.sitofp (F := Ideal) .bf16 (X2 (ix3 p x k))) * X1 (ix3 0 n 0)) := by
  unfold k0_pay3
  pointwise

/-- The greatest size over the hidden units. -/
theorem red_at (t : FVec Ideal S8x4096x6912 .f32) (p : Fin 8) (n : Fin 4096) :
    multiReduction (F := Ideal) .maximumf [2] S8x4096 (absf t) 0xFF800000#32 reduces_S8x4096x6912_S8x4096 (.inl rfl) rfl (ix2 p n)
      = big fun x : Fin 6912 => max (t (ix3 p n x)) (-t (ix3 p n x)) := by
  pointwise
  rfl

/-- The exponents, from the greatest sizes. -/
def expo (M : FVec Ideal S8x4096 .f32) : IVec S8x4096 32 :=
  let f : FVec Ideal S8x4096 .f32 := floor (divf (log (mulf M (broadcast S8x4096 (Scalar.ofBits (F := Ideal) .f32 0x3B124925#32))))
    (log (broadcast S8x4096 (Scalar.ofBits (F := Ideal) .f32 0x40000000#32))))
  select (ori (ori (cmpf .oeq M (broadcast S8x4096 (Scalar.ofBits (F := Ideal) .f32 0x00000000#32)))
      (cmpf .olt f (broadcast S8x4096 (Scalar.ofBits (F := Ideal) .f32 0xC2FC0000#32))))
      (cmpf .ogt f (broadcast S8x4096 (Scalar.ofBits (F := Ideal) .f32 0x42FA0000#32))))
    (broadcast S8x4096 0#32) (addi (fptosi 32 f) (broadcast S8x4096 1#32))

theorem expo_at (M : FVec Ideal S8x4096 .f32) (p : Fin 8) (n : Fin 4096) : expo M (ix2 p n) = ex (M (ix2 p n)) := by
  unfold ex lg expo
  pointwise
  rfl

/-- The scale's exponent at a probe and a token. -/
theorem pay4_at (X0 : FVec Ideal S4096x2560 .bf16) (X2 : IVec S8x2560x6912 8) (X1 : FVec Ideal S1x4096x1 .f32) (X3 : FVec Ideal S4096x6912 .f32)
    (p : Fin 8) (n : Fin 4096) : k0_pay4 (F := Ideal) X0 X2 X1 X3 (ix2 p n)
      = ex (big fun x : Fin 6912 => max (k0_pay3 (F := Ideal) X0 X2 X1 X3 (ix3 p n x)) (-k0_pay3 (F := Ideal) X0 X2 X1 X3 (ix3 p n x))) :=
  (expo_at _ p n).trans (congrArg ex (red_at (k0_pay3 (F := Ideal) X0 X2 X1 X3) p n))

/-- The codes and the scales, from the tangent and the exponent. -/
theorem pay1_at (t : FVec Ideal S8x4096x6912 .f32) (e : FVec Ideal S8x4096 .f32) (p : Fin 8) (n : Fin 4096) (k : Fin 6912) :
    k0_pay1 (F := Ideal) t e (ix3 p n k) = code (t (ix3 p n k)) (FloatOps.exp2 (F := Ideal) (e (ix2 p n))) := by
  unfold k0_pay1 code
  pointwise
theorem pay5_at (X0 : FVec Ideal S4096x2560 .bf16) (X2 : IVec S8x2560x6912 8) (X1 : FVec Ideal S1x4096x1 .f32) (X3 : FVec Ideal S4096x6912 .f32)
    (p : Fin 8) (n : Fin 4096) : k0_pay5 (F := Ideal) X0 X2 X1 X3 (ix2 p n)
      = 0 - FloatOps.sitofp (F := Ideal) .f32 (k0_pay4 (F := Ideal) X0 X2 X1 X3 (ix2 p n)) := by
  unfold k0_pay5
  generalize k0_pay4 (F := Ideal) X0 X2 X1 X3 = e
  pointwise
theorem pay2_at (e : IVec S8x4096 32) (y : S8x8x1x512.Idx) : k0_pay2 (F := Ideal) e y
      = FloatOps.exp2 (F := Ideal) (FloatOps.sitofp (F := Ideal) .f32 (e (ix2 (y 0) ⟨(y 1).val * 512 + (y 3).val, by
        have h1 : (y 1).val < 8 := (y 1).isLt
        have h3 : (y 3).val < 512 := (y 3).isLt
        omega⟩))) := by
  unfold k0_pay2
  pointwise

/-- The blocks are the arguments. -/
theorem blk0 (c : Dev nD) (t : Fin cfg0.N) (n : Fin 4096) (k : Fin 2560) :
    iblk m c 0 t (ix2 n k) = m ((c : Thread nD τ).loc main_arg0) (ix2 n k) := by blk_point [iblk, V, idx t]
theorem blk1 (c : Dev nD) (t : Fin cfg0.N) (n : Fin 4096) :
    iblk m c 1 t (ix3 0 n 0) = m ((c : Thread nD τ).loc main_arg1) (ix1 n) := by blk_point [iblk, V, idx t]
theorem blk2 (c : Dev nD) (t : Fin cfg0.N) (p : Fin 8) (k : Fin 2560) (d : Fin 6912) :
    iblk m c 2 t (ix3 p k d) = m ((c : Thread nD τ).loc main_arg2) (ix3 p k d) := by blk_point [iblk, V, idx t]
theorem blk3 (c : Dev nD) (t : Fin cfg0.N) (n : Fin 4096) (k : Fin 6912) :
    iblk m c 3 t (ix2 n k) = m ((c : Thread nD τ).loc main_arg3) (ix2 n k) := by blk_point [iblk, V, idx t]

/-- The tangent over the arguments. -/
theorem tng_at (c : Dev nD) (t : Fin cfg0.N) (p : Fin 8) (n : Fin 4096) (k : Fin 6912) :
    k0_pay3 (F := Ideal) (iblk m c 0 t) (iblk m c 2 t) (iblk m c 1 t) (iblk m c 3 t) (ix3 p n k)
      = tng (m ((c : Thread nD τ).loc main_arg0)) (m ((c : Thread nD τ).loc main_arg1)) (m ((c : Thread nD τ).loc main_arg2)) (m ((c : Thread nD τ).loc main_arg3)) p n k := by
  refine (pay3_at _ _ _ _ p n k).trans ?_
  unfold tng
  rw [blk1, blk3, Finset.sum_congr rfl fun x _ => congr (congrArg _ (blk0 m c t n x)) (congrArg (fun b => FloatOps.sitofp (F := Ideal) .bf16 b) (blk2 m c t p x k))]

/-- What the reference stores first. -/
theorem out4_at (c : Dev nD) (t : Fin cfg0.N) (p : Fin 8) (n : Fin 4096) (k : Fin 6912) :
    out0_4 (iblk m c 0 t) (iblk m c 1 t) (iblk m c 2 t) (iblk m c 3 t) (ix3 p n k)
    = tngCode (m ((c : Thread nD τ).loc main_arg0)) (m ((c : Thread nD τ).loc main_arg1)) (m ((c : Thread nD τ).loc main_arg2)) (m ((c : Thread nD τ).loc main_arg3)) (ix3 p n k) := by
  unfold out0_4
  frame_out
  refine (pay1_at _ _ p n k).trans (congr (congrArg code (tng_at m c t p n k)) ?_)
  refine (congrArg (FloatOps.exp2 (F := Ideal) (φ := .f32)) ((pay5_at _ _ _ _ p n).trans
    (congrArg (fun b => 0 - FloatOps.sitofp (F := Ideal) .f32 b) (pay4_at _ _ _ _ p n)))).trans ?_
  exact congrArg (fun f => inv (big f)) (funext fun x => congrArg (fun b => max b (-b)) (tng_at m c t p n x))

/-- What the reference stores second. -/
theorem out5_at (c : Dev nD) (t : Fin cfg0.N) (y : S8x8x1x512.Idx) :
    out0_5 (iblk m c 0 t) (iblk m c 1 t) (iblk m c 2 t) (iblk m c 3 t) y
    = tngScale (m ((c : Thread nD τ).loc main_arg0)) (m ((c : Thread nD τ).loc main_arg1)) (m ((c : Thread nD τ).loc main_arg2)) (m ((c : Thread nD τ).loc main_arg3)) y := by
  unfold out0_5
  frame_out
  refine (pay2_at _ y).trans ((congrArg (fun b => FloatOps.exp2 (F := Ideal) (FloatOps.sitofp (F := Ideal) .f32 b)) (pay4_at _ _ _ _ _ _)).trans ?_)
  exact congrArg (fun f => scl (big f)) (funext fun x => congrArg (fun b => max b (-b)) (tng_at m c t _ _ x))

/-- The reference gives `tngCode`. -/
theorem final4 (c : Dev nD) : (dats m 0 c).arrAt 4 (cfgs 0).N
    = tngCode (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have e : ((View.whole main_v1_0).slice (win0_4.rect t)).emb y = y := funext fun a => Fin.ext (by
    match a with
    | 0 => blk_simp [idx t]
    | 1 => blk_simp [idx t]
    | 2 => blk_simp [idx t])
  blk_simp
  rw [after0_4]
  refine (congrArg (out0_4 _ _ _ _) (ix3_eta (n0 := 8) (n1 := 4096) (n2 := 6912) y).symm).trans ?_
  exact (out4_at m c t (y 0) (y 1) (y 2)).trans (congrArg (tngCode _ _ _ _) ((ix3_eta (n0 := 8) (n1 := 4096) (n2 := 6912) y).trans e.symm))

/-- The reference gives `tngScale`. -/
theorem final5 (c : Dev nD) : (dats m 0 c).arrAt 5 (cfgs 0).N
    = tngScale (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have e : ((View.whole main_v1_1).slice (win0_5.rect t)).emb y = y := funext fun a => Fin.ext (by
    match a with
    | 0 => blk_simp [idx t]
    | 1 => blk_simp [idx t]
    | 2 => blk_simp [idx t]
    | 3 => blk_simp [idx t])
  blk_simp
  rw [after0_5]
  exact (out5_at m c t y).trans (congrArg (tngScale _ _ _ _) e.symm)

end Cert.RefGIdeal.Val

end
-- ==== Proof.Down.MathX.lean ====
module

public import proofs.«01_k».proof.Proof.Down.MathG
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Down.Math

/-- A number's size. -/
abbrev sz (x : EReal) : EReal := max x (-x)

/-- The code of an entry, from its row. -/
def rowCode {n d : ℕ} (v : Fin n → Fin d → EReal) (p : Fin n) (k : Fin d) : EReal := code (v p k) (inv (big fun x => sz (v p x)))

/-- The scale of a row. -/
def rowScale {n d : ℕ} (v : Fin n → Fin d → EReal) (p : Fin n) : EReal := scl (big fun x => sz (v p x))

/-- The fp8 codes of the activations. -/
def xCode (x : FVec Ideal ⟨2, ![4096, 2560]⟩ .bf16) : FVec Ideal ⟨2, ![4096, 2560]⟩ .fp8e4m3 :=
  fun y => rowCode (fun n k => x (ix2 n k)) (y 0) (y 1)

/-- The scales of the activations. -/
def xScale (x : FVec Ideal ⟨2, ![4096, 2560]⟩ .bf16) : FVec Ideal ⟨3, ![16, 1, 256]⟩ .f32 :=
  fun y => rowScale (fun n k => x (ix2 n k)) ⟨(y 0).val * 256 + (y 2).val, by
    have h0 : (y 0).val < 16 := (y 0).isLt
    have h2 : (y 2).val < 256 := (y 2).isLt
    omega⟩

/-- The exponents of an array of sizes, as the references compute them. -/
def expo {s : Shape} (M : FVec Ideal s .f32) : IVec s 32 :=
  let f : FVec Ideal s .f32 := floor (divf (log (mulf M (broadcast s (Scalar.ofBits (F := Ideal) .f32 0x3B124925#32))))
    (log (broadcast s (Scalar.ofBits (F := Ideal) .f32 0x40000000#32))))
  select (ori (ori (cmpf .oeq M (broadcast s (Scalar.ofBits (F := Ideal) .f32 0x00000000#32)))
      (cmpf .olt f (broadcast s (Scalar.ofBits (F := Ideal) .f32 0xC2FC0000#32))))
      (cmpf .ogt f (broadcast s (Scalar.ofBits (F := Ideal) .f32 0x42FA0000#32))))
    (broadcast s 0#32) (addi (fptosi 32 f) (broadcast s 1#32))

theorem expo_at {s : Shape} (M : FVec Ideal s .f32) (i : s.Idx) : expo M i = ex (M i) := by
  unfold ex lg expo
  pointwise
  rfl

end Cert.Down.Math

end
-- ==== Proof.Down.XVal.lean ====
module

public import proofs.«01_k».proof.Proof.Gen.QuantXIdeal.Frame
public import proofs.«01_k».proof.Proof.Down.MathX
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QuantXIdeal.Val
open Cert.QuantXIdeal Cert.QuantXIdeal.Gen Cert.Down.Math

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![t.val, 0] ∧ win0_3.index t = ![t.val, 0, 0] ∧ t.val < 16 :=
  (by decide +kernel : ∀ t : Fin grid0.N, _)

/-- A lane's greatest size. -/
def lane (X : FVec Ideal S256x2560 .bf16) (r : Fin 256) (l : Fin 128) : EReal :=
  max (max (max (max (k0_pay9 (F := Ideal) X (ix2 r l)) (k0_pay5 (F := Ideal) X (ix2 r l))) (k0_pay6 (F := Ideal) X (ix2 r l))) (k0_pay7 (F := Ideal) X (ix2 r l)))
    (k0_pay8 (F := Ideal) X (ix2 r l))

theorem lane_le (X : FVec Ideal S256x2560 .bf16) (r : Fin 256) (l : Fin 128) (b : EReal) :
    lane X r l ≤ b ↔ ∀ i : Fin 20, sz (X (ix2 r ⟨128 * i.val + l.val, by omega⟩)) ≤ b := by
  unfold lane k0_pay9 k0_pay5 k0_pay6 k0_pay7 k0_pay8 k0_pay4
  pointwise
  have e0 : (⟨128 * 0 + l.val, by omega⟩ : Fin 2560) = ⟨l.val, by omega⟩ := Fin.ext (Nat.zero_add _)
  rw [max_le_iff, max_le_iff, max_le_iff, max_le_iff, max_le_iff, max_le_iff, max_le_iff, max_le_iff, max_le_iff, max_le_iff, max_le_iff, max_le_iff, max_le_iff, max_le_iff, max_le_iff, max_le_iff, max_le_iff, max_le_iff, max_le_iff]
  constructor
  · rintro ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩ i
    fin_cases i
    exacts [(congrArg (fun k => sz (X (ix2 r k))) e0).trans_le h0, h1, h2, h3, h4, h5, h6, h7, h8, h9, h10, h11, h12, h13, h14, h15, h16, h17, h18, h19]
  · exact fun H => ⟨⟨⟨⟨⟨⟨⟨⟨⟨⟨⟨⟨⟨⟨⟨⟨⟨⟨⟨(congrArg (fun k => sz (X (ix2 r k))) e0.symm).trans_le (H 0), H 1⟩, H 2⟩, H 3⟩, H 4⟩, H 5⟩, H 6⟩, H 7⟩, H 8⟩, H 9⟩, H 10⟩, H 11⟩, H 12⟩, H 13⟩, H 14⟩, H 15⟩, H 16⟩, H 17⟩, H 18⟩, H 19⟩

/-- The greatest lane is the row's greatest size. -/
theorem big_lane (X : FVec Ideal S256x2560 .bf16) (r : Fin 256) : (big fun l => lane X r l) = big fun k : Fin 2560 => sz (X (ix2 r k)) := by
  refine eq_of_le_iff fun b => ?_
  rw [big_le, big_le]
  simp only [lane_le]
  constructor
  · intro H k
    have := H ⟨k.val % 128, Nat.mod_lt _ (by decide)⟩ ⟨k.val / 128, by omega⟩
    rwa [show (⟨128 * (k.val / 128) + k.val % 128, by omega⟩ : Fin 2560) = k from Fin.ext (Nat.div_add_mod _ _)] at this
  · exact fun H l i => H _

/-- The scale's exponent, over the five parts of the lanes' sizes. -/
theorem pay10_at (a b c d e : FVec Ideal S256x128 .f32) (r : Fin 256) (l : Fin 128) :
    k0_pay10 (F := Ideal) a b c d e (ix2 r l) = ex (big fun x : Fin 128 => max (max (max (max (e (ix2 r x)) (a (ix2 r x))) (b (ix2 r x))) (c (ix2 r x))) (d (ix2 r x))) := by
  rw [← exf_eq]
  unfold k0_pay10
  pointwise
  rfl

theorem pay11_at (a b c d e : FVec Ideal S256x128 .f32) (r : Fin 256) (l : Fin 128) :
    k0_pay11 (F := Ideal) a b c d e (ix2 r l) = scl (big fun x : Fin 128 => max (max (max (max (e (ix2 r x)) (a (ix2 r x))) (b (ix2 r x))) (c (ix2 r x))) (d (ix2 r x))) := by
  rw [← scl_bits, ← pay10_at a b c d e r l]
  unfold k0_pay11
  generalize k0_pay10 (F := Ideal) a b c d e = z
  pointwise

theorem pay12_at (a b c d e : FVec Ideal S256x128 .f32) (r : Fin 256) (l : Fin 128) :
    k0_pay12 (F := Ideal) a b c d e (ix2 r l) = IntOp.subi 127#32 (ex (big fun x : Fin 128 => max (max (max (max (e (ix2 r x)) (a (ix2 r x))) (b (ix2 r x))) (c (ix2 r x))) (d (ix2 r x)))) := by
  rw [← pay10_at a b c d e r l]
  unfold k0_pay12
  generalize k0_pay10 (F := Ideal) a b c d e = z
  pointwise

/-- Twenty copies side by side. -/
theorem cat_at (x : FVec Ideal S256x128 .f32) (h) (r : Fin 256) (q : Fin 2560) :
    concatenate S256x2560 1 (List.replicate 20 (⟨S256x128, x⟩ : (s : Shape) × (s.Idx → EReal))) h (ix2 r q)
      = x (ix2 r ⟨q.val % 128, Nat.mod_lt _ (by decide)⟩) :=
  concatenate_replicate_apply (s₁ := S256x128) (t := S256x2560) 1 20 x h rfl (ix2 r q) (ix2 r ⟨q.val % 128, Nat.mod_lt _ (by decide)⟩) rfl fun b hb => by
    match b with
    | 0 => rfl
    | 1 => exact absurd rfl hb

theorem pay1_at (t : FVec Ideal S256x2560 .f32) (e : IVec S256x128 32) (r : Fin 256) (q : Fin 2560) :
    k0_pay1 (F := Ideal) t e (ix2 r q)
      = code (t (ix2 r q)) (Ideal.ofBits .f32 (IntOp.shli ArithUnit.vector (e (ix2 r ⟨q.val % 128, Nat.mod_lt _ (by decide)⟩)) 23#32)) := by
  have hz := cat_at (bitcastToFloat (F := Ideal) .f32 (shli e (broadcast S256x128 23#32))) concatenates_S256x128_S256x128_S256x128_S256x128_S256x128_S256x128_S256x128_S256x128_S256x128_S256x128_S256x128_S256x128_S256x128_S256x128_S256x128_S256x128_S256x128_S256x128_S256x128_S256x128_S256x2560_d1 r q
  unfold k0_pay1
  dsimp only [List.replicate] at hz ⊢
  generalize concatenate S256x2560 1 _ _ = z at hz ⊢
  have hz' : z (ix2 r q) = Ideal.ofBits .f32 (IntOp.shli ArithUnit.vector (e (ix2 r ⟨q.val % 128, Nat.mod_lt _ (by decide)⟩)) 23#32) := hz
  rw [← hz']
  unfold code
  pointwise

theorem pay3_at (A : FVec Ideal S256x128 .f32) (r : Fin 256) : k0_pay3 (F := Ideal) A (ix3 0 0 r) = A (ix2 r 0) := by
  unfold k0_pay3
  pointwise

/-- The codes of a block. -/
theorem codes_at (X : FVec Ideal S256x2560 .bf16) (r : Fin 256) (q : Fin 2560) :
    k0_pay1 (F := Ideal) (k0_pay4 (F := Ideal) X) (k0_pay12 (F := Ideal) (k0_pay5 (F := Ideal) X) (k0_pay6 (F := Ideal) X) (k0_pay7 (F := Ideal) X) (k0_pay8 (F := Ideal) X) (k0_pay9 (F := Ideal) X)) (ix2 r q)
      = rowCode (fun n k => X (ix2 n k)) r q := by
  rw [pay1_at, pay12_at, inv_bits]
  exact congr (congrArg code rfl) (congrArg Cert.Down.Math.inv (big_lane X r))

theorem scales_at (X : FVec Ideal S256x2560 .bf16) (r : Fin 256) :
    k0_pay3 (F := Ideal) (k0_pay11 (F := Ideal) (k0_pay5 (F := Ideal) X) (k0_pay6 (F := Ideal) X) (k0_pay7 (F := Ideal) X) (k0_pay8 (F := Ideal) X) (k0_pay9 (F := Ideal) X)) (ix3 0 0 r)
      = rowScale (fun n k => X (ix2 n k)) r := by
  rw [pay3_at, pay11_at]
  exact congrArg scl (big_lane X r)

theorem blk0 (c : Dev nD) (t : Fin cfg0.N) (r : Fin 256) (k : Fin 2560) :
    iblk m c 0 t (ix2 r k) = m ((c : Thread nD τ).loc main_arg0) (ix2 ⟨t.val * 256 + r.val, by have := (idx t).2.2.2.2; omega⟩ k) := by blk_point [iblk, V, idx t]

theorem blkRow (c : Dev nD) (t : Fin cfg0.N) (r : Fin 256) : (fun k : Fin 2560 => iblk m c 0 t (ix2 r k))
    = fun k => m ((c : Thread nD τ).loc main_arg0) (ix2 ⟨t.val * 256 + r.val, by have := (idx t).2.2.2.2; omega⟩ k) := funext fun k => blk0 m c t r k

/-- The codes a grid point leaves. -/
theorem point (c : Dev nD) (t : Fin cfg0.N) (r : Fin 256) (q : Fin 2560) :
    k0_pay1 (F := Ideal) (k0_pay4 (F := Ideal) (iblk m c 0 t)) (k0_pay12 (F := Ideal) (k0_pay5 (F := Ideal) (iblk m c 0 t)) (k0_pay6 (F := Ideal) (iblk m c 0 t)) (k0_pay7 (F := Ideal) (iblk m c 0 t))
      (k0_pay8 (F := Ideal) (iblk m c 0 t)) (k0_pay9 (F := Ideal) (iblk m c 0 t))) (ix2 r q)
      = xCode (m ((c : Thread nD τ).loc main_arg0)) (ix2 ⟨t.val * 256 + r.val, by have := (idx t).2.2.2.2; omega⟩ q) :=
  (codes_at _ r q).trans (congr (f₁ := code _) (f₂ := code _) (congrArg code (blk0 m c t r q)) (congrArg (fun f : Fin 2560 → EReal => Cert.Down.Math.inv (big fun x => sz (f x))) (blkRow m c t r)))

theorem pointS (c : Dev nD) (t : Fin cfg0.N) (r : Fin 256) :
    k0_pay3 (F := Ideal) (k0_pay11 (F := Ideal) (k0_pay5 (F := Ideal) (iblk m c 0 t)) (k0_pay6 (F := Ideal) (iblk m c 0 t)) (k0_pay7 (F := Ideal) (iblk m c 0 t))
      (k0_pay8 (F := Ideal) (iblk m c 0 t)) (k0_pay9 (F := Ideal) (iblk m c 0 t))) (ix3 0 0 r)
      = xScale (m ((c : Thread nD τ).loc main_arg0)) (ix3 ⟨t.val, (idx t).2.2.2.2⟩ 0 r) :=
  (scales_at _ r).trans (congrArg (fun f : Fin 2560 → EReal => scl (big fun x => sz (f x))) (blkRow m c t r))

/-- The kernel's output 1. -/
theorem final1 (c : Dev nD) : (dats m 0 c).arrAt 1 (cfgs 0).N = xCode (m ((c : Thread nD τ).loc main_arg0)) := by
  refine (dats m 0 c).arrAt_eq_of_covers 1 _ (by decide +kernel) fun t _ y => ?_
  blk_simp
  rw [after0_1]
  unfold_out out0_1
  frame_out
  refine Eq.trans (congrArg (k0_pay1 (F := Ideal) _ _) (ix2_eta (n0 := 256) (n1 := 2560) y).symm) ((point m c t (y 0) (y 1)).trans (congrArg (xCode _) (funext fun a => Fin.ext ?_)))
  match a with
  | 0 => blk_simp [idx t]
  | 1 => blk_simp [idx t]

/-- The kernel's output 2. -/
theorem final2 (c : Dev nD) : (dats m 0 c).arrAt 2 (cfgs 0).N = xCode (m ((c : Thread nD τ).loc main_arg0)) := by
  refine (dats m 0 c).arrAt_eq_of_covers 2 _ (by decide +kernel) fun t _ y => ?_
  blk_simp
  rw [after0_2]
  unfold_out out0_2
  frame_out
  refine Eq.trans (congrArg (k0_pay1 (F := Ideal) _ _) (ix2_eta (n0 := 256) (n1 := 2560) y).symm) ((point m c t (y 0) (y 1)).trans (congrArg (xCode _) (funext fun a => Fin.ext ?_)))
  match a with
  | 0 => blk_simp [idx t]
  | 1 => blk_simp [idx t]

theorem final3 (c : Dev nD) : (dats m 0 c).arrAt 3 (cfgs 0).N = xScale (m ((c : Thread nD τ).loc main_arg0)) := by
  refine (dats m 0 c).arrAt_eq_of_covers 3 _ (by decide +kernel) fun t _ y => ?_
  have ey : y = ix3 (n0 := 1) (n1 := 1) (n2 := 256) 0 0 (y 2) := funext fun a => by
    match a with
    | 0 => exact Subsingleton.elim (α := Fin 1) _ _
    | 1 => exact Subsingleton.elim (α := Fin 1) _ _
    | 2 => rfl
  blk_simp
  rw [after0_3]
  unfold_out out0_3
  frame_out
  refine Eq.trans (congrArg (k0_pay3 (F := Ideal) _) ey) ((pointS m c t (y 2)).trans (congrArg (xScale _) (funext fun a => Fin.ext ?_)))
  match a with
  | 0 => blk_simp [idx t]
  | 1 => blk_simp [idx t]; rfl
  | 2 => blk_simp [idx t]

end Cert.QuantXIdeal.Val

end
-- ==== Proof.Down.XRef.lean ====
module

public import proofs.«01_k».proof.Proof.Gen.RefXIdeal.Frame
public import proofs.«01_k».proof.Proof.Down.MathX
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RefXIdeal.Val
open Cert.RefXIdeal Cert.RefXIdeal.Gen Cert.Down.Math

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0] ∧ win0_3.index t = ![0, 0, 0] :=
  (by decide +kernel : ∀ t : Fin grid0.N, _)

/-- The greatest size of a row. -/
theorem red_at (v : FVec Ideal S4096x2560 .f32) (n : Fin 4096) :
    multiReduction (F := Ideal) .maximumf [1] S4096 (absf v) 0xFF800000#32 reduces_S4096x2560_S4096 (.inl rfl) rfl (ix1 n)
      = big fun x : Fin 2560 => sz (v (ix2 n x)) := by
  pointwise
  rfl

/-- The scale's exponent of a row. -/
theorem pay3_at (X : FVec Ideal S4096x2560 .bf16) (n : Fin 4096) : k0_pay3 (F := Ideal) X (ix1 n) = ex (big fun x : Fin 2560 => sz (X (ix2 n x))) :=
  (expo_at _ (ix1 n)).trans (congrArg ex (red_at (k0_pay2 (F := Ideal) X) n))

theorem pay4_at (X : FVec Ideal S4096x2560 .bf16) (n : Fin 4096) (k : Fin 2560) :
    k0_pay4 (F := Ideal) X (ix2 n k) = rowCode (fun n k => X (ix2 n k)) n k := by
  unfold rowCode Cert.Down.Math.inv
  rw [← pay3_at X n]
  unfold k0_pay4 code
  generalize k0_pay3 (F := Ideal) X = e
  pointwise [k0_pay2]
  rfl

theorem pay1_at (s : FVec Ideal S4096 .f32) (y : S16x1x256.Idx) : k0_pay1 (F := Ideal) s y = s (ix1 ⟨(y 0).val * 256 + (y 2).val, by
    have h0 : (y 0).val < 16 := (y 0).isLt
    have h2 : (y 2).val < 256 := (y 2).isLt
    omega⟩) := by
  unfold k0_pay1
  pointwise

theorem pay6_at (X : FVec Ideal S4096x2560 .bf16) (n : Fin 4096) : k0_pay6 (F := Ideal) X (ix1 n) = rowScale (fun n k => X (ix2 n k)) n := by
  unfold rowScale scl
  rw [← pay3_at X n]
  unfold k0_pay6
  generalize k0_pay3 (F := Ideal) X = e
  pointwise
  rfl

/-- The block is the argument. -/
theorem blk0 (c : Dev nD) (t : Fin cfg0.N) : iblk m c 0 t = m ((c : Thread nD τ).loc main_arg0) := funext fun y => by
  refine Eq.trans (b := iblk m c 0 t (ix2 (n0 := 4096) (n1 := 2560) (y 0) (y 1))) (congrArg _ (ix2_eta (n0 := 4096) (n1 := 2560) y).symm) ?_
  refine Eq.trans ?_ (congrArg _ (ix2_eta (n0 := 4096) (n1 := 2560) y))
  generalize y 0 = r
  generalize y 1 = k
  blk_point [iblk, V, idx t]

/-- The reference's output 1. -/
theorem final1 (c : Dev nD) : (dats m 0 c).arrAt 1 (cfgs 0).N = xCode (m ((c : Thread nD τ).loc main_arg0)) := by
  refine (dats m 0 c).arrAt_eq_of_covers 1 _ (by decide +kernel) fun t _ y => ?_
  have e : ((View.whole main_v0_0).slice (win0_1.rect t)).emb y = y := funext fun a => Fin.ext (by
    match a with
    | 0 => blk_simp [idx t]
    | 1 => blk_simp [idx t])
  blk_simp
  rw [after0_1]
  rw [blk0]
  unfold out0_1
  frame_out
  refine (congrArg (k0_pay4 (F := Ideal) _) (ix2_eta (n0 := 4096) (n1 := 2560) y).symm).trans ?_
  exact (pay4_at _ (y 0) (y 1)).trans (congrArg (xCode _) e.symm)

/-- The reference's output 2. -/
theorem final2 (c : Dev nD) : (dats m 0 c).arrAt 2 (cfgs 0).N = xCode (m ((c : Thread nD τ).loc main_arg0)) := by
  refine (dats m 0 c).arrAt_eq_of_covers 2 _ (by decide +kernel) fun t _ y => ?_
  have e : ((View.whole main_v0_1).slice (win0_2.rect t)).emb y = y := funext fun a => Fin.ext (by
    match a with
    | 0 => blk_simp [idx t]
    | 1 => blk_simp [idx t])
  blk_simp
  rw [after0_2]
  rw [blk0]
  unfold out0_2
  frame_out
  refine (congrArg (k0_pay4 (F := Ideal) _) (ix2_eta (n0 := 4096) (n1 := 2560) y).symm).trans ?_
  exact (pay4_at _ (y 0) (y 1)).trans (congrArg (xCode _) e.symm)

/-- The reference's output 3. -/
theorem final3 (c : Dev nD) : (dats m 0 c).arrAt 3 (cfgs 0).N = xScale (m ((c : Thread nD τ).loc main_arg0)) := by
  refine (dats m 0 c).arrAt_eq_of_covers 3 _ (by decide +kernel) fun t _ y => ?_
  have e : ((View.whole main_v0_2).slice (win0_3.rect t)).emb y = y := funext fun a => Fin.ext (by
    match a with
    | 0 => blk_simp [idx t]
    | 1 => blk_simp [idx t]
    | 2 => blk_simp [idx t])
  blk_simp
  rw [after0_3]
  rw [blk0]
  unfold out0_3
  frame_out
  exact (pay1_at _ y).trans ((pay6_at _ _).trans (congrArg (xScale _) e.symm))

end Cert.RefXIdeal.Val

end
-- ==== Proof.Down.PFrame.lean ====
module

public import proofs.«01_k».proof.Proof.Gen.Primal.Frame
public import proofs.«01_k».proof.Proof.Gen.Primal.Skeleton
public import Idealize.ShloMosaic.Lib.Pipeline.Frame
public import Idealize.ShloMosaic.Lib.Tactic

@[expose] public section

set_option maxRecDepth 16384

noncomputable section

/-
  The frame of `Primal`: the body runs from any contents of its three scratch buffers and of its four outputs, leaves its
  inputs as they were, and nothing is said of what it leaves in the outputs.
-/
namespace Cert.Primal.Hand

open Cert.Primal Cert.Primal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-- The first point of the grid, as the body decides it. -/
abbrev first (i : grid0.Coords) : Prop :=
  Scalar.cmpi .ne (Scalar.extui (Scalar.andi (Scalar.cmpi .eq (BitVec.ofNat 32 (i 0).val) 0#32)
    (Scalar.cmpi .eq (BitVec.ofNat 32 (i 1).val) 0#32)) : BitVec 32) 0#32 = 1#1

set_option sl_exec.squeezeSlice true in
/-- The body's triple: inputs kept, outputs and scratch at some contents before and after. -/
theorem kernelRun (i : grid0.Coords) (c : Dev nD)
    (arg2 : Memref sig .tc .vmem S256x2560 .fp8e4m3) (harg2 : arg2.IsWhole)
    (arg3 : Memref sig .tc .vmem S1x1x256 .f32) (harg3 : arg3.IsWhole)
    (arg4 : Memref sig .tc .vmem S2560x6912 .fp8e4m3) (harg4 : arg4.IsWhole)
    (arg5 : Memref sig .tc .vmem S1x768 .f32) (harg5 : arg5.IsWhole)
    (arg6 : Memref sig .tc .vmem S2560x6912 .fp8e4m3) (harg6 : arg6.IsWhole)
    (arg7 : Memref sig .tc .vmem S1x768 .f32) (harg7 : arg7.IsWhole)
    (arg8 : Memref sig .tc .vmem S256x768 .f32) (harg8 : arg8.IsWhole)
    (arg9 : Memref sig .tc .vmem S256x768 .f32) (harg9 : arg9.IsWhole)
    (arg10 : Memref sig .tc .vmem S256x768 .fp8e4m3) (harg10 : arg10.IsWhole)
    (arg11 : Memref sig .tc .vmem S1x1x256 .f32) (harg11 : arg11.IsWhole)
    (arg12 : Memref sig .tc .vmem S256x6912 .f32) (harg12 : arg12.IsWhole)
    (arg13 : Memref sig .tc .vmem S256x128 .f32) (harg13 : arg13.IsWhole)
    (arg14 : Memref sig .tc .vmem S256x128 .f32) (harg14 : arg14.IsWhole)
    (X0 : S256x2560.Idx → Elt F .fp8e4m3) (X1 : S1x1x256.Idx → Elt F .f32) (X2 : S2560x6912.Idx → Elt F .fp8e4m3) (X3 : S1x768.Idx → Elt F .f32) (X4 : S2560x6912.Idx → Elt F .fp8e4m3) (X5 : S1x768.Idx → Elt F .f32)
    (K : PUnit → sProp 𝕄) :
    iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ
          (cc0_primal i arg2 harg2 arg3 harg3 arg4 harg4 arg5 harg5 arg6 harg6 arg7 harg7 arg8 harg8 arg9 harg9 arg10 harg10 arg11 harg11 arg12 harg12 arg13 harg13 arg14 harg14) K := by
  simp only [cc0_primal_eq_skeleton]; unfold cc0_primal_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  by_cases hc1 : first i <;> by_cases hc2 : k0_cond2 i = 1#1 <;> by_cases hc3 : k0_cond3 i = 1#1
  all_goals
    sl_exec (disch := first | exact hc1 | exact hc2 | exact hc3)
    sl_step
    iapply Hk
    isplitl [H0]
    · iexists _; isplitr; swap; · iexact H0
      ipureintro; exact h0
    isplitl [H1]
    · iexists _; isplitr; swap; · iexact H1
      ipureintro; exact h1
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

/-! ## The proof data and the body obligation -/

variable (m : (ℓ : Loc nD τ sig) → Buf (Elt F) ℓ) (ρ : Dev nD → PrngReg)

/-- The four outputs are forgotten: nothing here reads what the body leaves in them. -/
def forgets0 : Fin 10 → Bool := ![false, false, false, false, false, false, true, true, true, true]

/-- The proof data on core `c`: the arrays as the region finds them; each input's block in place; the outputs unnamed; the scratch at
    some contents; full shares; nothing owed. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => Pipeline.Dat.unnamed (cfg := cfg0) 6 t
    | 7 => fun t => Pipeline.Dat.unnamed (cfg := cfg0) 7 t
    | 8 => fun t => Pipeline.Dat.unnamed (cfg := cfg0) 8 t
    | 9 => fun t => Pipeline.Dat.unnamed (cfg := cfg0) 9 t
    | ⟨_ + 10, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- The invariant, conjunct by conjunct. -/
theorem Phi_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq, after_0, after_1, after_2, after_3, after_4, after_5]
  simp only [before0_0_of m (dats m 0 c) rfl (after_0 m c), before0_1_of m (dats m 0 c) rfl (after_1 m c), before0_2_of m (dats m 0 c) rfl (after_2 m c), before0_3_of m (dats m 0 c) rfl (after_3 m c), before0_4_of m (dats m 0 c) rfl (after_4 m c), before0_5_of m (dats m 0 c) rfl (after_5 m c)]
  iintro ⟨⟨⟨HS0, HS1, HS2⟩, Hg⟩, HO, ⟨%d0, H0⟩, ⟨%d1, H1⟩, ⟨%d2, H2⟩, ⟨%d3, H3⟩, ⟨%d4, H4⟩, ⟨%d5, H5⟩, H6, H7, H8, H9⟩
  iapply (kernelRun (grid0.coords t) c (st0_0 t) _ (st0_1 t) _ (st0_2 t) _ (st0_3 t) _ (st0_4 t) _ (st0_5 t) _ (st0_6 t) _ (st0_7 t) _ (st0_8 t) _ (st0_9 t) _
    (Memref.whole cc0_scratch0) _ (Memref.whole cc0_scratch1) _ (Memref.whole cc0_scratch2) _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every run of @main terminates with the inputs as the region found them and the counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) (p := (0 : Fin 1)) cfgs (dats m) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main leaves its arguments as it found them. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      (h.1.arr_in c 4 rfl).trans ((A_eq m c 4).trans (V_main_arg4 m c)),
      ((h.1 c).2 main_arg5 (Pipeline.mem_restRefs_of main_arg5 (by decide) (by decide))).trans (V_main_arg5 m c)⟩, h.2⟩) (run_main m ρ)

end Cert.Primal.Hand

end
-- ==== Proof.Down.MathP.lean ====
module

public import proofs.«01_k».proof.Proof.Down.MathX

/-! The gate and up products, the two factors of the tangents and the quantized hidden activations, as plain formulas over the extended reals. -/

@[expose] public section

noncomputable section

open Idealize.ShloMosaic

namespace Cert.Down.Math

/-- One, as the programs write it. -/
abbrev one : EReal := Ideal.ofBits .f32 0x3F800000#32

/-- The logistic function. -/
abbrev sg (g : EReal) : EReal := FloatOps.logistic (F := Ideal) (φ := .f32) g

/-- The factor of the gate tangents, the factor of the up tangents, and the hidden activation, from the two products. -/
def fgOf (g u : EReal) : EReal := sg g * (one + g * (one - sg g)) * u
def fuOf (g : EReal) : EReal := g * sg g
def hOf (g u : EReal) : EReal := g * sg g * u

/-- A product at a token and a hidden unit: codes times codes, times the token's scale, times the unit's scale. -/
def lin (xq : FVec Ideal ⟨2, ![4096, 2560]⟩ .fp8e4m3) (sx : FVec Ideal ⟨1, ![4096]⟩ .f32) (w : FVec Ideal ⟨2, ![2560, 6912]⟩ .fp8e4m3)
    (ws : FVec Ideal ⟨1, ![6912]⟩ .f32) (n : Fin 4096) (k : Fin 6912) : EReal :=
  (∑ x : Fin 2560, xq (ix2 n x) * w (ix2 x k)) * sx (ix1 n) * ws (ix1 k)

section
variable (xq : FVec Ideal ⟨2, ![4096, 2560]⟩ .fp8e4m3) (sx : FVec Ideal ⟨1, ![4096]⟩ .f32) (wg : FVec Ideal ⟨2, ![2560, 6912]⟩ .fp8e4m3)
  (wgs : FVec Ideal ⟨1, ![6912]⟩ .f32) (wu : FVec Ideal ⟨2, ![2560, 6912]⟩ .fp8e4m3) (wus : FVec Ideal ⟨1, ![6912]⟩ .f32)

/-- The factor of the gate tangents. -/
def facG : FVec Ideal ⟨2, ![4096, 6912]⟩ .f32 := fun y => fgOf (lin xq sx wg wgs (y 0) (y 1)) (lin xq sx wu wus (y 0) (y 1))

/-- The factor of the up tangents. -/
def facU : FVec Ideal ⟨2, ![4096, 6912]⟩ .f32 := fun y => fuOf (lin xq sx wg wgs (y 0) (y 1))

/-- The hidden activations. -/
def hid (n : Fin 4096) (k : Fin 6912) : EReal := hOf (lin xq sx wg wgs n k) (lin xq sx wu wus n k)

/-- Their codes. -/
def hCode : FVec Ideal ⟨2, ![4096, 6912]⟩ .fp8e4m3 := fun y => rowCode (hid xq sx wg wgs wu wus) (y 0) (y 1)

/-- Their scales, tokens in rows of 256. -/
def hScale : FVec Ideal ⟨3, ![16, 1, 256]⟩ .f32 := fun y => rowScale (hid xq sx wg wgs wu wus) ⟨(y 0).val * 256 + (y 2).val, by
    have h0 : (y 0).val < 16 := (y 0).isLt
    have h2 : (y 2).val < 256 := (y 2).isLt
    omega⟩
end

end Cert.Down.Math

end
-- ==== Proof.Down.PRun.lean ====
module

public import proofs.«01_k».proof.Proof.Gen.PrimalIdeal.Frame
public import proofs.«01_k».proof.Proof.Gen.PrimalIdeal.Skeleton
public import Idealize.ShloMosaic.Lib.Pipeline.Frame
public import Idealize.ShloMosaic.Lib.Pipeline.DatRel
public import Idealize.ShloMosaic.Lib.VecWindow
public import Idealize.ShloMosaic.Lib.Pointwise
public import Idealize.ShloMosaic.Lib.Tactic

@[expose] public section

set_option maxRecDepth 16384

noncomputable section

/-
  One run of `PrimalIdeal`'s body, from any contents of the buffers, with what it leaves in each of them named.
-/
namespace Cert.PrimalIdeal.Hand

open Cert.PrimalIdeal Cert.PrimalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Idealize.ShloMosaic.VecWindow (put window)

variable {F : FTy → Type} [FloatOps F] [∀ e, Nonempty (Elt F e)]

local notation "𝕄" => MT nD τ sig Unit (Elt F) ℕ (UR sig nD τ) ℕ

/-- The first point of the grid, as the body decides it. -/
abbrev first (i : grid0.Coords) : Prop :=
  Scalar.cmpi .ne (Scalar.extui (Scalar.andi (Scalar.cmpi .eq (BitVec.ofNat 32 (i 0).val) 0#32)
    (Scalar.cmpi .eq (BitVec.ofNat 32 (i 1).val) 0#32)) : BitVec 32) 0#32 = 1#1

/-- The lane maxima the body reads: cleared at the grid's first point. -/
def c9 (i : grid0.Coords) (S9 : Vec F S256x128 .f32) : Vec F S256x128 .f32 := if first i then k0_pay1 else S9
def c10 (i : grid0.Coords) (S10 : Vec F S256x128 .f32) : Vec F S256x128 .f32 := if first i then k0_pay2 else S10

/-- The lane maxima of the step before, after the body. -/
def mp (i : grid0.Coords) (S9 S10 : Vec F S256x128 .f32) : Vec F S256x128 .f32 := k0_pay3 i (c9 i S9) (c10 i S10)

theorem wc_inb (i : grid0.Coords) (r : Fin 3) (a : Fin 2) : (![0, 768 * (i 1).val + 256 * r.val] : Fin 2 → ℕ) a + S2560x256.size a ≤ S2560x6912.size a := by
  have h : (i 1).val < 9 := (i 1).isLt
  have hr := r.isLt
  match a with
  | 0 => show 0 + 2560 ≤ 2560; omega
  | 1 => show 768 * (i 1).val + 256 * r.val + 256 ≤ 6912; omega
theorem ws_inb (r : Fin 3) (a : Fin 2) : (![0, 256 * r.val] : Fin 2 → ℕ) a + S1x256.size a ≤ S1x768.size a := by
  have hr := r.isLt
  match a with
  | 0 => show 0 + 1 ≤ 1; omega
  | 1 => show 256 * r.val + 256 ≤ 768; omega

/-- A group of 256 hidden units of a weight's codes and of its scales. -/
def wc (i : grid0.Coords) (r : Fin 3) (X : Vec F S2560x6912 .fp8e4m3) : Vec F S2560x256 .fp8e4m3 :=
  window X ![0, 768 * (i 1).val + 256 * r.val] S2560x256.size (wc_inb i r)
def ws (r : Fin 3) (X : Vec F S1x768 .f32) : Vec F S1x256 .f32 := window X ![0, 256 * r.val] S1x256.size (ws_inb r)

/-- What the body leaves in the factors' buffers: three column groups put over what was there. -/
def fgB (i : grid0.Coords) (X0 : Vec F S256x2560 .fp8e4m3) (X1 : Vec F S1x1x256 .f32) (X2 : Vec F S2560x6912 .fp8e4m3) (X3 : Vec F S1x768 .f32) (X4 : Vec F S2560x6912 .fp8e4m3) (X5 : Vec F S1x768 .f32) (Y : Vec F S256x768 .f32) : Vec F S256x768 .f32 :=
  put (put (put Y ![0, 0] S256x256.size (k0_pay20 X1 X0 (wc i 0 X2) (ws 0 X3) X0 (wc i 0 X4) (ws 0 X5)))
    ![0, 256] S256x256.size (k0_pay30 (k0_pay24 (k0_pay14 X1) X0 (wc i 1 X4) (ws 1 X5)) (k0_pay25 (k0_pay14 X1) X0 (wc i 1 X2) (ws 1 X3)) (k0_pay28 (k0_pay14 X1) X0 (wc i 1 X2) (ws 1 X3)) k0_pay29))
    ![0, 512] S256x256.size (k0_pay8 (k0_pay33 (k0_pay14 X1) X0 (wc i 2 X2) (ws 2 X3)) (k0_pay34 (k0_pay14 X1) X0 (wc i 2 X4) (ws 2 X5)) (k0_pay35 (k0_pay14 X1) X0 (wc i 2 X2) (ws 2 X3)))
def fuB (i : grid0.Coords) (X0 : Vec F S256x2560 .fp8e4m3) (X1 : Vec F S1x1x256 .f32) (X2 : Vec F S2560x6912 .fp8e4m3) (X3 : Vec F S1x768 .f32) (X4 : Vec F S2560x6912 .fp8e4m3) (X5 : Vec F S1x768 .f32) (Y : Vec F S256x768 .f32) : Vec F S256x768 .f32 :=
  put (put (put Y ![0, 0] S256x256.size (k0_pay18 X1 X0 (wc i 0 X2) (ws 0 X3)))
    ![0, 256] S256x256.size (k0_pay26 (k0_pay14 X1) X0 (wc i 1 X2) (ws 1 X3)))
    ![0, 512] S256x256.size (k0_pay36 (k0_pay14 X1) X0 (wc i 2 X2) (ws 2 X3))

/-- The same in the scratch of the hidden activations. -/
def puts (i : grid0.Coords) (X0 : Vec F S256x2560 .fp8e4m3) (X1 : Vec F S1x1x256 .f32) (X2 : Vec F S2560x6912 .fp8e4m3) (X3 : Vec F S1x768 .f32) (X4 : Vec F S2560x6912 .fp8e4m3) (X5 : Vec F S1x768 .f32) (S8 : Vec F S256x6912 .f32) : Vec F S256x6912 .f32 :=
  put (put (put S8 (k0_off3 i 0#32) S256x256.size (k0_pay21 (k0_pay19 X1 X0 (wc i 0 X2) (ws 0 X3) X0 (wc i 0 X4) (ws 0 X5))))
    (k0_off3 i 256#32) S256x256.size (k0_pay31 (k0_pay27 (k0_pay14 X1) X0 (wc i 1 X2) (ws 1 X3) X0 (wc i 1 X4) (ws 1 X5))))
    (k0_off3 i 512#32) S256x256.size (k0_pay9 (k0_pay34 (k0_pay14 X1) X0 (wc i 2 X4) (ws 2 X5)) (k0_pay36 (k0_pay14 X1) X0 (wc i 2 X2) (ws 2 X3)))

/-- The lane maxima after the column groups, from those read. -/
def maxs (i : grid0.Coords) (X0 : Vec F S256x2560 .fp8e4m3) (X1 : Vec F S1x1x256 .f32) (X2 : Vec F S2560x6912 .fp8e4m3) (X3 : Vec F S1x768 .f32) (X4 : Vec F S2560x6912 .fp8e4m3) (X5 : Vec F S1x768 .f32) (C : Vec F S256x128 .f32) : Vec F S256x128 .f32 :=
  k0_pay10 (k0_pay32 (k0_pay22 (k0_pay4 i C) (k0_pay19 X1 X0 (wc i 0 X2) (ws 0 X3) X0 (wc i 0 X4) (ws 0 X5))) (k0_pay27 (k0_pay14 X1) X0 (wc i 1 X2) (ws 1 X3) X0 (wc i 1 X4) (ws 1 X5))) (k0_pay34 (k0_pay14 X1) X0 (wc i 2 X4) (ws 2 X5)) (k0_pay36 (k0_pay14 X1) X0 (wc i 2 X2) (ws 2 X3))

/-- What the body leaves in these buffers, whether the point computes or not. -/
def fo (i : grid0.Coords) (X0 : Vec F S256x2560 .fp8e4m3) (X1 : Vec F S1x1x256 .f32) (X2 : Vec F S2560x6912 .fp8e4m3) (X3 : Vec F S1x768 .f32) (X4 : Vec F S2560x6912 .fp8e4m3) (X5 : Vec F S1x768 .f32) (Y : Vec F S256x768 .f32) : Vec F S256x768 .f32 := if k0_cond3 i = 1#1 then fgB i X0 X1 X2 X3 X4 X5 Y else Y
def uo (i : grid0.Coords) (X0 : Vec F S256x2560 .fp8e4m3) (X1 : Vec F S1x1x256 .f32) (X2 : Vec F S2560x6912 .fp8e4m3) (X3 : Vec F S1x768 .f32) (X4 : Vec F S2560x6912 .fp8e4m3) (X5 : Vec F S1x768 .f32) (Y : Vec F S256x768 .f32) : Vec F S256x768 .f32 := if k0_cond3 i = 1#1 then fuB i X0 X1 X2 X3 X4 X5 Y else Y
def tt (i : grid0.Coords) (X0 : Vec F S256x2560 .fp8e4m3) (X1 : Vec F S1x1x256 .f32) (X2 : Vec F S2560x6912 .fp8e4m3) (X3 : Vec F S1x768 .f32) (X4 : Vec F S2560x6912 .fp8e4m3) (X5 : Vec F S1x768 .f32) (S8 : Vec F S256x6912 .f32) : Vec F S256x6912 .f32 := if k0_cond3 i = 1#1 then puts i X0 X1 X2 X3 X4 X5 S8 else S8
def cur (i : grid0.Coords) (X0 : Vec F S256x2560 .fp8e4m3) (X1 : Vec F S1x1x256 .f32) (X2 : Vec F S2560x6912 .fp8e4m3) (X3 : Vec F S1x768 .f32) (X4 : Vec F S2560x6912 .fp8e4m3) (X5 : Vec F S1x768 .f32) (S9 : Vec F S256x128 .f32) : Vec F S256x128 .f32 := if k0_cond3 i = 1#1 then maxs i X0 X1 X2 X3 X4 X5 (c9 i S9) else c9 i S9

/-- What the body leaves in the codes' buffer and in the scales' buffer. -/
def cd (i : grid0.Coords) (M : Vec F S256x128 .f32) (S8 : Vec F S256x6912 .f32) (Y : Vec F S256x768 .fp8e4m3) : Vec F S256x768 .fp8e4m3 :=
  if h : k0_cond2 i = 1#1 then k0_pay6 (k0_pay13 M) 23#32 (window S8 (k0_off1 i) S256x768.size (k0_off1_inb i h)) else Y
def sc (i : grid0.Coords) (M : Vec F S256x128 .f32) (Y : Vec F S1x1x256 .f32) : Vec F S1x1x256 .f32 :=
  if k0_cond2 i = 1#1 then k0_pay5 (k0_pay12 M) else Y

section reads
variable {κ : Kind} {sp : Space}
theorem rd2 (v : View sig κ sp S256x2560 .fp8e4m3) (f : v.ty.Contents (Elt F)) :
    v.readAt (Elt F) (Rect.unit (s := S256x2560) ![0, 0] S256x2560.size inb_S256x2560_S256x2560_0_0).toLoadRect f = v.read (Elt F) f := View.readAt_full v f _
theorem rd2' (v : View sig κ sp S256x2560 .fp8e4m3) (f : v.ty.Contents (Elt F)) :
    v.readAt (Elt F) (Rect.unit (s := S256x2560) ![0, 0] ![256, 2560] inb_S256x2560_S256x2560_0_0).toLoadRect f = v.read (Elt F) f := View.readAt_full v f _
theorem rd3 (v : View sig κ sp S1x1x256 .f32) (f : v.ty.Contents (Elt F)) :
    v.readAt (Elt F) (Rect.unit (s := S1x1x256) ![0, 0, 0] S1x1x256.size inb_S1x1x256_S1x1x256_0_0_0).toLoadRect f = v.read (Elt F) f := View.readAt_full v f _
theorem rd3' (v : View sig κ sp S1x1x256 .f32) (f : v.ty.Contents (Elt F)) :
    v.readAt (Elt F) (Rect.unit (s := S1x1x256) ![0, 0, 0] ![1, 1, 256] inb_S1x1x256_S1x1x256_0_0_0).toLoadRect f = v.read (Elt F) f := View.readAt_full v f _
theorem rd9 (v : View sig κ sp S256x128 .f32) (f : v.ty.Contents (Elt F)) :
    v.readAt (Elt F) (Rect.unit (s := S256x128) ![0, 0] S256x128.size inb_S256x128_S256x128_0_0).toLoadRect f = v.read (Elt F) f := View.readAt_full v f _
theorem rd9' (v : View sig κ sp S256x128 .f32) (f : v.ty.Contents (Elt F)) :
    v.readAt (Elt F) (Rect.unit (s := S256x128) ![0, 0] ![256, 128] inb_S256x128_S256x128_0_0).toLoadRect f = v.read (Elt F) f := View.readAt_full v f _
theorem rc9 (v : View sig κ sp S256x128 .f32)
    (w : (Rect.unit (s := S256x128) ![0, 0] ![256, 128] inb_S256x128_S256x128_0_0).shape.Idx → Elt F .f32) (L) :
    v.readCov (⟨Rect.unit (s := S256x128) ![0, 0] ![256, 128] inb_S256x128_S256x128_0_0, w⟩ :: L)
      (Rect.unit (s := S256x128) ![0, 0] ![256, 128] inb_S256x128_S256x128_0_0).toLoadRect = w := View.readCov_full v inb_S256x128_S256x128_0_0 inb_S256x128_S256x128_0_0 w L
theorem rwo (v : View sig κ sp S2560x6912 .fp8e4m3) (f : v.ty.Contents (Elt F)) (i : grid0.Coords) (r : Fin 3) (o : Fin 2 → ℕ)
    (e : o = ![0, 768 * (i 1).val + 256 * r.val]) (h) :
    v.readAt (Elt F) (Rect.unit (s := S2560x6912) o S2560x256.size h).toLoadRect f = wc i r (v.read (Elt F) f) := by subst e; rfl
theorem rwc0 (v : View sig κ sp S2560x6912 .fp8e4m3) (f : v.ty.Contents (Elt F)) (i : grid0.Coords) (h) :
    v.readAt (Elt F) (Rect.unit (s := S2560x6912) (k0_off2 i 0#32) S2560x256.size h).toLoadRect f = wc i 0 (v.read (Elt F) f) := rwo v f i 0 _ (k0_off2_eq i 0) h
theorem rwc0' (v : View sig κ sp S2560x6912 .fp8e4m3) (f : v.ty.Contents (Elt F)) (i : grid0.Coords) (h) :
    v.readAt (Elt F) (Rect.unit (s := S2560x6912) (k0_off2 i 0#32) ![2560, 256] h).toLoadRect f = wc i 0 (v.read (Elt F) f) := rwo v f i 0 _ (k0_off2_eq i 0) h
theorem rws0 (v : View sig κ sp S1x768 .f32) (f : v.ty.Contents (Elt F)) (h) :
    v.readAt (Elt F) (Rect.unit (s := S1x768) ![0, 0] S1x256.size h).toLoadRect f = ws 0 (v.read (Elt F) f) := rfl
theorem rws0' (v : View sig κ sp S1x768 .f32) (f : v.ty.Contents (Elt F)) (h) :
    v.readAt (Elt F) (Rect.unit (s := S1x768) ![0, 0] ![1, 256] h).toLoadRect f = ws 0 (v.read (Elt F) f) := rfl
theorem rwc1 (v : View sig κ sp S2560x6912 .fp8e4m3) (f : v.ty.Contents (Elt F)) (i : grid0.Coords) (h) :
    v.readAt (Elt F) (Rect.unit (s := S2560x6912) (k0_off2 i 256#32) S2560x256.size h).toLoadRect f = wc i 1 (v.read (Elt F) f) := rwo v f i 1 _ (k0_off2_eq i 1) h
theorem rwc1' (v : View sig κ sp S2560x6912 .fp8e4m3) (f : v.ty.Contents (Elt F)) (i : grid0.Coords) (h) :
    v.readAt (Elt F) (Rect.unit (s := S2560x6912) (k0_off2 i 256#32) ![2560, 256] h).toLoadRect f = wc i 1 (v.read (Elt F) f) := rwo v f i 1 _ (k0_off2_eq i 1) h
theorem rws1 (v : View sig κ sp S1x768 .f32) (f : v.ty.Contents (Elt F)) (h) :
    v.readAt (Elt F) (Rect.unit (s := S1x768) ![0, 256] S1x256.size h).toLoadRect f = ws 1 (v.read (Elt F) f) := rfl
theorem rws1' (v : View sig κ sp S1x768 .f32) (f : v.ty.Contents (Elt F)) (h) :
    v.readAt (Elt F) (Rect.unit (s := S1x768) ![0, 256] ![1, 256] h).toLoadRect f = ws 1 (v.read (Elt F) f) := rfl
theorem rwc2 (v : View sig κ sp S2560x6912 .fp8e4m3) (f : v.ty.Contents (Elt F)) (i : grid0.Coords) (h) :
    v.readAt (Elt F) (Rect.unit (s := S2560x6912) (k0_off2 i 512#32) S2560x256.size h).toLoadRect f = wc i 2 (v.read (Elt F) f) := rwo v f i 2 _ (k0_off2_eq i 2) h
theorem rwc2' (v : View sig κ sp S2560x6912 .fp8e4m3) (f : v.ty.Contents (Elt F)) (i : grid0.Coords) (h) :
    v.readAt (Elt F) (Rect.unit (s := S2560x6912) (k0_off2 i 512#32) ![2560, 256] h).toLoadRect f = wc i 2 (v.read (Elt F) f) := rwo v f i 2 _ (k0_off2_eq i 2) h
theorem rws2 (v : View sig κ sp S1x768 .f32) (f : v.ty.Contents (Elt F)) (h) :
    v.readAt (Elt F) (Rect.unit (s := S1x768) ![0, 512] S1x256.size h).toLoadRect f = ws 2 (v.read (Elt F) f) := rfl
theorem rws2' (v : View sig κ sp S1x768 .f32) (f : v.ty.Contents (Elt F)) (h) :
    v.readAt (Elt F) (Rect.unit (s := S1x768) ![0, 512] ![1, 256] h).toLoadRect f = ws 2 (v.read (Elt F) f) := rfl
theorem rt (v : View sig κ sp S256x6912 .f32) (f : v.ty.Contents (Elt F)) (o) (h) :
    v.readAt (Elt F) (Rect.unit (s := S256x6912) o S256x768.size h).toLoadRect f = window (v.read (Elt F) f) o S256x768.size h := rfl
theorem rt' (v : View sig κ sp S256x6912 .f32) (f : v.ty.Contents (Elt F)) (o) (h) :
    v.readAt (Elt F) (Rect.unit (s := S256x6912) o ![256, 768] h).toLoadRect f = window (v.read (Elt F) f) o S256x768.size h := rfl
end reads

set_option sl_exec.squeezeSlice true in
set_option maxHeartbeats 3200000 in
/-- The body's triple: inputs kept, and every other buffer left at the functions above of what was there. -/
theorem kernelRun (i : grid0.Coords) (c : Dev nD)
    (arg2 : Memref sig .tc .vmem S256x2560 .fp8e4m3) (harg2 : arg2.IsWhole)
    (arg3 : Memref sig .tc .vmem S1x1x256 .f32) (harg3 : arg3.IsWhole)
    (arg4 : Memref sig .tc .vmem S2560x6912 .fp8e4m3) (harg4 : arg4.IsWhole)
    (arg5 : Memref sig .tc .vmem S1x768 .f32) (harg5 : arg5.IsWhole)
    (arg6 : Memref sig .tc .vmem S2560x6912 .fp8e4m3) (harg6 : arg6.IsWhole)
    (arg7 : Memref sig .tc .vmem S1x768 .f32) (harg7 : arg7.IsWhole)
    (arg8 : Memref sig .tc .vmem S256x768 .f32) (harg8 : arg8.IsWhole)
    (arg9 : Memref sig .tc .vmem S256x768 .f32) (harg9 : arg9.IsWhole)
    (arg10 : Memref sig .tc .vmem S256x768 .fp8e4m3) (harg10 : arg10.IsWhole)
    (arg11 : Memref sig .tc .vmem S1x1x256 .f32) (harg11 : arg11.IsWhole)
    (arg12 : Memref sig .tc .vmem S256x6912 .f32) (harg12 : arg12.IsWhole)
    (arg13 : Memref sig .tc .vmem S256x128 .f32) (harg13 : arg13.IsWhole)
    (arg14 : Memref sig .tc .vmem S256x128 .f32) (harg14 : arg14.IsWhole)
    (X0 : Vec F S256x2560 .fp8e4m3) (X1 : Vec F S1x1x256 .f32) (X2 : Vec F S2560x6912 .fp8e4m3) (X3 : Vec F S1x768 .f32) (X4 : Vec F S2560x6912 .fp8e4m3) (X5 : Vec F S1x768 .f32) (Y6 : Vec F S256x768 .f32) (Y7 : Vec F S256x768 .f32) (Y8 : Vec F S256x768 .fp8e4m3) (Y9 : Vec F S1x1x256 .f32) (S8 : Vec F S256x6912 .f32) (S9 : Vec F S256x128 .f32) (S10 : Vec F S256x128 .f32)
    (K : PUnit → sProp 𝕄) :
    iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ owns (c : Thread nD τ) arg8 fullShare Y6 ∗ owns (c : Thread nD τ) arg9 fullShare Y7 ∗ owns (c : Thread nD τ) arg10 fullShare Y8 ∗ owns (c : Thread nD τ) arg11 fullShare Y9 ∗ owns (c : Thread nD τ) arg12 fullShare S8 ∗ owns (c : Thread nD τ) arg13 fullShare S9 ∗ owns (c : Thread nD τ) arg14 fullShare S10
        ∗ (iprop(owns (c : Thread nD τ) arg2 fullShare X0 ∗ owns (c : Thread nD τ) arg3 fullShare X1 ∗ owns (c : Thread nD τ) arg4 fullShare X2 ∗ owns (c : Thread nD τ) arg5 fullShare X3 ∗ owns (c : Thread nD τ) arg6 fullShare X4 ∗ owns (c : Thread nD τ) arg7 fullShare X5 ∗ owns (c : Thread nD τ) arg8 fullShare (fo i X0 X1 X2 X3 X4 X5 Y6) ∗ owns (c : Thread nD τ) arg9 fullShare (uo i X0 X1 X2 X3 X4 X5 Y7) ∗ owns (c : Thread nD τ) arg10 fullShare (cd i (mp i S9 S10) S8 Y8) ∗ owns (c : Thread nD τ) arg11 fullShare (sc i (mp i S9 S10) Y9) ∗ owns (c : Thread nD τ) arg12 fullShare (tt i X0 X1 X2 X3 X4 X5 S8) ∗ owns (c : Thread nD τ) arg13 fullShare (cur i X0 X1 X2 X3 X4 X5 S9) ∗ owns (c : Thread nD τ) arg14 fullShare (mp i S9 S10)) -∗ K ⟨⟩))
      ⊢ wp frame (wpE (defs₀ (F := F)) Variants.none c none) Set.univ
          (cc0_primal i arg2 harg2 arg3 harg3 arg4 harg4 arg5 harg5 arg6 harg6 arg7 harg7 arg8 harg8 arg9 harg9 arg10 harg10 arg11 harg11 arg12 harg12 arg13 harg13 arg14 harg14) K := by
  simp only [cc0_primal_eq_skeleton]; unfold cc0_primal_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, Hk⟩
  subst h0 h1 h2 h3 h4 h5 h6 h7 h8 h9 h10 h11 h12
  by_cases hc1 : first i <;> by_cases hc2 : k0_cond2 i = 1#1 <;> by_cases hc3 : k0_cond3 i = 1#1
  all_goals
    simp only [cd, sc, tt, cur, fo, uo, mp, c9, c10]
    first | simp only [if_pos hc1] | simp only [if_neg hc1]
    first | simp only [if_pos hc2, dif_pos hc2] | simp only [if_neg hc2, dif_neg hc2]
    first | simp only [if_pos hc3] | simp only [if_neg hc3]
    sl_exec (disch := first | exact hc1 | exact hc2 | exact hc3)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro
      try sl_unfold_run_names
      try dsimp only
      first
        | rw [View.read_writes_cons_put arg8.view _ _ _ _ rfl, View.read_writes_cons_put arg8.view _ _ _ _ rfl, View.read_writes_cons_put arg8.view _ _ _ _ rfl]
          try simp only [rd2, rd2', rd3, rd3', rd9, rd9', rc9, rwc0, rwc0', rwc1, rwc1', rwc2, rwc2', rws0, rws0', rws1, rws1', rws2, rws2', fgB, View.writes_nil]
        | skip
    isplitl [H7]
    · iexists _; isplitr; swap; · iexact H7
      ipureintro
      try sl_unfold_run_names
      try dsimp only
      first
        | rw [View.read_writes_cons_put arg9.view _ _ _ _ rfl, View.read_writes_cons_put arg9.view _ _ _ _ rfl, View.read_writes_cons_put arg9.view _ _ _ _ rfl]
          try simp only [rd2, rd2', rd3, rd3', rd9, rd9', rc9, rwc0, rwc0', rwc1, rwc1', rwc2, rwc2', rws0, rws0', rws1, rws1', rws2, rws2', fuB, View.writes_nil]
        | skip
    isplitl [H8]
    · iexists _; isplitr; swap; · iexact H8
      ipureintro
      try sl_unfold_run_names
      try dsimp only
      first
        | rw [View.read_writes_full arg10.view]
          try simp only [rd2, rd2', rd3, rd3', rd9, rd9', rc9, rwc0, rwc0', rwc1, rwc1', rwc2, rwc2', rws0, rws0', rws1, rws1', rws2, rws2', rt, rt', View.writes_nil]
        | skip
    isplitl [H9]
    · iexists _; isplitr; swap; · iexact H9
      ipureintro
      try sl_unfold_run_names
      try dsimp only
      first
        | rw [View.read_writes_full arg11.view]
          try simp only [rd2, rd2', rd3, rd3', rd9, rd9', rc9, rwc0, rwc0', rwc1, rwc1', rwc2, rwc2', rws0, rws0', rws1, rws1', rws2, rws2', rt, rt', View.writes_nil]
        | skip
    isplitl [H10]
    · iexists _; isplitr; swap; · iexact H10
      ipureintro
      try sl_unfold_run_names
      try dsimp only
      first
        | rw [View.read_writes_cons_put arg12.view _ _ _ _ rfl, View.read_writes_cons_put arg12.view _ _ _ _ rfl, View.read_writes_cons_put arg12.view _ _ _ _ rfl]
          try simp only [rd2, rd2', rd3, rd3', rd9, rd9', rc9, rwc0, rwc0', rwc1, rwc1', rwc2, rwc2', rws0, rws0', rws1, rws1', rws2, rws2', puts, View.writes_nil]
        | skip
    isplitl [H11]
    · iexists _; isplitr; swap; · iexact H11
      ipureintro
      try sl_unfold_run_names
      try dsimp only
      first
        | rw [View.read_writes_full arg13.view]
          try simp only [rd2, rd2', rd3, rd3', rd9, rd9', rc9, rwc0, rwc0', rwc1, rwc1', rwc2, rwc2', rws0, rws0', rws1, rws1', rws2, rws2', rt, rt', maxs, View.writes_nil]
        | skip
    iexists _; isplitr; swap; · iexact H12
    ipureintro
    try sl_unfold_run_names
    try dsimp only
    rw [View.read_writes_full arg14.view]
    try simp only [rd9, rd9', rc9, View.writes_nil]

end Cert.PrimalIdeal.Hand

end
-- ==== Proof.Down.PRel.lean ====
module

public import proofs.«01_k».proof.Proof.Gen.PrimalIdeal.Frame
public import proofs.«01_k».proof.Proof.Gen.PrimalIdeal.Skeleton
public import Idealize.ShloMosaic.Lib.Pipeline.Frame
public import Idealize.ShloMosaic.Lib.Pipeline.DatRel
public import Idealize.ShloMosaic.Lib.Pipeline.ArrRel
public import proofs.«01_k».proof.Proof.Down.PRun
public import Idealize.ShloMosaic.Lib.Tactic

@[expose] public section

set_option maxRecDepth 16384

noncomputable section

/-
  The run of the idealized `Primal`, with what it leaves in the four outputs. A step's nine points compute the step's hidden activations into the
  scratch, a ninth of the columns each, and the greatest sizes lane by lane; the next step's nine points store their codes and their scales.
  The two factors are stored where they are computed, and the last ones stay in their buffers through the last step's points.
-/
namespace Cert.PrimalIdeal.Hand

open Cert.PrimalIdeal Cert.PrimalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (put window)
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-! ## Stored column groups -/

/-- Two buffers that agree up to a group's first column agree up to its last after the same group is put into both. -/
theorem agree_step {S S' : Vec F S256x6912 .f32} {lo o : ℕ} (w : Vec F S256x256 .f32) (h : ∀ y, lo ≤ (y 1).val → (y 1).val < o → S y = S' y) :
    ∀ y, lo ≤ (y 1).val → (y 1).val < o + 256 → put S ![0, o] S256x256.size w y = put S' ![0, o] S256x256.size w y := fun y h1 h2 => by
  unfold put
  by_cases hh : ∀ a, (![0, o] : Fin 2 → ℕ) a ≤ (y a).val ∧ (y a).val < (![0, o] : Fin 2 → ℕ) a + S256x256.size a
  · rw [dif_pos hh, dif_pos hh]
  · rw [dif_neg hh, dif_neg hh]
    refine h y h1 (Nat.lt_of_not_le fun ho => hh fun a => ?_)
    match a with
    | 0 => exact ⟨Nat.zero_le _, by have := (y 0).isLt; show (y 0).val < 0 + 256; exact lt_of_lt_of_eq this rfl⟩
    | 1 => exact ⟨ho, h2⟩

/-- A group put elsewhere leaves a column. -/
theorem keep_step (S : Vec F S256x6912 .f32) (o : ℕ) (w : Vec F S256x256 .f32) (y : S256x6912.Idx) (h : (y 1).val < o ∨ o + 256 ≤ (y 1).val) :
    put S ![0, o] S256x256.size w y = S y := by
  unfold put
  rw [dif_neg]
  intro hh
  have h1 : o ≤ (y 1).val ∧ (y 1).val < o + 256 := hh 1
  omega

theorem off3_eq (i : grid0.Coords) (n : Fin 3) : k0_off3 i (BitVec.ofNat 32 (256 * n.val)) = ![0, 768 * (i 1).val + 256 * n.val] := k0_off3_eq i n

/-- In the columns of the point's ninth, what was there before does not matter. -/
theorem puts_in (i : grid0.Coords) (j : ℕ) (hj : (i 1).val = j) (X0 : Vec F S256x2560 .fp8e4m3) (X1 : Vec F S1x1x256 .f32) (X2 : Vec F S2560x6912 .fp8e4m3)
    (X3 : Vec F S1x768 .f32) (X4 : Vec F S2560x6912 .fp8e4m3) (X5 : Vec F S1x768 .f32) (S S' : Vec F S256x6912 .f32) (y : S256x6912.Idx) (h1 : 768 * j ≤ (y 1).val) (h2 : (y 1).val < 768 * j + 768) :
    puts i X0 X1 X2 X3 X4 X5 S y = puts i X0 X1 X2 X3 X4 X5 S' y := by
  subst hj
  unfold puts
  rw [show k0_off3 i 0#32 = ![0, 768 * (i 1).val] from off3_eq i 0, show k0_off3 i 256#32 = ![0, 768 * (i 1).val + 256] from off3_eq i 1,
    show k0_off3 i 512#32 = ![0, 768 * (i 1).val + 256 + 256] from off3_eq i 2]
  exact agree_step _ (agree_step _ (agree_step _ fun y a b => absurd a (Nat.not_le.2 b))) y h1 (by omega)

/-- The columns of the other ninths are kept. -/
theorem puts_out (i : grid0.Coords) (j : ℕ) (hj : (i 1).val = j) (X0 : Vec F S256x2560 .fp8e4m3) (X1 : Vec F S1x1x256 .f32) (X2 : Vec F S2560x6912 .fp8e4m3)
    (X3 : Vec F S1x768 .f32) (X4 : Vec F S2560x6912 .fp8e4m3) (X5 : Vec F S1x768 .f32) (S : Vec F S256x6912 .f32) (y : S256x6912.Idx) (h : (y 1).val < 768 * j ∨ 768 * j + 768 ≤ (y 1).val) :
    puts i X0 X1 X2 X3 X4 X5 S y = S y := by
  subst hj
  unfold puts
  rw [show k0_off3 i 0#32 = ![0, 768 * (i 1).val] from off3_eq i 0, show k0_off3 i 256#32 = ![0, 768 * (i 1).val + 256] from off3_eq i 1,
    show k0_off3 i 512#32 = ![0, 768 * (i 1).val + 512] from off3_eq i 2]
  rw [keep_step _ _ _ y (by omega), keep_step _ _ _ y (by omega), keep_step _ _ _ y (by omega)]

/-! ## What the scratch and the outputs hold -/

variable (m : (ℓ : Loc nD τ sig) → Buf (Elt F) ℓ) (ρ : Dev nD → PrngReg)

/-- The grid point of a number. -/
def pt (n : ℕ) : Fin cfg0.N := ⟨n % 153, Nat.mod_lt _ (by decide)⟩

/-- The hidden activations of point `n`, over a buffer of zeros. -/
def T (c : Dev nD) (n : ℕ) : Vec F S256x6912 .f32 :=
  puts (grid0.coords (pt n)) (iblk m c 0 (pt n)) (iblk m c 1 (pt n)) (iblk m c 2 (pt n)) (iblk m c 3 (pt n)) (iblk m c 4 (pt n)) (iblk m c 5 (pt n)) (fun _ => Scalar.ofBits .f32 0#32)

/-- The lane maxima after point `n`. -/
def L (c : Dev nD) : ℕ → Vec F S256x128 .f32
  | 0 => maxs (grid0.coords (pt 0)) (iblk m c 0 (pt 0)) (iblk m c 1 (pt 0)) (iblk m c 2 (pt 0)) (iblk m c 3 (pt 0)) (iblk m c 4 (pt 0)) (iblk m c 5 (pt 0)) k0_pay1
  | n + 1 => maxs (grid0.coords (pt (n + 1))) (iblk m c 0 (pt (n + 1))) (iblk m c 1 (pt (n + 1))) (iblk m c 2 (pt (n + 1))) (iblk m c 3 (pt (n + 1))) (iblk m c 4 (pt (n + 1))) (iblk m c 5 (pt (n + 1))) (L c n)

/-- The scratch of the hidden activations before point `n`: the last nine points' columns are theirs. -/
def P8 (c : Dev nD) (n : ℕ) (d : Vec F S256x6912 .f32) : Prop :=
  ∀ u, u < n → n ≤ u + 9 → u < 144 → ∀ y : S256x6912.Idx, 768 * (u % 9) ≤ (y 1).val → (y 1).val < 768 * (u % 9) + 768 → d y = T m c u y

/-- The scratch of the lane maxima before point `n`. -/
def P9 (c : Dev nD) (n : ℕ) (d : Vec F S256x128 .f32) : Prop := 1 ≤ n → d = L m c (min (n - 1) 143)

/-- The scratch of the step before's lane maxima before point `n`. -/
def P10 (c : Dev nD) (n : ℕ) (d : Vec F S256x128 .f32) : Prop := n % 9 ≠ 0 → 9 ≤ n → d = L m c (9 * (n / 9) - 1)

/-- The factors' blocks after point `n`, over what was there. -/
def fgAt (c : Dev nD) (n : ℕ) (Y : Vec F S256x768 .f32) : Vec F S256x768 .f32 := fgB (grid0.coords (pt n)) (iblk m c 0 (pt n)) (iblk m c 1 (pt n)) (iblk m c 2 (pt n)) (iblk m c 3 (pt n)) (iblk m c 4 (pt n)) (iblk m c 5 (pt n)) Y
def fuAt (c : Dev nD) (n : ℕ) (Y : Vec F S256x768 .f32) : Vec F S256x768 .f32 := fuB (grid0.coords (pt n)) (iblk m c 0 (pt n)) (iblk m c 1 (pt n)) (iblk m c 2 (pt n)) (iblk m c 3 (pt n)) (iblk m c 4 (pt n)) (iblk m c 5 (pt n)) Y
def R6 (c : Dev nD) (n : ℕ) (X : Vec F S256x768 .f32) : Prop := ∃ Y, X = fgAt m c (min n 143) Y
def R7 (c : Dev nD) (n : ℕ) (X : Vec F S256x768 .f32) : Prop := ∃ Y, X = fuAt m c (min n 143) Y

/-- The codes' block after point `n`. -/
def R8 (c : Dev nD) (n : ℕ) (X : Vec F S256x768 .fp8e4m3) : Prop :=
  9 ≤ n → ∃ h, X = k0_pay6 (k0_pay13 (L m c (9 * (n / 9) - 1))) 23#32 (window (T m c (n - 9)) ![0, 768 * (n % 9)] S256x768.size h)

/-- The scales' block after point `n`. -/
def R9 (c : Dev nD) (n : ℕ) (X : Vec F S1x1x256 .f32) : Prop := 9 ≤ n → X = k0_pay5 (k0_pay12 (L m c (9 * (n / 9) - 1)))

theorem pt_val (t : Fin cfg0.N) : pt t.val = t := Fin.ext (Nat.mod_eq_of_lt t.isLt)

theorem first_iff : ∀ t : Fin cfg0.N, first (grid0.coords t) ↔ t.val = 0 := by decide +kernel
theorem cond2_iff : ∀ t : Fin cfg0.N, k0_cond2 (grid0.coords t) = 1#1 ↔ 9 ≤ t.val := by decide +kernel
theorem cond3_iff : ∀ t : Fin cfg0.N, k0_cond3 (grid0.coords t) = 1#1 ↔ t.val < 144 := by decide +kernel
theorem coord1 : ∀ t : Fin cfg0.N, (grid0.coords t 1).val = t.val % 9 := by decide +kernel

theorem c9_eq (c : Dev nD) (t : Fin cfg0.N) (d : Vec F S256x128 .f32) (h : P9 m c t.val d) (h1 : 1 ≤ t.val) :
    c9 (grid0.coords t) d = L m c (min (t.val - 1) 143) := by
  unfold c9; rw [if_neg (fun e => by have := (first_iff t).1 e; omega)]; exact h h1

/-- The lane maxima after the body. -/
theorem cur_eq (c : Dev nD) (t : Fin cfg0.N) (d : Vec F S256x128 .f32) (h : P9 m c t.val d) :
    P9 m c (t.val + 1) (cur (grid0.coords t) (iblk m c 0 t) (iblk m c 1 t) (iblk m c 2 t) (iblk m c 3 t) (iblk m c 4 t) (iblk m c 5 t) d) := fun _ => by
  unfold cur
  rw [Nat.add_sub_cancel]
  by_cases h0 : t.val = 0
  · rw [if_pos ((cond3_iff t).2 (by omega)), h0, show c9 (grid0.coords t) d = k0_pay1 from if_pos ((first_iff t).2 h0)]
    rw [show min 0 143 = 0 from rfl, L, show pt 0 = t from (congrArg pt h0.symm).trans (pt_val t)]
  rw [c9_eq m c t d h (by omega)]
  by_cases h1 : t.val < 144
  · rw [if_pos ((cond3_iff t).2 h1), Nat.min_eq_left (by omega), Nat.min_eq_left (by omega)]
    obtain ⟨n, hn⟩ : ∃ n, t.val = n + 1 := ⟨t.val - 1, by omega⟩
    rw [hn, Nat.add_sub_cancel, L, ← hn, pt_val]
  · rw [if_neg (fun e => h1 ((cond3_iff t).1 e)), Nat.min_eq_right (by omega), Nat.min_eq_right (by omega)]

/-- The choice the body makes between the two scratches of lane maxima. -/
theorem pay3_eq (t : Fin cfg0.N) (a b : Vec F S256x128 .f32) : k0_pay3 (grid0.coords t) a b = if t.val % 9 = 0 then a else b := by
  refine (shapeCast_id _ _).trans ?_
  have h : (grid0.coords t 1).val = t.val % 9 := coord1 t
  dsimp only
  rw [h]
  have h3 : t.val % 9 < 9 := Nat.mod_lt _ (by decide)
  generalize t.val % 9 = j at h3
  interval_cases j <;> rfl

/-- The lane maxima of the step before. -/
theorem mp_eq (c : Dev nD) (t : Fin cfg0.N) (d e : Vec F S256x128 .f32) (h : P9 m c t.val d) (h' : P10 m c t.val e) (h3 : 9 ≤ t.val) :
    mp (grid0.coords t) d e = L m c (9 * (t.val / 9) - 1) := by
  have ht : t.val < 153 := t.isLt
  unfold mp
  rw [pay3_eq]
  by_cases hm : t.val % 9 = 0
  · rw [if_pos hm, c9_eq m c t d h (by omega), Nat.min_eq_left (by omega)]; congr 1; omega
  · rw [if_neg hm]; unfold c10; rw [if_neg (fun e => by have := (first_iff t).1 e; omega)]; exact h' hm h3

theorem mp_next (c : Dev nD) (t : Fin cfg0.N) (d e : Vec F S256x128 .f32) (h : P9 m c t.val d) (h' : P10 m c t.val e) :
    P10 m c (t.val + 1) (mp (grid0.coords t) d e) := fun hm h3 => by
  rw [mp_eq m c t d e h h' (by omega)]; congr 1; omega

/-- The hidden activations after the body. -/
theorem tt_eq (c : Dev nD) (t : Fin cfg0.N) (d : Vec F S256x6912 .f32) (h : P8 m c t.val d) :
    P8 m c (t.val + 1) (tt (grid0.coords t) (iblk m c 0 t) (iblk m c 1 t) (iblk m c 2 t) (iblk m c 3 t) (iblk m c 4 t) (iblk m c 5 t) d) := fun u hu hn hl y h1 h2 => by
  unfold tt
  by_cases hc : t.val < 144
  · rw [if_pos ((cond3_iff t).2 hc)]
    by_cases he : u = t.val
    · subst he
      refine (puts_in _ _ (coord1 t) _ _ _ _ _ _ _ (fun _ => Scalar.ofBits .f32 0#32) y h1 h2).trans ?_
      unfold T; rw [pt_val]
    · exact (puts_out _ _ (coord1 t) _ _ _ _ _ _ _ y (by omega)).trans (h u (by omega) (by omega) hl y h1 h2)
  · rw [if_neg (fun e => hc ((cond3_iff t).1 e))]
    exact h u (by omega) (by omega) hl y h1 h2

theorem window_congr (x : Vec F S256x6912 .f32) {o o' : Fin 2 → ℕ} (e : o = o') (h) (h') :
    window x o S256x768.size h = window x o' S256x768.size h' := by subst e; rfl

/-- The codes' block after the body. -/
theorem cd_eq (c : Dev nD) (t : Fin cfg0.N) (M : Vec F S256x128 .f32) (d : Vec F S256x6912 .f32) (Y : Vec F S256x768 .fp8e4m3) (h : P8 m c t.val d)
    (hM : 9 ≤ t.val → M = L m c (9 * (t.val / 9) - 1)) : R8 m c t.val (cd (grid0.coords t) M d Y) := fun h3 => by
  have ht : t.val < 153 := t.isLt
  have ho : k0_off1 (grid0.coords t) = ![0, 768 * (t.val % 9)] := (k0_off1_eq _).trans (by rw [coord1 t])
  have hb : ∀ a, (![0, 768 * (t.val % 9)] : Fin 2 → ℕ) a + S256x768.size a ≤ S256x6912.size a := fun a => by
    match a with
    | 0 => show 0 + 256 ≤ 256; omega
    | 1 => show 768 * (t.val % 9) + 768 ≤ 6912; omega
  refine ⟨hb, ?_⟩
  unfold cd
  rw [dif_pos ((cond2_iff t).2 h3), hM h3]
  refine congrArg (k0_pay6 _ 23#32) ((window_congr d ho _ hb).trans (funext fun y => ?_))
  have hy : (y 1).val < 768 := (y 1).isLt
  refine h (t.val - 9) (by omega) (by omega) (by omega) _ ?_ ?_
  · show 768 * ((t.val - 9) % 9) ≤ 768 * (t.val % 9) + 1 * (y 1).val
    omega
  · show 768 * (t.val % 9) + 1 * (y 1).val < 768 * ((t.val - 9) % 9) + 768
    omega

/-- The scales' block after the body. -/
theorem sc_eq (c : Dev nD) (t : Fin cfg0.N) (M : Vec F S256x128 .f32) (Y : Vec F S1x1x256 .f32)
    (hM : 9 ≤ t.val → M = L m c (9 * (t.val / 9) - 1)) : R9 m c t.val (sc (grid0.coords t) M Y) := fun h3 => by
  unfold sc
  rw [if_pos ((cond2_iff t).2 h3), hM h3]

/-! ## The proof data and the body obligation -/

/-- The four outputs are held to a relation. -/
def forgets0 : Fin 10 → Bool := ![false, false, false, false, false, false, true, true, true, true]

/-- The invariant before point `n`. -/
def Phi (c : Dev nD) (n : ℕ) : sProp 𝕄 :=
  iprop((∃ d, ⌜P8 m c n d⌝ ∗ owns (c : Thread nD τ) (Memref.whole cc0_scratch0) fullShare d)
    ∗ (∃ d, ⌜P9 m c n d⌝ ∗ owns (c : Thread nD τ) (Memref.whole cc0_scratch1) fullShare d)
    ∗ (∃ d, ⌜P10 m c n d⌝ ∗ owns (c : Thread nD τ) (Memref.whole cc0_scratch2) fullShare d) ∗ (∃ r, prngReg c r))

/-- What the outputs are held to. -/
def Rl (c : Dev nD) : (w : Fin cfg0.W) → Fin cfg0.N → ((cfg0.win w).block.Idx → Elt F (cfg0.win w).elt) → Prop := fun
  | 0 => fun _ _ => True
  | 1 => fun _ _ => True
  | 2 => fun _ _ => True
  | 3 => fun _ _ => True
  | 4 => fun _ _ => True
  | 5 => fun _ _ => True
  | 6 => fun t X => R6 m c t.val X
  | 7 => fun t X => R7 m c t.val X
  | 8 => fun t X => R8 m c t.val X
  | 9 => fun t X => R9 m c t.val X
  | ⟨_ + 10, h⟩ => absurd h (Nat.not_lt.2 (Nat.le_add_left _ _))

/-- The proof data on core `c`: the arrays as the region finds them; each input's block in place; the outputs unnamed; the scratch as
    `Phi` says; full shares; nothing owed. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => Pipeline.Dat.unnamed (cfg := cfg0) 6 t
    | 7 => fun t => Pipeline.Dat.unnamed (cfg := cfg0) 7 t
    | 8 => fun t => Pipeline.Dat.unnamed (cfg := cfg0) 8 t
    | 9 => fun t => Pipeline.Dat.unnamed (cfg := cfg0) 9 t
    | ⟨_ + 10, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- The invariant, conjunct by conjunct. -/
theorem Phi_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The factor's block after the body. -/
theorem fg_eq (c : Dev nD) (t : Fin cfg0.N) (Y : Vec F S256x768 .f32) (h : ((dats m 0 c).toRRel forgets0 (Rl m c)).Finds 6 t Y) :
    R6 m c t.val (fo (grid0.coords t) (iblk m c 0 t) (iblk m c 1 t) (iblk m c 2 t) (iblk m c 3 t) (iblk m c 4 t) (iblk m c 5 t) Y) := by
  unfold fo
  by_cases hc : t.val < 144
  · rw [if_pos ((cond3_iff t).2 hc)]
    refine ⟨Y, ?_⟩
    rw [Nat.min_eq_left (by omega)]
    unfold fgAt; rw [pt_val]
  · rw [if_neg (fun e => hc ((cond3_iff t).1 e))]
    have h0 : t.val ≠ 0 := by omega
    have hfe : (cfg0.win 6).fetch t = false := (by decide +kernel : ∀ t : Fin cfg0.N, (cfg0.win 6).fetch t = false) t
    have hfl : (cfg0.win 6).flush ⟨t.val - 1, Nat.lt_of_le_of_lt (Nat.sub_le _ _) t.isLt⟩ = false :=
      (by decide +kernel : ∀ t : Fin cfg0.N, ¬ t.val < 144 → (cfg0.win 6).flush ⟨t.val - 1, Nat.lt_of_le_of_lt (Nat.sub_le _ _) t.isLt⟩ = false) t hc
    rcases (Pipeline.RDat.finds_of_pos _ hfe h0 Y).1 h with h | h
    · exact absurd (h.symm.trans hfl) (by decide)
    · have hR := (dats m 0 c).toRRel_leaves (fgt := forgets0) (Rl := Rl m c) (w := 6) rfl h
      dsimp only [Rl] at hR
      obtain ⟨Z, hZ⟩ := hR
      refine ⟨Z, hZ.trans ?_⟩
      rw [Nat.min_eq_right (by omega), Nat.min_eq_right (by omega)]

/-- The factor's block after the body. -/
theorem fu_eq (c : Dev nD) (t : Fin cfg0.N) (Y : Vec F S256x768 .f32) (h : ((dats m 0 c).toRRel forgets0 (Rl m c)).Finds 7 t Y) :
    R7 m c t.val (uo (grid0.coords t) (iblk m c 0 t) (iblk m c 1 t) (iblk m c 2 t) (iblk m c 3 t) (iblk m c 4 t) (iblk m c 5 t) Y) := by
  unfold uo
  by_cases hc : t.val < 144
  · rw [if_pos ((cond3_iff t).2 hc)]
    refine ⟨Y, ?_⟩
    rw [Nat.min_eq_left (by omega)]
    unfold fuAt; rw [pt_val]
  · rw [if_neg (fun e => hc ((cond3_iff t).1 e))]
    have h0 : t.val ≠ 0 := by omega
    have hfe : (cfg0.win 7).fetch t = false := (by decide +kernel : ∀ t : Fin cfg0.N, (cfg0.win 7).fetch t = false) t
    have hfl : (cfg0.win 7).flush ⟨t.val - 1, Nat.lt_of_le_of_lt (Nat.sub_le _ _) t.isLt⟩ = false :=
      (by decide +kernel : ∀ t : Fin cfg0.N, ¬ t.val < 144 → (cfg0.win 7).flush ⟨t.val - 1, Nat.lt_of_le_of_lt (Nat.sub_le _ _) t.isLt⟩ = false) t hc
    rcases (Pipeline.RDat.finds_of_pos _ hfe h0 Y).1 h with h | h
    · exact absurd (h.symm.trans hfl) (by decide)
    · have hR := (dats m 0 c).toRRel_leaves (fgt := forgets0) (Rl := Rl m c) (w := 7) rfl h
      dsimp only [Rl] at hR
      obtain ⟨Z, hZ⟩ := hR
      refine ⟨Z, hZ.trans ?_⟩
      rw [Nat.min_eq_right (by omega), Nat.min_eq_right (by omega)]

/-- What the body is called with at point `t`, and what it returns. -/
def bodyPre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, ⌜((dats m 0 c).toRRel forgets0 (Rl m c)).Finds 6 t d⌝ ∗ owns (c : Thread nD τ) (st0_6 t) fullShare d)
    ∗ (∃ d, ⌜((dats m 0 c).toRRel forgets0 (Rl m c)).Finds 7 t d⌝ ∗ owns (c : Thread nD τ) (st0_7 t) fullShare d)
    ∗ (∃ d, ⌜((dats m 0 c).toRRel forgets0 (Rl m c)).Finds 8 t d⌝ ∗ owns (c : Thread nD τ) (st0_8 t) fullShare d)
    ∗ (∃ d, ⌜((dats m 0 c).toRRel forgets0 (Rl m c)).Finds 9 t d⌝ ∗ owns (c : Thread nD τ) (st0_9 t) fullShare d))
def bodyPost (c : Dev nD) (t : Fin cfg0.N) : sProp 𝕄 :=
  iprop(Phi m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, ⌜R6 m c t.val d⌝ ∗ owns (c : Thread nD τ) (st0_6 t) fullShare d)
    ∗ (∃ d, ⌜R7 m c t.val d⌝ ∗ owns (c : Thread nD τ) (st0_7 t) fullShare d)
    ∗ (∃ d, ⌜R8 m c t.val d⌝ ∗ owns (c : Thread nD τ) (st0_8 t) fullShare d)
    ∗ (∃ d, ⌜R9 m c t.val d⌝ ∗ owns (c : Thread nD τ) (st0_9 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Phi
  rw [show (dats m 0 c).owesAt () t.succ = (dats m 0 c).owesAt () t.castSucc from rfl, after_0, after_1, after_2, after_3, after_4, after_5]
  simp only [before0_0_of m (dats m 0 c) rfl (after_0 m c), before0_1_of m (dats m 0 c) rfl (after_1 m c), before0_2_of m (dats m 0 c) rfl (after_2 m c), before0_3_of m (dats m 0 c) rfl (after_3 m c), before0_4_of m (dats m 0 c) rfl (after_4 m c), before0_5_of m (dats m 0 c) rfl (after_5 m c)]
  iintro ⟨⟨⟨%s8, %h8, HS0⟩, ⟨%s9, %h9, HS1⟩, ⟨%s10, %h10, HS2⟩, Hg⟩, HO, ⟨%d0, H0⟩, ⟨%d1, H1⟩, ⟨%d2, H2⟩, ⟨%d3, H3⟩, ⟨%d4, H4⟩, ⟨%d5, H5⟩, ⟨%d6, %g6, H6⟩, ⟨%d7, %g7, H7⟩, ⟨%d8, %g8, H8⟩, ⟨%d9, %g9, H9⟩⟩
  iapply (kernelRun (grid0.coords t) c (st0_0 t) _ (st0_1 t) _ (st0_2 t) _ (st0_3 t) _ (st0_4 t) _ (st0_5 t) _ (st0_6 t) _ (st0_7 t) _ (st0_8 t) _ (st0_9 t) _
    (Memref.whole cc0_scratch0) _ (Memref.whole cc0_scratch1) _ (Memref.whole cc0_scratch2) _ (iblk m c 0 t) (iblk m c 1 t) (iblk m c 2 t) (iblk m c 3 t) (iblk m c 4 t) (iblk m c 5 t) d6 d7 d8 d9 s8 s9 s10 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0]
    · iexists _; isplitr; swap; · iexact HS0
      ipureintro; exact tt_eq m c t s8 h8
    isplitl [HS1]
    · iexists _; isplitr; swap; · iexact HS1
      ipureintro; exact cur_eq m c t s9 h9
    isplitl [HS2]
    · iexists _; isplitr; swap; · iexact HS2
      ipureintro; exact mp_next m c t s9 s10 h9 h10
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact fg_eq m c t d6 g6
  isplitl [H7]
  · iexists _; isplitr; swap; · iexact H7
    ipureintro; exact fu_eq m c t d7 g7
  isplitl [H8]
  · iexists _; isplitr; swap; · iexact H8
    ipureintro; exact cd_eq m c t _ s8 d8 h8 (mp_eq m c t s9 s10 h9 h10)
  iexists _; isplitr; swap; · iexact H9
  ipureintro; exact sc_eq m c t _ d9 (mp_eq m c t s9 s10 h9 h10)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs held to `Rl`. -/
theorem body_obligation (c : Dev nD) :
    Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The launch -/

theorem Phi_in (c : Dev nD) : (Pipeline.ΦA spec0 c : sProp 𝕄) ⊢ Phi m c 0 := by
  rw [Phi_eq]; unfold Phi
  iintro ⟨⟨⟨%d8, HS0⟩, ⟨%d9, HS1⟩, ⟨%d10, HS2⟩⟩, Hg⟩
  isplitl [HS0]
  · iexists d8; isplitr; swap; · iexact HS0
    ipureintro; exact fun u h => absurd h (Nat.not_lt_zero _)
  isplitl [HS1]
  · iexists d9; isplitr; swap; · iexact HS1
    ipureintro; exact fun h => absurd h (by decide)
  isplitl [HS2]
  · iexists d10; isplitr; swap; · iexact HS2
    ipureintro; exact fun h => absurd rfl h
  iexact Hg

theorem Phi_out (c : Dev nD) (n : ℕ) : Phi m c n ⊢ (Pipeline.ΦA spec0 c : sProp 𝕄) := by
  rw [Phi_eq]; unfold Phi
  iintro ⟨⟨%d8, %h8, HS0⟩, ⟨%d9, %h9, HS1⟩, ⟨%d10, %h10, HS2⟩, Hg⟩
  isplitl [HS0 HS1 HS2]
  · isplitl [HS0]
    · iexists d8; iexact HS0
    isplitl [HS1]
    · iexists d9; iexact HS1
    iexists d10; iexact HS2
  iexact Hg

set_option backward.isDefEq.respectTransparency.types false in
/-- Every run of @main terminates with the outputs as `Rl` has them and the counters at zero. -/
theorem run_main :
    θ_run defs (onTc (τ := τ) (main (F := F))) (s₀ m ρ)
      (fun r => Pipeline.RDat.FramePost (cfgs 0) (fun c => (dats m 0 c).toRRel forgets0 (Rl m c)) (V m) r ∧ r.2.sem = fun _ => 0) :=
  Pipeline.RDat.θ_run_frame_track (p := (0 : Fin 1)) cfgs launch0 defs₀ Variants.none (fun c => (dats m 0 c).toRRel forgets0 (Rl m c)) m ρ main
    (hbody := fun c => (body_obligation m c).toRRel) (hshare := fun c => (dats m 0 c).share_full fun _ => rfl)
    (howed := fun _ _ => rfl) (V := V m) (hmain := hmain m Variants.none) (hA := A_eq m) (hin := fun c => Phi_in m c)
    (hout := fun c => Phi_out m c _) (Q' := _) (hQ' := fun _ h => h)

/-- The frame: @main leaves its arguments as it found them. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans ((A_eq m c 0).trans (V_main_arg0 m c)),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      (h.1.arr_in c 4 rfl).trans ((A_eq m c 4).trans (V_main_arg4 m c)),
      ((h.1 c).2 main_arg5 (Pipeline.mem_restRefs_of main_arg5 (by decide) (by decide))).trans (V_main_arg5 m c)⟩, h.2⟩) (run_main m ρ)

end Cert.PrimalIdeal.Hand

end
-- ==== Proof.Down.PVal.lean ====
module

public import proofs.«01_k».proof.Proof.Gen.PrimalIdeal.Frame
public import proofs.«01_k».proof.Proof.Down.MathP
public import proofs.«01_k».proof.Proof.Down.PRel
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.VecWindow (put window)

namespace Cert.PrimalIdeal.Val
open Cert.PrimalIdeal Cert.PrimalIdeal.Gen Cert.PrimalIdeal.Hand Cert.Down.Math

variable (m : (ℓ : Loc nD τ sig) → Buf (Elt Ideal) ℓ)

/-- The inputs' block indices at a point that computes, the factors' at every point, and the codes' and scales' at a point that stores. -/
theorem idxI : ∀ t : Fin cfg0.N, t.val < 144 → win0_0.index t = ![t.val / 9, 0] ∧ win0_1.index t = ![t.val / 9, 0, 0]
    ∧ win0_2.index t = ![0, 0] ∧ win0_3.index t = ![0, t.val % 9] ∧ win0_4.index t = ![0, 0] ∧ win0_5.index t = ![0, t.val % 9] :=
  (by decide +kernel : ∀ t : Fin grid0.N, _)
theorem idxF : ∀ t : Fin cfg0.N, win0_6.index t = ![min t.val 143 / 9, min t.val 143 % 9] ∧ win0_7.index t = ![min t.val 143 / 9, min t.val 143 % 9] :=
  (by decide +kernel : ∀ t : Fin grid0.N, _)
theorem idxO : ∀ t : Fin cfg0.N, 9 ≤ t.val → win0_8.index t = ![t.val / 9 - 1, t.val % 9] ∧ win0_9.index t = ![t.val / 9 - 1, 0, 0] :=
  (by decide +kernel : ∀ t : Fin grid0.N, _)

/-! ## The products of a point -/

/-- A product at a token and one of a grid point's hidden units, over the blocks of the point. -/
def tl (i : grid0.Coords) (X0 : FVec Ideal S256x2560 .fp8e4m3) (X1 : FVec Ideal S1x1x256 .f32) (W : FVec Ideal S2560x6912 .fp8e4m3)
    (S : FVec Ideal S1x768 .f32) (r : Fin 256) (q : Fin 768) : EReal :=
  (∑ x : Fin 2560, X0 (ix2 r x) * W (ix2 x ⟨768 * (i 1).val + q.val, by have h : (i 1).val < 9 := (i 1).isLt; omega⟩)) * X1 (ix3 0 0 r) * S (ix2 0 q)

/-- A column group's product. -/
def grp (X0 : FVec Ideal S256x2560 .fp8e4m3) (X1 : FVec Ideal S1x1x256 .f32) (w : FVec Ideal S2560x256 .fp8e4m3) (s : FVec Ideal S1x256 .f32) : FVec Ideal S256x256 .f32 :=
  fun y => (∑ x : Fin 2560, X0 (ix2 (y 0) x) * w (ix2 x (y 1))) * X1 (ix3 0 0 (y 0)) * s (ix2 0 (y 1))

theorem grp_at (i : grid0.Coords) (X0 : FVec Ideal S256x2560 .fp8e4m3) (X1 : FVec Ideal S1x1x256 .f32) (W : FVec Ideal S2560x6912 .fp8e4m3)
    (S : FVec Ideal S1x768 .f32) (n : Fin 3) (r : Fin 256) (q' : Fin 256) (q : Fin 768) (e : 256 * n.val + q'.val = q.val) :
    grp X0 X1 (wc (F := Ideal) i n W) (ws (F := Ideal) n S) (ix2 r q') = tl i X0 X1 W S r q := by
  have h : (i 1).val < 9 := (i 1).isLt
  refine congr (congrArg (· * ·) (congrArg (· * X1 (ix3 0 0 r)) (Finset.sum_congr rfl fun x _ => congrArg (X0 (ix2 r x) * ·)
    (congrArg W (a₁ := (_ : S2560x6912.Idx)) (a₂ := ix2 x ⟨768 * (i 1).val + q.val, by omega⟩) (funext fun a => Fin.ext ?_)))))
    (congrArg S (a₁ := (_ : S1x768.Idx)) (a₂ := ix2 0 q) (funext fun a => Fin.ext ?_))
  · match a with
    | 0 => show 0 + 1 * x.val = x.val; omega
    | 1 => show 768 * (i 1).val + 256 * n.val + 1 * q'.val = 768 * (i 1).val + q.val; omega
  · match a with
    | 0 => rfl
    | 1 => show 256 * n.val + 1 * q'.val = q.val; omega

theorem pay23_eq (X0 : FVec Ideal S256x2560 .fp8e4m3) (X1 : FVec Ideal S1x1x256 .f32) (w : FVec Ideal S2560x256 .fp8e4m3) (s : FVec Ideal S1x256 .f32) :
    k0_pay23 (F := Ideal) (k0_pay14 (F := Ideal) X1) X0 w s = grp X0 X1 w s := by
  funext y; unfold k0_pay23 k0_pay14; pointwise [grp]; blk_point []

section
variable (g u : FVec Ideal S256x256 .f32)

/-- The factors and the hidden activations of a column group, from its two products. -/
theorem fg_of : k0_pay8 (F := Ideal) g u (logistic g) = fun y => fgOf (g y) (u y) := by
  funext y; unfold k0_pay8 fgOf; pointwise
theorem fu_of : mulf (F := Ideal) g (logistic g) = fun y => fuOf (g y) := by
  funext y; unfold fuOf; pointwise
theorem h_of : mulf (F := Ideal) (mulf (F := Ideal) g (logistic g)) u = fun y => hOf (g y) (u y) := by
  funext y; unfold hOf; pointwise
end

/-- A function of the two products of a column group is that function of the point's. -/
theorem of_at (f : EReal → EReal → EReal) (i : grid0.Coords) (X0 : FVec Ideal S256x2560 .fp8e4m3) (X1 : FVec Ideal S1x1x256 .f32) (X2 : FVec Ideal S2560x6912 .fp8e4m3)
    (X3 : FVec Ideal S1x768 .f32) (X4 : FVec Ideal S2560x6912 .fp8e4m3) (X5 : FVec Ideal S1x768 .f32) (n : Fin 3) (P : FVec Ideal S256x256 .f32)
    (hP : P = fun y => f (grp X0 X1 (wc (F := Ideal) i n X2) (ws (F := Ideal) n X3) y) (grp X0 X1 (wc (F := Ideal) i n X4) (ws (F := Ideal) n X5) y))
    (r : Fin 256) (q' : Fin 256) (q : Fin 768) (e : 256 * n.val + q'.val = q.val) :
    P (ix2 r q') = f (tl i X0 X1 X2 X3 r q) (tl i X0 X1 X4 X5 r q) := by
  rw [hP]
  exact congr (congrArg f (grp_at i X0 X1 X2 X3 n r q' q e)) (grp_at i X0 X1 X4 X5 n r q' q e)

/-! ## What is stored in the buffers -/

/-- An entry after one stored piece. -/
theorem hit {N : ℕ} {S : FVec Ideal ⟨2, ![256, N]⟩ .f32} {o : ℕ} {w : FVec Ideal S256x256 .f32} {r : Fin 256} {d : Fin N} {z : EReal}
    (hS : d.val < o → S (ix2 r d) = z) (hw : ∀ q : Fin 256, o + q.val = d.val → w (ix2 r q) = z) (hd : d.val < o + 256) :
    put S ![0, o] S256x256.size w (ix2 r d) = z := by
  unfold put
  by_cases h : o ≤ d.val
  · rw [dif_pos (fun a => by match a with | 0 => exact ⟨Nat.zero_le _, by show r.val < 0 + 256; omega⟩ | 1 => exact ⟨h, hd⟩)]
    refine Eq.trans (congrArg w (funext fun a => ?_)) (hw ⟨d.val - o, by omega⟩ (by dsimp only; omega))
    match a with
    | 0 => rfl
    | 1 => rfl
  · rw [dif_neg (fun hh => h (hh 1).1)]
    exact hS (by omega)

section
variable (i : grid0.Coords) (X0 : FVec Ideal S256x2560 .fp8e4m3) (X1 : FVec Ideal S1x1x256 .f32) (X2 : FVec Ideal S2560x6912 .fp8e4m3)
    (X3 : FVec Ideal S1x768 .f32) (X4 : FVec Ideal S2560x6912 .fp8e4m3) (X5 : FVec Ideal S1x768 .f32)

/-- The same for a column group as the body writes it. -/
theorem fg_grp (n : Fin 3) : k0_pay8 (F := Ideal) (k0_pay23 (F := Ideal) (k0_pay14 (F := Ideal) X1) X0 (wc (F := Ideal) i n X2) (ws (F := Ideal) n X3)) (k0_pay23 (F := Ideal) (k0_pay14 (F := Ideal) X1) X0 (wc (F := Ideal) i n X4) (ws (F := Ideal) n X5)) (logistic (k0_pay23 (F := Ideal) (k0_pay14 (F := Ideal) X1) X0 (wc (F := Ideal) i n X2) (ws (F := Ideal) n X3)))
    = fun y => fgOf (grp X0 X1 (wc (F := Ideal) i n X2) (ws (F := Ideal) n X3) y) (grp X0 X1 (wc (F := Ideal) i n X4) (ws (F := Ideal) n X5) y) := by
  rw [pay23_eq, pay23_eq]; exact fg_of _ _
theorem fu_grp (n : Fin 3) : mulf (F := Ideal) (k0_pay23 (F := Ideal) (k0_pay14 (F := Ideal) X1) X0 (wc (F := Ideal) i n X2) (ws (F := Ideal) n X3)) (logistic (k0_pay23 (F := Ideal) (k0_pay14 (F := Ideal) X1) X0 (wc (F := Ideal) i n X2) (ws (F := Ideal) n X3)))
    = fun y => fuOf (grp X0 X1 (wc (F := Ideal) i n X2) (ws (F := Ideal) n X3) y) := by
  rw [pay23_eq]; exact fu_of _
theorem h_grp (n : Fin 3) : mulf (F := Ideal) (mulf (F := Ideal) (k0_pay23 (F := Ideal) (k0_pay14 (F := Ideal) X1) X0 (wc (F := Ideal) i n X2) (ws (F := Ideal) n X3)) (logistic (k0_pay23 (F := Ideal) (k0_pay14 (F := Ideal) X1) X0 (wc (F := Ideal) i n X2) (ws (F := Ideal) n X3)))) (k0_pay23 (F := Ideal) (k0_pay14 (F := Ideal) X1) X0 (wc (F := Ideal) i n X4) (ws (F := Ideal) n X5))
    = fun y => hOf (grp X0 X1 (wc (F := Ideal) i n X2) (ws (F := Ideal) n X3) y) (grp X0 X1 (wc (F := Ideal) i n X4) (ws (F := Ideal) n X5) y) := by
  rw [pay23_eq, pay23_eq]; exact h_of _ _

/-- The factors' blocks after a computing point. -/
theorem fgB_at (Y : FVec Ideal S256x768 .f32) (r : Fin 256) (q : Fin 768) :
    fgB (F := Ideal) i X0 X1 X2 X3 X4 X5 Y (ix2 r q) = fgOf (tl i X0 X1 X2 X3 r q) (tl i X0 X1 X4 X5 r q) := by
  unfold fgB
  refine hit (N := 768) (fun h2 => hit (N := 768) (fun h1 => hit (N := 768) (fun h0 => absurd h0 (Nat.not_lt_zero _))
    (fun q' e => of_at fgOf i X0 X1 X2 X3 X4 X5 0 _ (fg_grp i X0 X1 X2 X3 X4 X5 0) r q' q e) (by omega))
    (fun q' e => of_at fgOf i X0 X1 X2 X3 X4 X5 1 _ (fg_grp i X0 X1 X2 X3 X4 X5 1) r q' q e) (by omega))
    (fun q' e => of_at fgOf i X0 X1 X2 X3 X4 X5 2 _ (fg_grp i X0 X1 X2 X3 X4 X5 2) r q' q e) (by omega)
theorem fuB_at (Y : FVec Ideal S256x768 .f32) (r : Fin 256) (q : Fin 768) :
    fuB (F := Ideal) i X0 X1 X2 X3 X4 X5 Y (ix2 r q) = fuOf (tl i X0 X1 X2 X3 r q) := by
  unfold fuB
  refine hit (N := 768) (fun h2 => hit (N := 768) (fun h1 => hit (N := 768) (fun h0 => absurd h0 (Nat.not_lt_zero _))
    (fun q' e => of_at (fun g _ => fuOf g) i X0 X1 X2 X3 X4 X5 0 _ (fu_grp i X0 X1 X2 X3 0) r q' q e) (by omega))
    (fun q' e => of_at (fun g _ => fuOf g) i X0 X1 X2 X3 X4 X5 1 _ (fu_grp i X0 X1 X2 X3 1) r q' q e) (by omega))
    (fun q' e => of_at (fun g _ => fuOf g) i X0 X1 X2 X3 X4 X5 2 _ (fu_grp i X0 X1 X2 X3 2) r q' q e) (by omega)

/-- A stored group is the group. -/
theorem stored (P : FVec Ideal S256x256 .f32) (h : Shape.ShapeCasts S256x256 S256x256) : shapeCast S256x256 P h = P := shapeCast_id P h

/-- What a point stores in its columns of the hidden activations. -/
theorem puts_at (j : ℕ) (hj : (i 1).val = j) (S : FVec Ideal S256x6912 .f32) (r : Fin 256) (d : Fin 6912) (q : Fin 768) (hq : d.val = 768 * j + q.val) :
    puts (F := Ideal) i X0 X1 X2 X3 X4 X5 S (ix2 r d) = hOf (tl i X0 X1 X2 X3 r q) (tl i X0 X1 X4 X5 r q) := by
  subst hj
  unfold puts
  rw [show k0_off3 i 0#32 = ![0, 768 * (i 1).val] from off3_eq i 0, show k0_off3 i 256#32 = ![0, 768 * (i 1).val + 256] from off3_eq i 1,
    show k0_off3 i 512#32 = ![0, 768 * (i 1).val + 512] from off3_eq i 2]
  have hq2 : q.val < 768 := q.isLt
  refine hit (N := 6912) (fun h2 => hit (N := 6912) (fun h1 => hit (N := 6912) (fun h0 => ?_)
    (fun q' e => of_at hOf i X0 X1 X2 X3 X4 X5 0 _ ((stored _ _).trans (h_grp i X0 X1 X2 X3 X4 X5 0)) r q' q (by show 256 * 0 + q'.val = q.val; omega)) (by omega))
    (fun q' e => of_at hOf i X0 X1 X2 X3 X4 X5 1 _ ((stored _ _).trans (h_grp i X0 X1 X2 X3 X4 X5 1)) r q' q (by show 256 * 1 + q'.val = q.val; omega)) (by omega))
    (fun q' e => of_at hOf i X0 X1 X2 X3 X4 X5 2 _ ((stored _ _).trans (h_grp i X0 X1 X2 X3 X4 X5 2)) r q' q (by show 256 * 2 + q'.val = q.val; omega)) (by omega)
  omega
end

/-! ## The lane maxima -/

/-- The lane maxima after one column group. -/
def gm (C : FVec Ideal S256x128 .f32) (P : FVec Ideal S256x256 .f32) : FVec Ideal S256x128 .f32 := fun y =>
  max (C y) (max (sz (P (ix2 (y 0) ⟨(y 1).val, by have h : (y 1).val < 128 := (y 1).isLt; omega⟩)))
    (sz (P (ix2 (y 0) ⟨128 + (y 1).val, by have h : (y 1).val < 128 := (y 1).isLt; omega⟩))))

theorem pay22_eq (C : FVec Ideal S256x128 .f32) (P : FVec Ideal S256x256 .f32) : k0_pay22 (F := Ideal) C P = gm C P := by
  funext y; unfold k0_pay22; pointwise [gm]; blk_point []; rfl

/-- The hidden activations of a column group. -/
def hG (i : grid0.Coords) (X0 : FVec Ideal S256x2560 .fp8e4m3) (X1 : FVec Ideal S1x1x256 .f32) (X2 : FVec Ideal S2560x6912 .fp8e4m3)
    (X3 : FVec Ideal S1x768 .f32) (X4 : FVec Ideal S2560x6912 .fp8e4m3) (X5 : FVec Ideal S1x768 .f32) (n : Fin 3) : FVec Ideal S256x256 .f32 :=
  mulf (F := Ideal) (mulf (F := Ideal) (k0_pay23 (F := Ideal) (k0_pay14 (F := Ideal) X1) X0 (wc (F := Ideal) i n X2) (ws (F := Ideal) n X3)) (logistic (k0_pay23 (F := Ideal) (k0_pay14 (F := Ideal) X1) X0 (wc (F := Ideal) i n X2) (ws (F := Ideal) n X3)))) (k0_pay23 (F := Ideal) (k0_pay14 (F := Ideal) X1) X0 (wc (F := Ideal) i n X4) (ws (F := Ideal) n X5))

theorem maxs_eq (i : grid0.Coords) (X0 : FVec Ideal S256x2560 .fp8e4m3) (X1 : FVec Ideal S1x1x256 .f32) (X2 : FVec Ideal S2560x6912 .fp8e4m3)
    (X3 : FVec Ideal S1x768 .f32) (X4 : FVec Ideal S2560x6912 .fp8e4m3) (X5 : FVec Ideal S1x768 .f32) (C : FVec Ideal S256x128 .f32) :
    maxs (F := Ideal) i X0 X1 X2 X3 X4 X5 C = k0_pay22 (F := Ideal) (k0_pay22 (F := Ideal) (k0_pay22 (F := Ideal) (k0_pay4 (F := Ideal) i C)
      (hG i X0 X1 X2 X3 X4 X5 0)) (hG i X0 X1 X2 X3 X4 X5 1)) (hG i X0 X1 X2 X3 X4 X5 2) := by
  unfold maxs k0_pay10
  simp only [shapeCast_id]
  rfl

/-- The bounds of a row of lane maxima after one more column group. -/
theorem row_step {C : FVec Ideal S256x128 .f32} {r : Fin 256} {b : EReal} {Z : Prop} {o : ℕ} (ho : o + 256 ≤ 768) (P : FVec Ideal S256x256 .f32) (t : Fin 768 → EReal)
    (hP : ∀ (q' : Fin 256) (q : Fin 768), o + q'.val = q.val → P (ix2 r q') = t q)
    (hC : (∀ l : Fin 128, C (ix2 r l) ≤ b) ↔ Z ∧ ∀ q : Fin 768, q.val < o → sz (t q) ≤ b) :
    (∀ l : Fin 128, k0_pay22 (F := Ideal) C P (ix2 r l) ≤ b) ↔ Z ∧ ∀ q : Fin 768, q.val < o + 256 → sz (t q) ≤ b := by
  have e : ∀ l : Fin 128, k0_pay22 (F := Ideal) C P (ix2 r l) ≤ b ↔ C (ix2 r l) ≤ b ∧ sz (t ⟨o + l.val, by omega⟩) ≤ b
      ∧ sz (t ⟨o + (128 + l.val), by omega⟩) ≤ b := fun l => by
    rw [pay22_eq]
    show max (C (ix2 r l)) (max (sz (P (ix2 r ⟨l.val, _⟩))) (sz (P (ix2 r ⟨128 + l.val, _⟩)))) ≤ b ↔ _
    rw [hP ⟨l.val, by omega⟩ ⟨o + l.val, by omega⟩ rfl, hP ⟨128 + l.val, by omega⟩ ⟨o + (128 + l.val), by omega⟩ rfl]
    rw [max_le_iff, max_le_iff]
  constructor
  · intro H
    obtain ⟨hZ, hq⟩ := hC.1 fun l => ((e l).1 (H l)).1
    refine ⟨hZ, fun q hlt => ?_⟩
    by_cases h1 : q.val < o
    · exact hq q h1
    by_cases h2 : q.val < o + 128
    · have := ((e ⟨q.val - o, by omega⟩).1 (H _)).2.1
      rwa [show (⟨o + (q.val - o), by omega⟩ : Fin 768) = q from Fin.ext (by dsimp only; omega)] at this
    · have := ((e ⟨q.val - o - 128, by omega⟩).1 (H _)).2.2
      rwa [show (⟨o + (128 + (q.val - o - 128)), by omega⟩ : Fin 768) = q from Fin.ext (by dsimp only; omega)] at this
  · rintro ⟨hZ, hq⟩ l
    exact (e l).2 ⟨hC.2 ⟨hZ, fun q h1 => hq q (by omega)⟩ l, hq _ (by dsimp only; omega), hq _ (by dsimp only; omega)⟩

/-- The bounds of a row of lane maxima after a point. -/
theorem maxs_row (i : grid0.Coords) (X0 : FVec Ideal S256x2560 .fp8e4m3) (X1 : FVec Ideal S1x1x256 .f32) (X2 : FVec Ideal S2560x6912 .fp8e4m3)
    (X3 : FVec Ideal S1x768 .f32) (X4 : FVec Ideal S2560x6912 .fp8e4m3) (X5 : FVec Ideal S1x768 .f32) (C : FVec Ideal S256x128 .f32) (r : Fin 256) (b : EReal) :
    (∀ l : Fin 128, maxs (F := Ideal) i X0 X1 X2 X3 X4 X5 C (ix2 r l) ≤ b)
      ↔ (∀ l : Fin 128, k0_pay4 (F := Ideal) i C (ix2 r l) ≤ b) ∧ ∀ q : Fin 768, sz (hOf (tl i X0 X1 X2 X3 r q) (tl i X0 X1 X4 X5 r q)) ≤ b := by
  rw [maxs_eq]
  have hP : ∀ (n : Fin 3) (o : ℕ), o = 256 * n.val → ∀ (q' : Fin 256) (q : Fin 768), o + q'.val = q.val →
      hG i X0 X1 X2 X3 X4 X5 n (ix2 r q') = hOf (tl i X0 X1 X2 X3 r q) (tl i X0 X1 X4 X5 r q) :=
    fun n o ho q' q e => of_at hOf i X0 X1 X2 X3 X4 X5 n _ (h_grp i X0 X1 X2 X3 X4 X5 n) r q' q (by omega)
  refine (row_step (o := 512) (by omega) _ _ (hP 2 _ rfl) (row_step (o := 256) (by omega) _ _ (hP 1 _ rfl) (row_step (o := 0) (by omega) _ _ (hP 0 _ rfl)
    (Z := ∀ l : Fin 128, k0_pay4 (F := Ideal) i C (ix2 r l) ≤ b) ⟨fun H => ⟨H, fun q hq => absurd hq (Nat.not_lt_zero _)⟩, fun H => H.1⟩))).trans ?_
  exact ⟨fun H => ⟨H.1, fun q => H.2 q q.isLt⟩, fun H => ⟨H.1, fun q _ => H.2 q⟩⟩

/-- The lane maxima a point starts from. -/
theorem pay4_at (i : grid0.Coords) (j : ℕ) (hj : (i 1).val = j) (h3 : j < 9) (C : FVec Ideal S256x128 .f32) (r : Fin 256) (l : Fin 128) :
    k0_pay4 (F := Ideal) i C (ix2 r l) = if j = 0 then 0 else C (ix2 r l) := by
  unfold k0_pay4
  dsimp only
  rw [hj]
  have z : Scalar.ofBits (F := Ideal) .f32 0#32 = 0 := Ideal.ofBits_zero .f32
  by_cases h0 : j = 0
  · subst h0; exact z
  · rw [if_neg h0]
    interval_cases j <;> first | exact absurd rfl h0 | rfl

/-- The exponent of every row's greatest entry, as every lane has it, and the scale's bits. -/
theorem pay11_at (A : FVec Ideal S256x128 .f32) (r : Fin 256) (l : Fin 128) :
    k0_pay11 (F := Ideal) A (ix2 r l) = ex (big fun x : Fin 128 => A (ix2 r x)) := by
  rw [← exf_eq]
  unfold k0_pay11
  pointwise
  rfl

theorem pay12_at (A : FVec Ideal S256x128 .f32) (r : Fin 256) (l : Fin 128) :
    k0_pay12 (F := Ideal) A (ix2 r l) = scl (big fun x : Fin 128 => A (ix2 r x)) := by
  rw [← scl_bits, ← pay11_at A r l]
  unfold k0_pay12
  generalize k0_pay11 (F := Ideal) A = e
  pointwise

theorem pay5_at (A : FVec Ideal S256x128 .f32) (r : Fin 256) : k0_pay5 (F := Ideal) A (ix3 0 0 r) = A (ix2 r 0) := by
  unfold k0_pay5
  pointwise

theorem pay13_at (A : FVec Ideal S256x128 .f32) (r : Fin 256) (l : Fin 128) :
    k0_pay13 (F := Ideal) A (ix2 r l) = IntOp.subi 127#32 (ex (big fun x : Fin 128 => A (ix2 r x))) := by
  rw [← pay11_at A r l]
  unfold k0_pay13
  generalize k0_pay11 (F := Ideal) A = e
  pointwise

/-- Six copies side by side. -/
theorem cat_at (x : FVec Ideal S256x128 .f32) (h) (r : Fin 256) (q : Fin 768) :
    concatenate S256x768 1 (List.replicate 6 (⟨S256x128, x⟩ : (s : Shape) × (s.Idx → EReal))) h (ix2 r q)
      = x (ix2 r ⟨q.val % 128, Nat.mod_lt _ (by decide)⟩) :=
  concatenate_replicate_apply (s₁ := S256x128) (t := S256x768) 1 6 x h rfl (ix2 r q) (ix2 r ⟨q.val % 128, Nat.mod_lt _ (by decide)⟩) rfl fun b hb => by
    match b with
    | 0 => rfl
    | 1 => exact absurd rfl hb

theorem pay6_at (e : IVec S256x128 32) (t : FVec Ideal S256x768 .f32) (r : Fin 256) (q : Fin 768) :
    k0_pay6 (F := Ideal) e 23#32 t (ix2 r q)
      = code (t (ix2 r q)) (Ideal.ofBits .f32 (IntOp.shli ArithUnit.vector (e (ix2 r ⟨q.val % 128, Nat.mod_lt _ (by decide)⟩)) 23#32)) := by
  have hz := cat_at (bitcastToFloat (F := Ideal) .f32 (shli e (broadcast S256x128 23#32)))
    concatenates_S256x128_S256x128_S256x128_S256x128_S256x128_S256x128_S256x768_d1 r q
  unfold k0_pay6
  dsimp only [List.replicate] at hz ⊢
  generalize concatenate S256x768 1 _ _ = z at hz ⊢
  have hz' : z (ix2 r q) = Ideal.ofBits .f32 (IntOp.shli ArithUnit.vector (e (ix2 r ⟨q.val % 128, Nat.mod_lt _ (by decide)⟩)) 23#32) := hz
  rw [← hz']
  unfold code
  pointwise

/-! ## Over a core's arguments -/

/-- The two products and the hidden activations over a core's arguments. -/
abbrev Gt (c : Dev nD) (n : Fin 4096) (k : Fin 6912) : EReal :=
  lin (m ((c : Thread nD τ).loc main_arg0)) (m ((c : Thread nD τ).loc main_arg1)) (m ((c : Thread nD τ).loc main_arg2)) (m ((c : Thread nD τ).loc main_arg3)) n k
abbrev Up (c : Dev nD) (n : Fin 4096) (k : Fin 6912) : EReal :=
  lin (m ((c : Thread nD τ).loc main_arg0)) (m ((c : Thread nD τ).loc main_arg1)) (m ((c : Thread nD τ).loc main_arg4)) (m ((c : Thread nD τ).loc main_arg5)) n k
abbrev H (c : Dev nD) (n : Fin 4096) (k : Fin 6912) : EReal :=
  hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n k

/-- The products of a computing point. -/
theorem gate_at (c : Dev nD) (t : Fin cfg0.N) (s j : ℕ) (hs : s < 16) (hj : j < 9) (ht : t.val = 9 * s + j) (r : Fin 256) (q : Fin 768) :
    tl (grid0.coords t) (iblk m c 0 t) (iblk m c 1 t) (iblk m c 2 t) (iblk m c 3 t) r q = Gt m c ⟨s * 256 + r.val, by omega⟩ ⟨j * 768 + q.val, by omega⟩ := by
  have h := idxI t (by omega)
  have e1 : t.val / 9 = s := by omega
  have e2 : t.val % 9 = j := by omega
  have e3 : (grid0.coords t 1).val = j := (coord1 t).trans e2
  rw [e1, e2] at h
  simp only [tl, Gt, lin, e3, Nat.mul_comm 768 j]
  blk_point [iblk, V, h]
theorem up_at (c : Dev nD) (t : Fin cfg0.N) (s j : ℕ) (hs : s < 16) (hj : j < 9) (ht : t.val = 9 * s + j) (r : Fin 256) (q : Fin 768) :
    tl (grid0.coords t) (iblk m c 0 t) (iblk m c 1 t) (iblk m c 4 t) (iblk m c 5 t) r q = Up m c ⟨s * 256 + r.val, by omega⟩ ⟨j * 768 + q.val, by omega⟩ := by
  have h := idxI t (by omega)
  have e1 : t.val / 9 = s := by omega
  have e2 : t.val % 9 = j := by omega
  have e3 : (grid0.coords t 1).val = j := (coord1 t).trans e2
  rw [e1, e2] at h
  simp only [tl, Up, lin, e3, Nat.mul_comm 768 j]
  blk_point [iblk, V, h]

theorem L_eq (c : Dev nD) (t : Fin cfg0.N) : ∃ C, L m c t.val = maxs (grid0.coords t) (iblk m c 0 t) (iblk m c 1 t) (iblk m c 2 t) (iblk m c 3 t) (iblk m c 4 t) (iblk m c 5 t) C
    ∧ (t.val ≠ 0 → C = L m c (t.val - 1)) := by
  by_cases h : t.val = 0
  · refine ⟨k0_pay1 (F := Ideal), ?_, fun hh => absurd h hh⟩
    rw [h, L, show pt 0 = t from (congrArg pt h.symm).trans (pt_val t)]
  · refine ⟨L m c (t.val - 1), ?_, fun _ => rfl⟩
    obtain ⟨n, hn⟩ : ∃ n, t.val = n + 1 := ⟨t.val - 1, by omega⟩
    rw [hn, Nat.add_sub_cancel, L, ← hn, pt_val]

/-- The bounds of a row of lane maxima after a point. -/
theorem L_row (c : Dev nD) (s j : ℕ) (hs : s < 16) (hj : j < 9) (r : Fin 256) (b : EReal) :
    (∀ l : Fin 128, L m c (9 * s + j) (ix2 r l) ≤ b) ↔ (if j = 0 then 0 ≤ b else ∀ l : Fin 128, L m c (9 * s + j - 1) (ix2 r l) ≤ b)
      ∧ ∀ q : Fin 768, sz (H m c ⟨s * 256 + r.val, by omega⟩ ⟨j * 768 + q.val, by omega⟩) ≤ b := by
  obtain ⟨t, ht⟩ : ∃ t : Fin cfg0.N, t.val = 9 * s + j := ⟨pt (9 * s + j), Nat.mod_eq_of_lt (by omega)⟩
  obtain ⟨C, hC, hC'⟩ := L_eq m c t
  rw [← ht, hC, maxs_row]
  simp only [pay4_at _ j ((coord1 t).trans (by omega)) hj, gate_at m c t s j hs hj ht, up_at m c t s j hs hj ht]
  refine and_congr_left fun _ => ?_
  by_cases h : j = 0
  · simp only [if_pos h]; exact ⟨fun H => H 0, fun H _ => H⟩
  · simp only [if_neg h]; rw [hC' (by omega)]

/-- The same over all columns so far. -/
theorem L_cols (c : Dev nD) (s : ℕ) (hs : s < 16) (r : Fin 256) (b : EReal) : ∀ j, j < 9 → ((∀ l : Fin 128, L m c (9 * s + j) (ix2 r l) ≤ b) ↔
    0 ≤ b ∧ ∀ k : Fin 6912, k.val < j * 768 + 768 → sz (H m c ⟨s * 256 + r.val, by omega⟩ k) ≤ b)
  | 0, hj => by
    rw [L_row m c s 0 hs hj, if_pos rfl]
    refine and_congr_right fun _ => ⟨fun h k hk => ?_, fun h q => h _ (by dsimp only; omega)⟩
    have := h ⟨k.val, by omega⟩
    rwa [show (⟨0 * 768 + k.val, by omega⟩ : Fin 6912) = k from Fin.ext (by dsimp only; omega)] at this
  | j + 1, hj => by
    rw [L_row m c s (j + 1) hs hj, if_neg (Nat.succ_ne_zero j), show 9 * s + (j + 1) - 1 = 9 * s + j from rfl, L_cols c s hs r b j (by omega)]
    constructor
    · rintro ⟨⟨h0, h1⟩, h2⟩
      refine ⟨h0, fun k hk => ?_⟩
      by_cases hlt : k.val < j * 768 + 768
      · exact h1 k hlt
      · have := h2 ⟨k.val - (j + 1) * 768, by omega⟩
        rwa [show (⟨(j + 1) * 768 + (k.val - (j + 1) * 768), by omega⟩ : Fin 6912) = k from Fin.ext (by dsimp only; omega)] at this
    · exact fun h => ⟨⟨h.1, fun k hk => h.2 k (by omega)⟩, fun q => h.2 _ (by dsimp only; omega)⟩

/-- The greatest lane maximum after a step is the row's greatest size. -/
theorem big_L (c : Dev nD) (s : ℕ) (hs : s < 16) (r : Fin 256) :
    (big fun l : Fin 128 => L m c (9 * s + 8) (ix2 r l)) = big fun k : Fin 6912 => sz (H m c ⟨s * 256 + r.val, by omega⟩ k) := by
  refine eq_of_le_iff fun b => ?_
  rw [big_le, big_le, L_cols m c s hs r b 8 (by decide)]
  generalize H m c ⟨s * 256 + r.val, by omega⟩ = g
  have h0 : 0 ≤ sz (g 0) := by
    rcases le_total 0 (g 0) with h | h
    · exact le_max_of_le_left h
    · exact le_max_of_le_right (by rw [← neg_zero]; exact EReal.neg_le_neg_iff.2 h)
  exact ⟨fun h k => h.2 k (by omega), fun h => ⟨h0.trans (h 0), fun k _ => h k⟩⟩

/-- The factors' blocks after a computing point. -/
theorem fgAt_at (c : Dev nD) (s j n : ℕ) (hs : s < 16) (hj : j < 9) (hn : n = 9 * s + j) (Y : FVec Ideal S256x768 .f32) (r : Fin 256) (q : Fin 768) :
    fgAt m c n Y (ix2 r q) = facG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨s * 256 + r.val, by omega⟩ ⟨j * 768 + q.val, by omega⟩) := by
  subst hn
  have hp : (pt (9 * s + j)).val = 9 * s + j := Nat.mod_eq_of_lt (by omega)
  refine (fgB_at (grid0.coords (pt (9 * s + j))) _ _ _ _ _ _ Y r q).trans ?_
  rw [gate_at m c _ s j hs hj hp, up_at m c _ s j hs hj hp]
  rfl
theorem fuAt_at (c : Dev nD) (s j n : ℕ) (hs : s < 16) (hj : j < 9) (hn : n = 9 * s + j) (Y : FVec Ideal S256x768 .f32) (r : Fin 256) (q : Fin 768) :
    fuAt m c n Y (ix2 r q) = facU (m ((c : Thread nD τ).loc main_arg0)) (m ((c : Thread nD τ).loc main_arg1)) (m ((c : Thread nD τ).loc main_arg2)) (m ((c : Thread nD τ).loc main_arg3)) (ix2 ⟨s * 256 + r.val, by omega⟩ ⟨j * 768 + q.val, by omega⟩) := by
  subst hn
  have hp : (pt (9 * s + j)).val = 9 * s + j := Nat.mod_eq_of_lt (by omega)
  refine (fuB_at (grid0.coords (pt (9 * s + j))) _ _ _ _ _ _ Y r q).trans ?_
  rw [gate_at m c _ s j hs hj hp]
  rfl

/-- The codes' block after a storing point. -/
theorem code_at (c : Dev nD) (s j : ℕ) (hs : s < 16) (hj : j < 9) (M n jj : ℕ) (hM : M = 9 * s + 8) (hn : n = 9 * s + j) (hjj : jj = j) (h) (r : Fin 256) (q : Fin 768) :
    k0_pay6 (F := Ideal) (k0_pay13 (F := Ideal) (L m c M)) 23#32 (window (T m c n) ![0, 768 * jj] S256x768.size h) (ix2 r q)
      = hCode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨s * 256 + r.val, by omega⟩ ⟨j * 768 + q.val, by omega⟩) := by
  subst hM hn hjj
  have hp : (pt (9 * s + jj)).val = 9 * s + jj := Nat.mod_eq_of_lt (by omega)
  rw [pay6_at, pay13_at, inv_bits, big_L m c s hs r]
  refine congr (congrArg code ?_) rfl
  refine Eq.trans (congrArg (T m c (9 * s + jj)) (a₂ := ix2 r ⟨768 * jj + q.val, by omega⟩) (funext fun a => Fin.ext ?_)) ?_
  · match a with
    | 0 => show 0 + 1 * r.val = r.val; omega
    | 1 => show 768 * jj + 1 * q.val = 768 * jj + q.val; omega
  refine (puts_at (grid0.coords (pt (9 * s + jj))) _ _ _ _ _ _ jj ((coord1 _).trans (by omega)) _ r _ q rfl).trans ?_
  rw [gate_at m c _ s jj hs hj hp, up_at m c _ s jj hs hj hp]
  rfl

/-- The scales' block after a storing point. -/
theorem scale_at (c : Dev nD) (s : ℕ) (hs : s < 16) (M : ℕ) (hM : M = 9 * s + 8) (r : Fin 256) :
    k0_pay5 (F := Ideal) (k0_pay12 (F := Ideal) (L m c M)) (ix3 0 0 r) = hScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 ⟨s, hs⟩ 0 r) := by
  subst hM
  refine (pay5_at _ r).trans ((pay12_at _ r 0).trans ?_)
  rw [big_L m c s hs r]
  rfl

/-- The run: the outputs are the two factors, the codes and the scales, the arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = facG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v3_1) = facU (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v3_2) = hCode (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v3_3) = hScale (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine θ_run_mono (θ_run_and (run_main m ρ) (frame m ρ)) fun r hr c => ?_
  obtain ⟨after, hL, hA⟩ := hr.1.1.exists_exact c
  refine ⟨(hA 6).trans ?_, (hA 7).trans ?_, (hA 8).trans ?_, (hA 9).trans ?_, hr.2.1 c⟩
  · refine Dat.arrAt_eq_of_covers _ 6 _ (by decide +kernel) fun t hf y => ?_
    have ht : t.val < 153 := t.isLt
    have hX := (dats m 0 c).toRRel_leaves (fgt := forgets0) (Rl := Rl m c) (w := 6) rfl (hL 6 t hf)
    dsimp only [Rl] at hX
    obtain ⟨Y, hX⟩ := hX
    blk_simp
    rw [Pipeline.RDat.withAfter_after, hX]
    refine (congrArg _ (ix2_eta (n0 := 256) (n1 := 768) y).symm).trans ?_
    refine (fgAt_at m c (min t.val 143 / 9) (min t.val 143 % 9) _ (by omega) (by omega) (by omega) Y (y 0) (y 1)).trans (congrArg (facG _ _ _ _ _ _) (funext fun a => Fin.ext ?_))
    match a with
    | 0 => blk_simp [idxF t]
    | 1 => blk_simp [idxF t]
  · refine Dat.arrAt_eq_of_covers _ 7 _ (by decide +kernel) fun t hf y => ?_
    have ht : t.val < 153 := t.isLt
    have hX := (dats m 0 c).toRRel_leaves (fgt := forgets0) (Rl := Rl m c) (w := 7) rfl (hL 7 t hf)
    dsimp only [Rl] at hX
    obtain ⟨Y, hX⟩ := hX
    blk_simp
    rw [Pipeline.RDat.withAfter_after, hX]
    refine (congrArg _ (ix2_eta (n0 := 256) (n1 := 768) y).symm).trans ?_
    refine (fuAt_at m c (min t.val 143 / 9) (min t.val 143 % 9) _ (by omega) (by omega) (by omega) Y (y 0) (y 1)).trans (congrArg (facU _ _ _ _) (funext fun a => Fin.ext ?_))
    match a with
    | 0 => blk_simp [idxF t]
    | 1 => blk_simp [idxF t]
  · refine Dat.arrAt_eq_of_covers _ 8 _ (by decide +kernel) fun t hf y => ?_
    have h3 : 9 ≤ t.val := (by decide +kernel : ∀ t : Fin cfg0.N, (cfg0.win 8).flush t = true → 9 ≤ t.val) t hf
    have ht : t.val < 153 := t.isLt
    obtain ⟨h, hX⟩ := ((dats m 0 c).toRRel_leaves (fgt := forgets0) (Rl := Rl m c) (w := 8) rfl (hL 8 t hf)) h3
    blk_simp
    rw [Pipeline.RDat.withAfter_after, hX]
    refine (congrArg (k0_pay6 (F := Ideal) _ 23#32 _) (ix2_eta (n0 := 256) (n1 := 768) y).symm).trans ?_
    refine (code_at m c (t.val / 9 - 1) (t.val % 9) (by omega) (by omega) _ _ _ (by omega) (by omega) rfl h (y 0) (y 1)).trans (congrArg (hCode _ _ _ _ _ _) (funext fun a => Fin.ext ?_))
    match a with
    | 0 => blk_simp [idxO t h3]
    | 1 => blk_simp [idxO t h3]
  · refine Dat.arrAt_eq_of_covers _ 9 _ (by decide +kernel) fun t hf y => ?_
    have h3 : 9 ≤ t.val := (by decide +kernel : ∀ t : Fin cfg0.N, (cfg0.win 9).flush t = true → 9 ≤ t.val) t hf
    have ht : t.val < 153 := t.isLt
    have hX := ((dats m 0 c).toRRel_leaves (fgt := forgets0) (Rl := Rl m c) (w := 9) rfl (hL 9 t hf)) h3
    have ey : y = ix3 (n0 := 1) (n1 := 1) (n2 := 256) 0 0 (y 2) := (ix3_eta (n0 := 1) (n1 := 1) (n2 := 256) y).symm.trans
      (congrArg₂ (fun (z w : Fin 1) => ix3 (n0 := 1) (n1 := 1) (n2 := 256) z w (y 2)) (Subsingleton.elim (α := Fin 1) _ _) (Subsingleton.elim (α := Fin 1) _ _))
    blk_simp
    rw [Pipeline.RDat.withAfter_after, hX]
    refine (congrArg (k0_pay5 (F := Ideal) _) ey).trans ?_
    refine (scale_at m c (t.val / 9 - 1) (by omega) _ (by omega) (y 2)).trans (congrArg (hScale _ _ _ _ _ _) (funext fun a => Fin.ext ?_))
    match a with
    | 0 => blk_simp [idxO t h3]
    | 1 => blk_simp [idxO t h3]; rfl
    | 2 => blk_simp [idxO t h3]

end Cert.PrimalIdeal.Val

end
-- ==== Proof.Down.PRef.lean ====
module

public import proofs.«01_k».proof.Proof.Gen.RefPIdeal.Frame
public import proofs.«01_k».proof.Proof.Down.MathP
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RefPIdeal.Val
open Cert.RefPIdeal Cert.RefPIdeal.Gen Cert.Down.Math

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0, 0] :=
  (by decide +kernel : ∀ t : Fin grid0.N, _)

/-- A product, scaled. -/
def prod (X0 : FVec Ideal S4096x2560 .fp8e4m3) (w : FVec Ideal S2560x6912 .fp8e4m3) (s : FVec Ideal S4096x1 .f32) (ws : FVec Ideal S1x6912 .f32)
    (n : Fin 4096) (k : Fin 6912) : EReal := (∑ x : Fin 2560, X0 (ix2 n x) * w (ix2 x k)) * s (ix2 n 0) * ws (ix2 0 k)

section
variable (X0 : FVec Ideal S4096x2560 .fp8e4m3) (X1 : FVec Ideal S4096x1 .f32) (X2 : FVec Ideal S2560x6912 .fp8e4m3) (X3 : FVec Ideal S1x6912 .f32)
  (X4 : FVec Ideal S2560x6912 .fp8e4m3) (X5 : FVec Ideal S1x6912 .f32)

theorem pay4_at (n : Fin 4096) (k : Fin 6912) : k0_pay4 (F := Ideal) X0 X2 X1 X3 (ix2 n k) = prod X0 X2 X1 X3 n k := by
  unfold k0_pay4
  pointwise [prod]

theorem pay5_at (n : Fin 4096) (k : Fin 6912) : k0_pay5 (F := Ideal) X0 X4 X1 X5 (ix2 n k) = prod X0 X4 X1 X5 n k := pay4_at X0 X1 X4 X5 n k

/-- The factors and the hidden activation, from the two products. -/
theorem pay7_at (n : Fin 4096) (k : Fin 6912) : k0_pay7 (F := Ideal) X0 X2 X1 X3 (ix2 n k) = fuOf (prod X0 X2 X1 X3 n k) := by
  rw [← pay4_at X0 X1 X2 X3 n k]
  unfold k0_pay7 k0_pay6 fuOf
  generalize k0_pay4 (F := Ideal) X0 X2 X1 X3 = g
  pointwise

theorem pay8_at (n : Fin 4096) (k : Fin 6912) : k0_pay8 (F := Ideal) X0 X2 X1 X3 X0 X4 X1 X5 (ix2 n k)
    = hOf (prod X0 X2 X1 X3 n k) (prod X0 X4 X1 X5 n k) := by
  rw [← pay4_at X0 X1 X2 X3 n k, ← pay5_at X0 X1 X4 X5 n k]
  unfold k0_pay8 k0_pay7 k0_pay6 hOf
  generalize k0_pay4 (F := Ideal) X0 X2 X1 X3 = g
  generalize k0_pay5 (F := Ideal) X0 X4 X1 X5 = u
  pointwise

theorem pay9_at (n : Fin 4096) (k : Fin 6912) : k0_pay9 (F := Ideal) X0 X2 X1 X3 X0 X4 X1 X5 (ix2 n k)
    = fgOf (prod X0 X2 X1 X3 n k) (prod X0 X4 X1 X5 n k) := by
  rw [← pay4_at X0 X1 X2 X3 n k, ← pay5_at X0 X1 X4 X5 n k]
  unfold k0_pay9 k0_pay6 fgOf
  generalize k0_pay4 (F := Ideal) X0 X2 X1 X3 = g
  generalize k0_pay5 (F := Ideal) X0 X4 X1 X5 = u
  pointwise
end

/-- The greatest size of a row. -/
theorem red_at (v : FVec Ideal S4096x6912 .f32) (n : Fin 4096) :
    multiReduction (F := Ideal) .maximumf [1] S4096 (absf v) 0xFF800000#32 reduces_S4096x6912_S4096 (.inl rfl) rfl (ix1 n)
      = big fun x : Fin 6912 => sz (v (ix2 n x)) := by
  pointwise
  rfl

/-- The scale's exponent of a row, its codes and its scale. -/
theorem pay1_at (v : FVec Ideal S4096x6912 .f32) (n : Fin 4096) : k0_pay1 (F := Ideal) v (ix1 n) = ex (big fun x : Fin 6912 => sz (v (ix2 n x))) :=
  (expo_at _ (ix1 n)).trans (congrArg ex (red_at v n))

theorem pay2_at (v : FVec Ideal S4096x6912 .f32) (n : Fin 4096) (k : Fin 6912) :
    k0_pay2 (F := Ideal) v (ix2 n k) = rowCode (fun n k => v (ix2 n k)) n k := by
  unfold rowCode Cert.Down.Math.inv
  rw [← pay1_at v n]
  unfold k0_pay2 code
  generalize k0_pay1 (F := Ideal) v = e
  pointwise
  rfl

theorem pay3_at (v : FVec Ideal S4096x6912 .f32) (y : S16x1x256.Idx) : k0_pay3 (F := Ideal) v y
      = rowScale (fun n k => v (ix2 n k)) ⟨(y 0).val * 256 + (y 2).val, by
        have h0 : (y 0).val < 16 := (y 0).isLt
        have h2 : (y 2).val < 256 := (y 2).isLt
        omega⟩ := by
  unfold rowScale scl
  rw [← pay1_at v _]
  unfold k0_pay3
  generalize k0_pay1 (F := Ideal) v = e
  pointwise
  rfl

/-- The blocks are the arguments. -/
theorem blk0 (c : Dev nD) (t : Fin cfg0.N) (n : Fin 4096) (k : Fin 2560) :
    iblk m c 0 t (ix2 n k) = m ((c : Thread nD τ).loc main_arg0) (ix2 n k) := by blk_point [iblk, V, idx t]
theorem blk1 (c : Dev nD) (t : Fin cfg0.N) (n : Fin 4096) :
    iblk m c 1 t (ix2 n 0) = m ((c : Thread nD τ).loc main_arg1) (ix1 n) := by blk_point [iblk, V, idx t]
theorem blk2 (c : Dev nD) (t : Fin cfg0.N) (k : Fin 2560) (d : Fin 6912) :
    iblk m c 2 t (ix2 k d) = m ((c : Thread nD τ).loc main_arg2) (ix2 k d) := by blk_point [iblk, V, idx t]
theorem blk3 (c : Dev nD) (t : Fin cfg0.N) (k : Fin 6912) :
    iblk m c 3 t (ix2 0 k) = m ((c : Thread nD τ).loc main_arg3) (ix1 k) := by blk_point [iblk, V, idx t]
theorem blk4 (c : Dev nD) (t : Fin cfg0.N) (k : Fin 2560) (d : Fin 6912) :
    iblk m c 4 t (ix2 k d) = m ((c : Thread nD τ).loc main_arg4) (ix2 k d) := by blk_point [iblk, V, idx t]
theorem blk5 (c : Dev nD) (t : Fin cfg0.N) (k : Fin 6912) :
    iblk m c 5 t (ix2 0 k) = m ((c : Thread nD τ).loc main_arg5) (ix1 k) := by blk_point [iblk, V, idx t]

/-- The two products over the arguments. -/
theorem gate_at (c : Dev nD) (t : Fin cfg0.N) (n : Fin 4096) (k : Fin 6912) : prod (iblk m c 0 t) (iblk m c 2 t) (iblk m c 1 t) (iblk m c 3 t) n k
    = lin (m ((c : Thread nD τ).loc main_arg0)) (m ((c : Thread nD τ).loc main_arg1)) (m ((c : Thread nD τ).loc main_arg2)) (m ((c : Thread nD τ).loc main_arg3)) n k := by
  unfold prod lin
  rw [blk1, blk3, Finset.sum_congr rfl fun x _ => congr (congrArg _ (blk0 m c t n x)) (blk2 m c t x k)]
theorem up_at (c : Dev nD) (t : Fin cfg0.N) (n : Fin 4096) (k : Fin 6912) : prod (iblk m c 0 t) (iblk m c 4 t) (iblk m c 1 t) (iblk m c 5 t) n k
    = lin (m ((c : Thread nD τ).loc main_arg0)) (m ((c : Thread nD τ).loc main_arg1)) (m ((c : Thread nD τ).loc main_arg4)) (m ((c : Thread nD τ).loc main_arg5)) n k := by
  unfold prod lin
  rw [blk1, blk5, Finset.sum_congr rfl fun x _ => congr (congrArg _ (blk0 m c t n x)) (blk4 m c t x k)]

/-- The hidden activations over the arguments. -/
theorem hid_at (c : Dev nD) (t : Fin cfg0.N) :
    (fun n k => k0_pay8 (F := Ideal) (iblk m c 0 t) (iblk m c 2 t) (iblk m c 1 t) (iblk m c 3 t) (iblk m c 0 t) (iblk m c 4 t) (iblk m c 1 t) (iblk m c 5 t) (ix2 (n0 := 4096) (n1 := 6912) n k))
      = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext n k
  refine (pay8_at _ _ _ _ _ _ n k).trans ?_
  rw [gate_at, up_at]
  rfl

/-- What the reference stores. -/
theorem out6_at (c : Dev nD) (t : Fin cfg0.N) (n : Fin 4096) (k : Fin 6912) :
    out0_6 (iblk m c 0 t) (iblk m c 1 t) (iblk m c 2 t) (iblk m c 3 t) (iblk m c 4 t) (iblk m c 5 t) (ix2 n k) = facG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n k) := by
  unfold out0_6
  frame_out
  refine (pay9_at _ _ _ _ _ _ n k).trans ?_
  rw [gate_at, up_at]
  rfl
theorem out7_at (c : Dev nD) (t : Fin cfg0.N) (n : Fin 4096) (k : Fin 6912) :
    out0_7 (iblk m c 0 t) (iblk m c 1 t) (iblk m c 2 t) (iblk m c 3 t) (iblk m c 4 t) (iblk m c 5 t) (ix2 n k) = facU (m ((c : Thread nD τ).loc main_arg0)) (m ((c : Thread nD τ).loc main_arg1)) (m ((c : Thread nD τ).loc main_arg2)) (m ((c : Thread nD τ).loc main_arg3)) (ix2 n k) := by
  unfold out0_7
  frame_out
  refine (pay7_at _ _ _ _ n k).trans ?_
  rw [gate_at]
  rfl
theorem out8_at (c : Dev nD) (t : Fin cfg0.N) (n : Fin 4096) (k : Fin 6912) :
    out0_8 (iblk m c 0 t) (iblk m c 1 t) (iblk m c 2 t) (iblk m c 3 t) (iblk m c 4 t) (iblk m c 5 t) (ix2 n k) = hCode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n k) := by
  unfold_out out0_8
  frame_out
  refine (pay2_at _ n k).trans ?_
  exact congrArg (fun v => rowCode v n k) (hid_at m c t)
theorem out9_at (c : Dev nD) (t : Fin cfg0.N) (y : S16x1x256.Idx) :
    out0_9 (iblk m c 0 t) (iblk m c 1 t) (iblk m c 2 t) (iblk m c 3 t) (iblk m c 4 t) (iblk m c 5 t) y = hScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) y := by
  unfold_out out0_9
  frame_out
  refine (pay3_at _ y).trans ?_
  exact congrArg (fun v => rowScale v _) (hid_at m c t)

/-- The reference gives `facG`. -/
theorem final6 (c : Dev nD) : (dats m 0 c).arrAt 6 (cfgs 0).N = facG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  have e : ((View.whole main_v3_0).slice (win0_6.rect t)).emb y = y := funext fun a => Fin.ext (by
    match a with
    | 0 => blk_simp [idx t]
    | 1 => blk_simp [idx t])
  blk_simp
  rw [after0_6]
  refine (congrArg (out0_6 _ _ _ _ _ _) (ix2_eta (n0 := 4096) (n1 := 6912) y).symm).trans ?_
  exact (out6_at m c t (y 0) (y 1)).trans (congrArg (facG _ _ _ _ _ _) ((ix2_eta (n0 := 4096) (n1 := 6912) y).trans e.symm))

/-- The reference gives `facU`. -/
theorem final7 (c : Dev nD) : (dats m 0 c).arrAt 7 (cfgs 0).N = facU (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  have e : ((View.whole main_v3_1).slice (win0_7.rect t)).emb y = y := funext fun a => Fin.ext (by
    match a with
    | 0 => blk_simp [idx t]
    | 1 => blk_simp [idx t])
  blk_simp
  rw [after0_7]
  refine (congrArg (out0_7 _ _ _ _ _ _) (ix2_eta (n0 := 4096) (n1 := 6912) y).symm).trans ?_
  exact (out7_at m c t (y 0) (y 1)).trans (congrArg (facU _ _ _ _) ((ix2_eta (n0 := 4096) (n1 := 6912) y).trans e.symm))

/-- The reference gives `hCode`. -/
theorem final8 (c : Dev nD) : (dats m 0 c).arrAt 8 (cfgs 0).N = hCode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  have e : ((View.whole main_v3_2).slice (win0_8.rect t)).emb y = y := funext fun a => Fin.ext (by
    match a with
    | 0 => blk_simp [idx t]
    | 1 => blk_simp [idx t])
  blk_simp
  rw [after0_8]
  refine (congrArg (out0_8 _ _ _ _ _ _) (ix2_eta (n0 := 4096) (n1 := 6912) y).symm).trans ?_
  exact (out8_at m c t (y 0) (y 1)).trans (congrArg (hCode _ _ _ _ _ _) ((ix2_eta (n0 := 4096) (n1 := 6912) y).trans e.symm))

/-- The reference gives `hScale`. -/
theorem final9 (c : Dev nD) : (dats m 0 c).arrAt 9 (cfgs 0).N = hScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  have e : ((View.whole main_v3_3).slice (win0_9.rect t)).emb y = y := funext fun a => Fin.ext (by
    match a with
    | 0 => blk_simp [idx t]
    | 1 => blk_simp [idx t]
    | 2 => blk_simp [idx t])
  blk_simp
  rw [after0_9]
  exact (out9_at m c t y).trans (congrArg (hScale _ _ _ _ _ _) e.symm)

end Cert.RefPIdeal.Val

end
-- ==== Proof.lean ====
module

public import proofs.«01_k».proof.Defs
public import proofs.«01_k».proof.Proof.Gen.DownY
public import proofs.«01_k».proof.Proof.Gen.DownYIdeal
public import proofs.«01_k».proof.Proof.Gen.RefYIdeal
public import proofs.«01_k».proof.Proof.Gen.DownT
public import proofs.«01_k».proof.Proof.Gen.DownTIdeal
public import proofs.«01_k».proof.Proof.Gen.RefTIdeal
public import proofs.«01_k».proof.Proof.Gen.DownV
public import proofs.«01_k».proof.Proof.Gen.DownVIdeal
public import proofs.«01_k».proof.Proof.Gen.RefVIdeal
public import proofs.«01_k».proof.Proof.Gen.Tangent
public import proofs.«01_k».proof.Proof.Gen.TangentIdeal
public import proofs.«01_k».proof.Proof.Gen.RefGIdeal
public import proofs.«01_k».proof.Proof.Gen.QuantX
public import proofs.«01_k».proof.Proof.Gen.QuantXIdeal
public import proofs.«01_k».proof.Proof.Gen.RefXIdeal
public import proofs.«01_k».proof.Proof.Gen.Primal
public import proofs.«01_k».proof.Proof.Gen.PrimalIdeal
public import proofs.«01_k».proof.Proof.Gen.RefPIdeal
public import proofs.«01_k».proof.Proof.Gen.Trace
public import proofs.«01_k».proof.Proof.Gen.TraceIdeal
public import proofs.«01_k».proof.Proof.Gen.RefTraceIdeal
public import proofs.«01_k».proof.Proof.Gen.DownY.Frame
public import proofs.«01_k».proof.Proof.Gen.DownYIdeal.Frame
public import proofs.«01_k».proof.Proof.Gen.RefYIdeal.Frame
public import proofs.«01_k».proof.Proof.Gen.DownT.Frame
public import proofs.«01_k».proof.Proof.Gen.DownTIdeal.Frame
public import proofs.«01_k».proof.Proof.Gen.RefTIdeal.Frame
public import proofs.«01_k».proof.Proof.Gen.DownV.Frame
public import proofs.«01_k».proof.Proof.Gen.DownVIdeal.Frame
public import proofs.«01_k».proof.Proof.Gen.RefVIdeal.Frame
public import proofs.«01_k».proof.Proof.Gen.Tangent.Frame
public import proofs.«01_k».proof.Proof.Gen.TangentIdeal.Frame
public import proofs.«01_k».proof.Proof.Gen.RefGIdeal.Frame
public import proofs.«01_k».proof.Proof.Gen.QuantX.Frame
public import proofs.«01_k».proof.Proof.Gen.QuantXIdeal.Frame
public import proofs.«01_k».proof.Proof.Gen.RefXIdeal.Frame
public import proofs.«01_k».proof.Proof.Gen.Primal.Frame
public import proofs.«01_k».proof.Proof.Gen.PrimalIdeal.Frame
public import proofs.«01_k».proof.Proof.Gen.RefPIdeal.Frame
public import proofs.«01_k».proof.Proof.Gen.Trace.Frame
public import proofs.«01_k».proof.Proof.Gen.TraceIdeal.Frame
public import proofs.«01_k».proof.Proof.Gen.RefTraceIdeal.Run
public import proofs.«01_k».proof.Proof.Down.YVal
public import proofs.«01_k».proof.Proof.Down.YRef
public import proofs.«01_k».proof.Proof.Down.TVal
public import proofs.«01_k».proof.Proof.Down.TRef
public import proofs.«01_k».proof.Proof.Down.TraceVal
public import proofs.«01_k».proof.Proof.Down.VFrame
public import proofs.«01_k».proof.Proof.Down.VVal
public import proofs.«01_k».proof.Proof.Down.VRef
public import proofs.«01_k».proof.Proof.Down.GFrame
public import proofs.«01_k».proof.Proof.Down.GVal
public import proofs.«01_k».proof.Proof.Down.GRef
public import proofs.«01_k».proof.Proof.Down.XVal
public import proofs.«01_k».proof.Proof.Down.XRef
public import proofs.«01_k».proof.Proof.Down.PFrame
public import proofs.«01_k».proof.Proof.Down.PVal
public import proofs.«01_k».proof.Proof.Down.PRef
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The down projection: kernel and reference leave the same array. -/
theorem down_y : algebraic_DownYIdeal_RefYIdeal := by
  pair_intro
  · run_from Cert.DownYIdeal.Gen.run_main m g
  · run_from Cert.RefYIdeal.Gen.run_main m' g'
    rw [Cert.DownYIdeal.Val.final m c, Cert.RefYIdeal.Val.final m' c, (hagree c).1, (hagree c).2.1, (hagree c).2.2.1, (hagree c).2.2.2]

/-- The down projection of the tangents: the same two arrays. -/
theorem down_t : algebraic_DownTIdeal_RefTIdeal := by
  pair_intro
  · run_from Cert.DownTIdeal.Gen.run_main m g
  · run_from Cert.RefTIdeal.Gen.run_main m' g'
    · rw [Cert.DownTIdeal.Val.final4 m c, Cert.RefTIdeal.Val.final4 m' c, (hagree c).1, (hagree c).2.1, (hagree c).2.2.1, (hagree c).2.2.2]
    · rw [Cert.DownTIdeal.Val.final5 m c, Cert.RefTIdeal.Val.final5 m' c, (hagree c).1, (hagree c).2.1, (hagree c).2.2.1, (hagree c).2.2.2]

/-- The derivative of the down projection along the probes of its weight: the same two arrays. -/
theorem down_v : algebraic_DownVIdeal_RefVIdeal := by
  pair_intro
  · run_from Cert.DownVIdeal.Val.run m g
  · run_from Cert.RefVIdeal.Gen.run_main m' g'
    · rw [Cert.RefVIdeal.Val.final3 m' c, (hagree c).1, (hagree c).2.1, (hagree c).2.2]
    · rw [Cert.RefVIdeal.Val.final4 m' c, (hagree c).1, (hagree c).2.1, (hagree c).2.2]

/-- The tangents of the gate and up products, quantized: the same codes and the same scales. -/
theorem tangent : algebraic_TangentIdeal_RefGIdeal := by
  pair_intro
  · run_from Cert.TangentIdeal.Val.run m g
  · run_from Cert.RefGIdeal.Gen.run_main m' g'
    · rw [Cert.RefGIdeal.Val.final4 m' c, (hagree c).1, (hagree c).2.1, (hagree c).2.2.1, (hagree c).2.2.2]
    · rw [Cert.RefGIdeal.Val.final5 m' c, (hagree c).1, (hagree c).2.1, (hagree c).2.2.1, (hagree c).2.2.2]

/-- The activations, quantized: the same codes, as fp8 and as bf16, and the same scales. -/
theorem quant_x : algebraic_QuantXIdeal_RefXIdeal := by
  pair_intro
  · run_from Cert.QuantXIdeal.Gen.run_main m g
  · run_from Cert.RefXIdeal.Gen.run_main m' g'
    · rw [Cert.QuantXIdeal.Val.final1 m c, Cert.RefXIdeal.Val.final1 m' c, hagree c]
    · rw [Cert.QuantXIdeal.Val.final2 m c, Cert.RefXIdeal.Val.final2 m' c, hagree c]
    · rw [Cert.QuantXIdeal.Val.final3 m c, Cert.RefXIdeal.Val.final3 m' c, hagree c]

/-- The gate and up products: the same two factors, the same codes and the same scales. -/
theorem primal : algebraic_PrimalIdeal_RefPIdeal := by
  pair_intro
  · run_from Cert.PrimalIdeal.Val.run m g
  · run_from Cert.RefPIdeal.Gen.run_main m' g'
    · rw [Cert.RefPIdeal.Val.final6 m' c, (hagree c).1, (hagree c).2.1, (hagree c).2.2.1, (hagree c).2.2.2.1, (hagree c).2.2.2.2.1, (hagree c).2.2.2.2.2]
    · rw [Cert.RefPIdeal.Val.final7 m' c, (hagree c).1, (hagree c).2.1, (hagree c).2.2.1, (hagree c).2.2.2.1]
    · rw [Cert.RefPIdeal.Val.final8 m' c, (hagree c).1, (hagree c).2.1, (hagree c).2.2.1, (hagree c).2.2.2.1, (hagree c).2.2.2.2.1, (hagree c).2.2.2.2.2]
    · rw [Cert.RefPIdeal.Val.final9 m' c, (hagree c).1, (hagree c).2.1, (hagree c).2.2.1, (hagree c).2.2.2.1, (hagree c).2.2.2.2.1, (hagree c).2.2.2.2.2]

/-- The mean over probes and tokens. -/
theorem trace : algebraic_TraceIdeal_RefTraceIdeal := by
  pair_intro
  · run_from Cert.TraceIdeal.Gen.run_main m g
  · run_from Cert.RefTraceIdeal.Val.run m' g'
    exact (Cert.TraceIdeal.Val.final m c).symm

/-- The host's mean leaves its arguments unchanged. -/
theorem ref_trace_frame : quiescent_RefTraceIdeal := by
  intro m g _
  exact (θ_run Cert.RefTraceIdeal.defs _ _).mono (fun r h => ⟨fun c => (h c).2, sem_eq_zero_of_no_sems (by decide) r.2⟩)
    (Cert.RefTraceIdeal.Val.run m g)

theorem claim : Cert.Claim := ⟨Cert.DownY.Gen.facts, Cert.DownYIdeal.Gen.facts, Cert.RefYIdeal.Gen.facts, Cert.DownT.Gen.facts, Cert.DownTIdeal.Gen.facts, Cert.RefTIdeal.Gen.facts, Cert.DownV.Gen.facts, Cert.DownVIdeal.Gen.facts, Cert.RefVIdeal.Gen.facts, Cert.Tangent.Gen.facts, Cert.TangentIdeal.Gen.facts, Cert.RefGIdeal.Gen.facts, Cert.QuantX.Gen.facts, Cert.QuantXIdeal.Gen.facts, Cert.RefXIdeal.Gen.facts, Cert.Primal.Gen.facts, Cert.PrimalIdeal.Gen.facts, Cert.RefPIdeal.Gen.facts, Cert.Trace.Gen.facts, Cert.TraceIdeal.Gen.facts, Cert.RefTraceIdeal.Gen.facts,
  fun m ρ _ => Cert.DownY.Gen.frame m ρ,
  fun m ρ _ => Cert.DownYIdeal.Gen.frame m ρ,
  fun m ρ _ => Cert.RefYIdeal.Gen.frame m ρ,
  fun m ρ _ => Cert.DownT.Gen.frame m ρ,
  fun m ρ _ => Cert.DownTIdeal.Gen.frame m ρ,
  fun m ρ _ => Cert.RefTIdeal.Gen.frame m ρ,
  fun m ρ _ => Cert.DownV.Hand.frame m ρ,
  fun m ρ _ => Cert.DownVIdeal.Hand.frame m ρ,
  fun m ρ _ => Cert.RefVIdeal.Gen.frame m ρ,
  fun m ρ _ => Cert.Tangent.Hand.frame m ρ,
  fun m ρ _ => Cert.TangentIdeal.Hand.frame m ρ,
  fun m ρ _ => Cert.RefGIdeal.Gen.frame m ρ,
  fun m ρ _ => Cert.QuantX.Gen.frame m ρ,
  fun m ρ _ => Cert.QuantXIdeal.Gen.frame m ρ,
  fun m ρ _ => Cert.RefXIdeal.Gen.frame m ρ,
  fun m ρ _ => Cert.Primal.Hand.frame m ρ,
  fun m ρ _ => Cert.PrimalIdeal.Hand.frame m ρ,
  fun m ρ _ => Cert.RefPIdeal.Gen.frame m ρ,
  fun m ρ _ => Cert.Trace.Gen.frame m ρ,
  fun m ρ _ => Cert.TraceIdeal.Gen.frame m ρ,
  ref_trace_frame,
  trivial, down_y, trivial, down_t, trivial, down_v, trivial, tangent, trivial, quant_x, trivial, primal, trivial, trace⟩

end Cert.Proof

end
